-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8x6144 : Shape := ⟨2, ![8, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S8x6x1x1024 : Shape := ⟨4, ![8, 6, 1, 1024]⟩
abbrev S6x8x1x1024 : Shape := ⟨4, ![6, 8, 1, 1024]⟩
abbrev S_ : Shape := ⟨0, ![]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1024x2560 : Shape := ⟨2, ![1024, 2560]⟩
abbrev S4x512 : Shape := ⟨2, ![4, 512]⟩
abbrev S512 : Shape := ⟨1, ![512]⟩
abbrev S8x64x64 : Shape := ⟨3, ![8, 64, 64]⟩
abbrev S256x512 : Shape := ⟨2, ![256, 512]⟩
abbrev S1x256x512 : Shape := ⟨3, ![1, 256, 512]⟩
abbrev S2x256x512 : Shape := ⟨3, ![2, 256, 512]⟩
abbrev S3x512 : Shape := ⟨2, ![3, 512]⟩
abbrev S1024x1024 : Shape := ⟨2, ![1024, 1024]⟩
abbrev S1024x4096 : Shape := ⟨2, ![1024, 4096]⟩
abbrev S4096x1024 : Shape := ⟨2, ![4096, 1024]⟩
abbrev S8x64x1024 : Shape := ⟨3, ![8, 64, 1024]⟩
abbrev S8x8x512 : Shape := ⟨3, ![8, 8, 512]⟩
abbrev S8x512 : Shape := ⟨2, ![8, 512]⟩
abbrev S4x576x128 : Shape := ⟨3, ![4, 576, 128]⟩
abbrev S512x1024 : Shape := ⟨2, ![512, 1024]⟩
abbrev S512x4096 : Shape := ⟨2, ![512, 4096]⟩
abbrev S512x512 : Shape := ⟨2, ![512, 512]⟩
abbrev S1x8x1x1024 : Shape := ⟨4, ![1, 8, 1, 1024]⟩
abbrev S8x1x1024 : Shape := ⟨3, ![8, 1, 1024]⟩
abbrev S4096x256 : Shape := ⟨2, ![4096, 256]⟩
abbrev S512x256 : Shape := ⟨2, ![512, 256]⟩
abbrev S8x64 : Shape := ⟨2, ![8, 64]⟩
abbrev S8x64x1 : Shape := ⟨3, ![8, 64, 1]⟩
abbrev S1x1x1024 : Shape := ⟨3, ![1, 1, 1024]⟩
abbrev S1024x512 : Shape := ⟨2, ![1024, 512]⟩
abbrev S8x64x512 : Shape := ⟨3, ![8, 64, 512]⟩
abbrev S1x1x512 : Shape := ⟨3, ![1, 1, 512]⟩
abbrev S1x8x1 : Shape := ⟨3, ![1, 8, 1]⟩
abbrev S8x56x512 : Shape := ⟨3, ![8, 56, 512]⟩
abbrev S1x64x128 : Shape := ⟨3, ![1, 64, 128]⟩
abbrev S64x128 : Shape := ⟨2, ![64, 128]⟩
abbrev S8x128 : Shape := ⟨2, ![8, 128]⟩
abbrev S1x8x128 : Shape := ⟨3, ![1, 8, 128]⟩
abbrev S64x512 : Shape := ⟨2, ![64, 512]⟩
abbrev S1x64x512 : Shape := ⟨3, ![1, 64, 512]⟩

abbrev nBuf : Space → Nat
  | .hbm => 128
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x2560, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S1x3x512, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S1x1024, .f32⟩
  | .hbm, ⟨16, _⟩ => ⟨S1x1024x4096, .f32⟩
  | .hbm, ⟨17, _⟩ => ⟨S1x4096x1024, .f32⟩
  | .hbm, ⟨18, _⟩ => ⟨S1024, .f32⟩
  | .hbm, ⟨19, _⟩ => ⟨S8x6x1x1024, .f32⟩
  | .hbm, ⟨20, _⟩ => ⟨S6x8x1x1024, .f32⟩
  | .hbm, ⟨21, _⟩ => ⟨S_, .bf16⟩
  | .hbm, ⟨22, _⟩ => ⟨S4x64x64, .bf16⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .bf16⟩
  | .hbm, ⟨30, _⟩ => ⟨S4x1x4x1, .bf16⟩
  | .hbm, ⟨31, _⟩ => ⟨S4x64x1x64, .bf16⟩
  | .hbm, ⟨32, _⟩ => ⟨S4x64x4x64, .bf16⟩
  | .hbm, ⟨33, _⟩ => ⟨S4x64x4x64, .bf16⟩
  | .hbm, ⟨34, _⟩ => ⟨S4x64x4x64, .bf16⟩
  | .hbm, ⟨35, _⟩ => ⟨S256x256, .bf16⟩
  | .hbm, ⟨36, _⟩ => ⟨S1024, .f32⟩
  | .hbm, ⟨37, _⟩ => ⟨S1x1024, .f32⟩
  | .hbm, ⟨38, _⟩ => ⟨S1024x2560, .f32⟩
  | .hbm, ⟨39, _⟩ => ⟨S1024x2560, .bf16⟩
  | .hbm, ⟨40, _⟩ => ⟨S4x512, .f32⟩
  | .hbm, ⟨41, _⟩ => ⟨S512, .f32⟩
  | .hbm, ⟨42, _⟩ => ⟨S1x512, .f32⟩
  | .hbm, ⟨43, _⟩ => ⟨S8x64x64, .f32⟩
  | .hbm, ⟨44, _⟩ => ⟨S8x64x64, .f32⟩
  | .hbm, ⟨45, _⟩ => ⟨S4x64x64, .f32⟩
  | .hbm, ⟨46, _⟩ => ⟨S4x4, .i32⟩
  | .hbm, ⟨47, _⟩ => ⟨S4x4, .i32⟩
  | .hbm, ⟨48, _⟩ => ⟨S_, .i32⟩
  | .hbm, ⟨49, _⟩ => ⟨S4x4, .i32⟩
  | .hbm, ⟨50, _⟩ => ⟨S4x4, .i32⟩
  | .hbm, ⟨51, _⟩ => ⟨S4x4, .i1⟩
  | .hbm, ⟨52, _⟩ => ⟨S4x4, .f32⟩
  | .hbm, ⟨53, _⟩ => ⟨S4x1x4x1, .f32⟩
  | .hbm, ⟨54, _⟩ => ⟨S4x64x1x64, .f32⟩
  | .hbm, ⟨55, _⟩ => ⟨S4x64x4x64, .f32⟩
  | .hbm, ⟨56, _⟩ => ⟨S4x64x4x64, .f32⟩
  | .hbm, ⟨57, _⟩ => ⟨S4x64x4x64, .f32⟩
  | .hbm, ⟨58, _⟩ => ⟨S256x256, .f32⟩
  | .hbm, ⟨59, _⟩ => ⟨S4x64x64, .f32⟩
  | .hbm, ⟨60, _⟩ => ⟨S4x4, .i32⟩
  | .hbm, ⟨61, _⟩ => ⟨S4x4, .i32⟩
  | .hbm, ⟨62, _⟩ => ⟨S_, .i32⟩
  | .hbm, ⟨63, _⟩ => ⟨S4x4, .i32⟩
  | .hbm, ⟨64, _⟩ => ⟨S4x4, .i32⟩
  | .hbm, ⟨65, _⟩ => ⟨S4x4, .i1⟩
  | .hbm, ⟨66, _⟩ => ⟨S4x4, .f32⟩
  | .hbm, ⟨67, _⟩ => ⟨S4x1x4x1, .f32⟩
  | .hbm, ⟨68, _⟩ => ⟨S4x64x1x64, .f32⟩
  | .hbm, ⟨69, _⟩ => ⟨S4x64x4x64, .f32⟩
  | .hbm, ⟨70, _⟩ => ⟨S4x64x4x64, .f32⟩
  | .hbm, ⟨71, _⟩ => ⟨S4x64x4x64, .f32⟩
  | .hbm, ⟨72, _⟩ => ⟨S256x256, .f32⟩
  | .hbm, ⟨73, _⟩ => ⟨S256x512, .f32⟩
  | .hbm, ⟨74, _⟩ => ⟨S4x64x64, .f32⟩
  | .hbm, ⟨75, _⟩ => ⟨S4x4, .i32⟩
  | .hbm, ⟨76, _⟩ => ⟨S4x4, .i32⟩
  | .hbm, ⟨77, _⟩ => ⟨S_, .i32⟩
  | .hbm, ⟨78, _⟩ => ⟨S4x4, .i32⟩
  | .hbm, ⟨79, _⟩ => ⟨S4x4, .i32⟩
  | .hbm, ⟨80, _⟩ => ⟨S4x4, .i1⟩
  | .hbm, ⟨81, _⟩ => ⟨S4x4, .f32⟩
  | .hbm, ⟨82, _⟩ => ⟨S4x1x4x1, .f32⟩
  | .hbm, ⟨83, _⟩ => ⟨S4x64x1x64, .f32⟩
  | .hbm, ⟨84, _⟩ => ⟨S4x64x4x64, .f32⟩
  | .hbm, ⟨85, _⟩ => ⟨S4x64x4x64, .f32⟩
  | .hbm, ⟨86, _⟩ => ⟨S4x64x4x64, .f32⟩
  | .hbm, ⟨87, _⟩ => ⟨S256x256, .f32⟩
  | .hbm, ⟨88, _⟩ => ⟨S4x64x64, .f32⟩
  | .hbm, ⟨89, _⟩ => ⟨S4x4, .i32⟩
  | .hbm, ⟨90, _⟩ => ⟨S4x4, .i32⟩
  | .hbm, ⟨91, _⟩ => ⟨S_, .i32⟩
  | .hbm, ⟨92, _⟩ => ⟨S4x4, .i32⟩
  | .hbm, ⟨93, _⟩ => ⟨S4x4, .i32⟩
  | .hbm, ⟨94, _⟩ => ⟨S4x4, .i1⟩
  | .hbm, ⟨95, _⟩ => ⟨S4x4, .f32⟩
  | .hbm, ⟨96, _⟩ => ⟨S4x1x4x1, .f32⟩
  | .hbm, ⟨97, _⟩ => ⟨S4x64x1x64, .f32⟩
  | .hbm, ⟨98, _⟩ => ⟨S4x64x4x64, .f32⟩
  | .hbm, ⟨99, _⟩ => ⟨S4x64x4x64, .f32⟩
  | .hbm, ⟨100, _⟩ => ⟨S4x64x4x64, .f32⟩
  | .hbm, ⟨101, _⟩ => ⟨S256x256, .f32⟩
  | .hbm, ⟨102, _⟩ => ⟨S256x512, .f32⟩
  | .hbm, ⟨103, _⟩ => ⟨S1x256x512, .f32⟩
  | .hbm, ⟨104, _⟩ => ⟨S1x256x512, .f32⟩
  | .hbm, ⟨105, _⟩ => ⟨S2x256x512, .f32⟩
  | .hbm, ⟨106, _⟩ => ⟨S2x256x512, .bf16⟩
  | .hbm, ⟨107, _⟩ => ⟨S512, .f32⟩
  | .hbm, ⟨108, _⟩ => ⟨S1x512, .f32⟩
  | .hbm, ⟨109, _⟩ => ⟨S512, .f32⟩
  | .hbm, ⟨110, _⟩ => ⟨S1x512, .f32⟩
  | .hbm, ⟨111, _⟩ => ⟨S512, .f32⟩
  | .hbm, ⟨112, _⟩ => ⟨S1x512, .f32⟩
  | .hbm, ⟨113, _⟩ => ⟨S3x512, .f32⟩
  | .hbm, ⟨114, _⟩ => ⟨S512, .f32⟩
  | .hbm, ⟨115, _⟩ => ⟨S1x512, .f32⟩
  | .hbm, ⟨116, _⟩ => ⟨S512, .f32⟩
  | .hbm, ⟨117, _⟩ => ⟨S1x512, .f32⟩
  | .hbm, ⟨118, _⟩ => ⟨S1024x1024, .f32⟩
  | .hbm, ⟨119, _⟩ => ⟨S1024x1024, .bf16⟩
  | .hbm, ⟨120, _⟩ => ⟨S1024, .f32⟩
  | .hbm, ⟨121, _⟩ => ⟨S1x1024, .f32⟩
  | .hbm, ⟨122, _⟩ => ⟨S1024x4096, .f32⟩
  | .hbm, ⟨123, _⟩ => ⟨S1024x4096, .bf16⟩
  | .hbm, ⟨124, _⟩ => ⟨S4096x1024, .f32⟩
  | .hbm, ⟨125, _⟩ => ⟨S4096x1024, .bf16⟩
  | .hbm, ⟨126, _⟩ => ⟨S1x1024, .f32⟩
  | .hbm, ⟨127, _⟩ => ⟨S8x2048x1024, .f32⟩
  | .local _ .vmem, ⟨0, _⟩ => ⟨S8x64x1024, .f32⟩
  | .local _ .vmem, ⟨1, _⟩ => ⟨S8x64x1024, .f32⟩
  | .local _ .vmem, ⟨2, _⟩ => ⟨S6x8x1x1024, .f32⟩
  | .local _ .vmem, ⟨3, _⟩ => ⟨S1x1024, .f32⟩
  | .local _ .vmem, ⟨4, _⟩ => ⟨S1024x2560, .bf16⟩
  | .local _ .vmem, ⟨5, _⟩ => ⟨S4x512, .f32⟩
  | .local _ .vmem, ⟨6, _⟩ => ⟨S1x512, .f32⟩
  | .local _ .vmem, ⟨7, _⟩ => ⟨S2x256x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S256x256, .bf16⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S8x64x1024, .f32⟩
  | .local _ .vmem, ⟨21, _⟩ => ⟨S8x64x1024, .f32⟩
  | .local _ .vmem, ⟨22, _⟩ => ⟨S8x8x512, .f32⟩
  | .local _ .vmem, ⟨23, _⟩ => ⟨S8x8x512, .f32⟩
  | .local _ .vmem, ⟨24, _⟩ => ⟨S8x512, .f32⟩
  | .local _ .vmem, ⟨25, _⟩ => ⟨S4x576x128, .f32⟩
  | .local _ .vmem, ⟨26, _⟩ => ⟨S4x576x128, .f32⟩
  | .local _ .vmem, ⟨27, _⟩ => ⟨S512x1024, .bf16⟩
  | .local _ .vmem, ⟨28, _⟩ => ⟨S8x64x1024, .f32⟩
  | .local _ .vmem, ⟨29, _⟩ => ⟨S512x1024, .bf16⟩
  | .local _ .vmem, ⟨30, _⟩ => ⟨S512x4096, .bf16⟩
  | .local _ .vmem, ⟨31, _⟩ => ⟨S512x1024, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_c_0 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_c_1 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_call0_v53 : Ref sig .tc := ⟨.hbm, 76, rfl⟩
abbrev main_call0_c_2 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_v58 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_v63 : Ref sig .tc := ⟨.hbm, 87, rfl⟩
abbrev main_call0_v64 : Ref sig .tc := ⟨.hbm, 88, rfl⟩
abbrev main_call0_v65 : Ref sig .tc := ⟨.hbm, 89, rfl⟩
abbrev main_call0_v66 : Ref sig .tc := ⟨.hbm, 90, rfl⟩
abbrev main_call0_c_3 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_v75 : Ref sig .tc := ⟨.hbm, 100, rfl⟩
abbrev main_call0_v76 : Ref sig .tc := ⟨.hbm, 101, rfl⟩
abbrev main_call0_v77 : Ref sig .tc := ⟨.hbm, 102, rfl⟩
abbrev main_call0_v78 : Ref sig .tc := ⟨.hbm, 103, rfl⟩
abbrev main_call0_v79 : Ref sig .tc := ⟨.hbm, 104, rfl⟩
abbrev main_call0_v80 : Ref sig .tc := ⟨.hbm, 105, rfl⟩
abbrev main_call0_v81 : Ref sig .tc := ⟨.hbm, 106, rfl⟩
abbrev main_call0_v82 : Ref sig .tc := ⟨.hbm, 107, rfl⟩
abbrev main_call0_v83 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_v87 : Ref sig .tc := ⟨.hbm, 112, rfl⟩
abbrev main_call0_v88 : Ref sig .tc := ⟨.hbm, 113, rfl⟩
abbrev main_call0_v89 : Ref sig .tc := ⟨.hbm, 114, rfl⟩
abbrev main_call0_v90 : Ref sig .tc := ⟨.hbm, 115, rfl⟩
abbrev main_call0_v91 : Ref sig .tc := ⟨.hbm, 116, rfl⟩
abbrev main_call0_v92 : Ref sig .tc := ⟨.hbm, 117, rfl⟩
abbrev main_call0_v93 : Ref sig .tc := ⟨.hbm, 118, rfl⟩
abbrev main_call0_v94 : Ref sig .tc := ⟨.hbm, 119, rfl⟩
abbrev main_call0_v95 : Ref sig .tc := ⟨.hbm, 120, rfl⟩
abbrev main_call0_v96 : Ref sig .tc := ⟨.hbm, 121, rfl⟩
abbrev main_call0_v97 : Ref sig .tc := ⟨.hbm, 122, rfl⟩
abbrev main_call0_v98 : Ref sig .tc := ⟨.hbm, 123, rfl⟩
abbrev main_call0_v99 : Ref sig .tc := ⟨.hbm, 124, rfl⟩
abbrev main_call0_v100 : Ref sig .tc := ⟨.hbm, 125, rfl⟩
abbrev main_call0_v101 : Ref sig .tc := ⟨.hbm, 126, rfl⟩
abbrev main_v0 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S8x2048x1024 : Shape := ⟨3, ![8, 2048, 1024]⟩
abbrev S8x6144 : Shape := ⟨2, ![8, 6144]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x3x512 : Shape := ⟨3, ![1, 3, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x2560 : Shape := ⟨2, ![1024, 2560]⟩
abbrev S8x2048x2560 : Shape := ⟨3, ![8, 2048, 2560]⟩
abbrev S8x2048x512 : Shape := ⟨3, ![8, 2048, 512]⟩
abbrev S4x512 : Shape := ⟨2, ![4, 512]⟩
abbrev S8x2051x512 : Shape := ⟨3, ![8, 2051, 512]⟩
abbrev S512 : Shape := ⟨1, ![512]⟩
abbrev S1x1x512 : Shape := ⟨3, ![1, 1, 512]⟩
abbrev S8x64x64 : Shape := ⟨3, ![8, 64, 64]⟩
abbrev S8x2048x8x64 : Shape := ⟨4, ![8, 2048, 8, 64]⟩
abbrev S8x64x8x2048 : Shape := ⟨4, ![8, 64, 8, 2048]⟩
abbrev S2048 : Shape := ⟨1, ![2048]⟩
abbrev S1x2048x1 : Shape := ⟨3, ![1, 2048, 1]⟩
abbrev S3x512 : Shape := ⟨2, ![3, 512]⟩
abbrev S8x2050x512 : Shape := ⟨3, ![8, 2050, 512]⟩
abbrev S8x512 : Shape := ⟨2, ![8, 512]⟩
abbrev S2048x8x512 : Shape := ⟨3, ![2048, 8, 512]⟩
abbrev S2048x8x1024 : Shape := ⟨3, ![2048, 8, 1024]⟩
abbrev S1x8x512 : Shape := ⟨3, ![1, 8, 512]⟩
abbrev S1x8x1024 : Shape := ⟨3, ![1, 8, 1024]⟩
abbrev S8x8x64 : Shape := ⟨3, ![8, 8, 64]⟩
abbrev S8x8 : Shape := ⟨2, ![8, 8]⟩
abbrev S8x8x1 : Shape := ⟨3, ![8, 8, 1]⟩
abbrev S1024x1024 : Shape := ⟨2, ![1024, 1024]⟩
abbrev S8 : Shape := ⟨1, ![8]⟩
abbrev S8x1 : Shape := ⟨2, ![8, 1]⟩
abbrev S1024x4096 : Shape := ⟨2, ![1024, 4096]⟩
abbrev S8x4096 : Shape := ⟨2, ![8, 4096]⟩
abbrev S4096x1024 : Shape := ⟨2, ![4096, 1024]⟩

abbrev nBuf : Space → Nat
  | .hbm => 360
  | .vmem => 0
  | .smem => 0
  | _ => 0

abbrev hbmTy0_0 (i : Nat) : BufTy := match i % 128 with
  | 0 => ⟨S8x2048x1024, .f32⟩
  | 1 => ⟨S8x6144, .f32⟩
  | 2 => ⟨S1x1024, .f32⟩
  | 3 => ⟨S1x1024x2560, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S1x3x512, .f32⟩
  | 12 => ⟨S1x512, .f32⟩
  | 13 => ⟨S1x512, .f32⟩
  | 14 => ⟨S1x1024x1024, .f32⟩
  | 15 => ⟨S1x1024, .f32⟩
  | 16 => ⟨S1x1024x4096, .f32⟩
  | 17 => ⟨S1x4096x1024, .f32⟩
  | 18 => ⟨S1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S8x1024, .f32⟩
  | 25 => ⟨S1024, .f32⟩
  | 26 => ⟨S8x2048x1024, .f32⟩
  | 27 => ⟨S_, .f32⟩
  | 28 => ⟨S8x2048, .f32⟩
  | 29 => ⟨S8x2048x1, .f32⟩
  | 30 => ⟨S_, .f32⟩
  | 31 => ⟨S8x2048x1, .f32⟩
  | 32 => ⟨S8x2048x1, .f32⟩
  | 33 => ⟨S_, .f32⟩
  | 34 => ⟨S8x2048x1, .f32⟩
  | 35 => ⟨S8x2048x1, .f32⟩
  | 36 => ⟨S8x2048x1, .f32⟩
  | 37 => ⟨S8x2048x1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x1x1024, .f32⟩
  | 43 => ⟨S_, .f32⟩
  | 44 => ⟨S8x1x1024, .f32⟩
  | 45 => ⟨S8x1x1024, .f32⟩
  | 46 => ⟨S8x2048x1024, .f32⟩
  | 47 => ⟨S8x2048x1024, .f32⟩
  | 48 => ⟨S8x1x1024, .f32⟩
  | 49 => ⟨S8x2048x1024, .f32⟩
  | 50 => ⟨S8x2048x1024, .f32⟩
  | 51 => ⟨S1024x2560, .f32⟩
  | 52 => ⟨S8x2048x2560, .f32⟩
  | 53 => ⟨S8x2048x512, .f32⟩
  | 54 => ⟨S8x2048x512, .f32⟩
  | 55 => ⟨S8x2048x512, .f32⟩
  | 56 => ⟨S8x2048x512, .f32⟩
  | 57 => ⟨S8x2048x512, .f32⟩
  | 58 => ⟨S4x512, .f32⟩
  | 59 => ⟨S_, .i32⟩
  | 60 => ⟨S_, .f32⟩
  | 61 => ⟨S8x2051x512, .f32⟩
  | 62 => ⟨S8x2048x512, .f32⟩
  | 63 => ⟨S1x512, .f32⟩
  | 64 => ⟨S512, .f32⟩
  | 65 => ⟨S1x1x512, .f32⟩
  | 66 => ⟨S8x2048x512, .f32⟩
  | 67 => ⟨S8x2048x512, .f32⟩
  | 68 => ⟨S8x2048x512, .f32⟩
  | 69 => ⟨S1x512, .f32⟩
  | 70 => ⟨S512, .f32⟩
  | 71 => ⟨S1x1x512, .f32⟩
  | 72 => ⟨S8x2048x512, .f32⟩
  | 73 => ⟨S8x2048x512, .f32⟩
  | 74 => ⟨S8x2048x512, .f32⟩
  | 75 => ⟨S8x2048x512, .f32⟩
  | 76 => ⟨S1x512, .f32⟩
  | 77 => ⟨S512, .f32⟩
  | 78 => ⟨S1x1x512, .f32⟩
  | 79 => ⟨S8x2048x512, .f32⟩
  | 80 => ⟨S8x2048x512, .f32⟩
  | 81 => ⟨S8x2048x512, .f32⟩
  | 82 => ⟨S8x2048x512, .f32⟩
  | 83 => ⟨S1x512, .f32⟩
  | 84 => ⟨S512, .f32⟩
  | 85 => ⟨S1x1x512, .f32⟩
  | 86 => ⟨S8x2048x512, .f32⟩
  | 87 => ⟨S8x2048x512, .f32⟩
  | 88 => ⟨S8x2048x512, .f32⟩
  | 89 => ⟨S512, .f32⟩
  | 90 => ⟨S1x1x512, .f32⟩
  | 91 => ⟨S8x2048x512, .f32⟩
  | 92 => ⟨S8x2048x512, .f32⟩
  | 93 => ⟨S8x64x64, .f32⟩
  | 94 => ⟨S512, .f32⟩
  | 95 => ⟨S8x64x64, .f32⟩
  | 96 => ⟨S512, .f32⟩
  | 97 => ⟨S512, .f32⟩
  | 98 => ⟨S8x2048x8x64, .f32⟩
  | 99 => ⟨S8x64x8x2048, .f32⟩
  | 100 => ⟨S8x2048x8x64, .f32⟩
  | 101 => ⟨S8x2048x512, .f32⟩
  | 102 => ⟨S1x1x512, .f32⟩
  | 103 => ⟨S8x2048x512, .f32⟩
  | 104 => ⟨S8x2048x512, .f32⟩
  | 105 => ⟨S8x2048x512, .f32⟩
  | 106 => ⟨S8x2048x512, .f32⟩
  | 107 => ⟨S_, .f32⟩
  | 108 => ⟨S8x2048x512, .f32⟩
  | 109 => ⟨S8x2048x512, .f32⟩
  | 110 => ⟨S_, .f32⟩
  | 111 => ⟨S8x2048x512, .f32⟩
  | 112 => ⟨S8x2048x512, .f32⟩
  | 113 => ⟨S8x64x8x2048, .f32⟩
  | 114 => ⟨S8x2048x8x64, .f32⟩
  | 115 => ⟨S8x2048x512, .f32⟩
  | 116 => ⟨S1x1x512, .f32⟩
  | 117 => ⟨S8x2048x512, .f32⟩
  | 118 => ⟨S8x2048x512, .f32⟩
  | 119 => ⟨S8x2048x512, .f32⟩
  | 120 => ⟨S8x2048x512, .f32⟩
  | 121 => ⟨S_, .f32⟩
  | 122 => ⟨S8x2048x512, .f32⟩
  | 123 => ⟨S8x2048x512, .f32⟩
  | 124 => ⟨S_, .f32⟩
  | 125 => ⟨S8x2048x512, .f32⟩
  | 126 => ⟨S8x2048x512, .f32⟩
  | 127 => ⟨S_, .f32⟩
  | _ => ⟨S8x2048x1024, .f32⟩

abbrev hbmTy0_1 (i : Nat) : BufTy := match i % 128 with
  | 0 => ⟨S8x2048x512, .f32⟩
  | 1 => ⟨S8x2048x512, .f32⟩
  | 2 => ⟨S_, .f32⟩
  | 3 => ⟨S512, .f32⟩
  | 4 => ⟨S512, .f32⟩
  | 5 => ⟨S512, .f32⟩
  | 6 => ⟨S512, .f32⟩
  | 7 => ⟨S512, .i1⟩
  | 8 => ⟨S512, .f32⟩
  | 9 => ⟨S512, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S1x1x512, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S8x2048x512, .f32⟩
  | 24 => ⟨S8x2048x512, .f32⟩
  | 25 => ⟨S2048, .i32⟩
  | 26 => ⟨S_, .i32⟩
  | 27 => ⟨S2048, .i32⟩
  | 28 => ⟨S2048, .i1⟩
  | 29 => ⟨S1x2048x1, .i1⟩
  | 30 => ⟨S_, .f32⟩
  | 31 => ⟨S8x2048x512, .f32⟩
  | 32 => ⟨S8x2048x512, .i1⟩
  | 33 => ⟨S8x2048x512, .f32⟩
  | 34 => ⟨S8x2048x512, .f32⟩
  | 35 => ⟨S8x2048x512, .f32⟩
  | 36 => ⟨S8x2048x512, .f32⟩
  | 37 => ⟨S8x2048x512, .f32⟩
  | 38 => ⟨S3x512, .f32⟩
  | 39 => ⟨S_, .i32⟩
  | 40 => ⟨S_, .f32⟩
  | 41 => ⟨S8x2050x512, .f32⟩
  | 42 => ⟨S8x2048x512, .f32⟩
  | 43 => ⟨S1x512, .f32⟩
  | 44 => ⟨S512, .f32⟩
  | 45 => ⟨S1x1x512, .f32⟩
  | 46 => ⟨S8x2048x512, .f32⟩
  | 47 => ⟨S8x2048x512, .f32⟩
  | 48 => ⟨S8x2048x512, .f32⟩
  | 49 => ⟨S1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S_, .f32⟩
  | 64 => ⟨S8x512, .f32⟩
  | 65 => ⟨S2048x8x512, .f32⟩
  | 66 => ⟨S2048x8x512, .f32⟩
  | 67 => ⟨S2048x8x512, .f32⟩
  | 68 => ⟨S2048x8x512, .f32⟩
  | 69 => ⟨S2048x8x1024, .f32⟩
  | 70 => ⟨S_, .f32⟩
  | 71 => ⟨S2048x8x1024, .f32⟩
  | 72 => ⟨S_, .i32⟩
  | 73 => ⟨S2048x8x512, .f32⟩
  | 74 => ⟨S2048x8x512, .f32⟩
  | 75 => ⟨S2048x8x512, .f32⟩
  | 76 => ⟨S2048x8x512, .f32⟩
  | 77 => ⟨S2048x8x1024, .f32⟩
  | 78 => ⟨S1x512, .f32⟩
  | 79 => ⟨S1x512, .f32⟩
  | 80 => ⟨S1x1024x1024, .f32⟩
  | 81 => ⟨S8x1024, .f32⟩
  | 82 => ⟨S1x1024, .f32⟩
  | 83 => ⟨S8x1024, .f32⟩
  | 84 => ⟨S8x1024, .f32⟩
  | 85 => ⟨S1x1024x4096, .f32⟩
  | 86 => ⟨S1x4096x1024, .f32⟩
  | 87 => ⟨S8x1024, .f32⟩
  | 88 => ⟨S1024, .f32⟩
  | 89 => ⟨S_, .i32⟩
  | 90 => ⟨S8x512, .f32⟩
  | 91 => ⟨S2048x8x1024, .f32⟩
  | 92 => ⟨S_, .i32⟩
  | 93 => ⟨S_, .i1⟩
  | 94 => ⟨S_, .i32⟩
  | 95 => ⟨S_, .i32⟩
  | 96 => ⟨S1x8x512, .f32⟩
  | 97 => ⟨S8x512, .f32⟩
  | 98 => ⟨S_, .i32⟩
  | 99 => ⟨S_, .i32⟩
  | 100 => ⟨S1x8x512, .f32⟩
  | 101 => ⟨S8x512, .f32⟩
  | 102 => ⟨S_, .i32⟩
  | 103 => ⟨S_, .i32⟩
  | 104 => ⟨S1x8x512, .f32⟩
  | 105 => ⟨S8x512, .f32⟩
  | 106 => ⟨S_, .i32⟩
  | 107 => ⟨S_, .i32⟩
  | 108 => ⟨S1x8x512, .f32⟩
  | 109 => ⟨S8x512, .f32⟩
  | 110 => ⟨S_, .i32⟩
  | 111 => ⟨S_, .i32⟩
  | 112 => ⟨S1x8x1024, .f32⟩
  | 113 => ⟨S8x1024, .f32⟩
  | 114 => ⟨S8x512, .f32⟩
  | 115 => ⟨S8x512, .f32⟩
  | 116 => ⟨S8x512, .f32⟩
  | 117 => ⟨S8x512, .f32⟩
  | 118 => ⟨S_, .f32⟩
  | 119 => ⟨S8x512, .f32⟩
  | 120 => ⟨S8x512, .f32⟩
  | 121 => ⟨S8x512, .f32⟩
  | 122 => ⟨S_, .f32⟩
  | 123 => ⟨S8x512, .f32⟩
  | 124 => ⟨S8x512, .f32⟩
  | 125 => ⟨S8x512, .f32⟩
  | 126 => ⟨S_, .f32⟩
  | 127 => ⟨S8x512, .f32⟩
  | _ => ⟨S8x2048x1024, .f32⟩

abbrev hbmTy0_2 (i : Nat) : BufTy := match i % 128 with
  | 0 => ⟨S8x512, .f32⟩
  | 1 => ⟨S_, .f32⟩
  | 2 => ⟨S8x512, .f32⟩
  | 3 => ⟨S8x512, .f32⟩
  | 4 => ⟨S8x512, .f32⟩
  | 5 => ⟨S8x512, .f32⟩
  | 6 => ⟨S512, .f32⟩
  | 7 => ⟨S8x8x64, .f32⟩
  | 8 => ⟨S8x8x64, .f32⟩
  | 9 => ⟨S_, .f32⟩
  | 10 => ⟨S8x8, .f32⟩
  | 11 => ⟨S8x8x1, .f32⟩
  | 12 => ⟨S_, .f32⟩
  | 13 => ⟨S8x8x1, .f32⟩
  | 14 => ⟨S8x8x1, .f32⟩
  | 15 => ⟨S_, .f32⟩
  | 16 => ⟨S8x8x1, .f32⟩
  | 17 => ⟨S8x8x1, .f32⟩
  | 18 => ⟨S8x8x1, .f32⟩
  | 19 => ⟨S8x8x64, .f32⟩
  | 20 => ⟨S8x8x64, .f32⟩
  | 21 => ⟨S8x512, .f32⟩
  | 22 => ⟨S1x512, .f32⟩
  | 23 => ⟨S8x512, .f32⟩
  | 24 => ⟨S8x512, .f32⟩
  | 25 => ⟨S512, .f32⟩
  | 26 => ⟨S8x8x64, .f32⟩
  | 27 => ⟨S8x8x64, .f32⟩
  | 28 => ⟨S_, .f32⟩
  | 29 => ⟨S8x8, .f32⟩
  | 30 => ⟨S8x8x1, .f32⟩
  | 31 => ⟨S_, .f32⟩
  | 32 => ⟨S8x8x1, .f32⟩
  | 33 => ⟨S8x8x1, .f32⟩
  | 34 => ⟨S_, .f32⟩
  | 35 => ⟨S8x8x1, .f32⟩
  | 36 => ⟨S8x8x1, .f32⟩
  | 37 => ⟨S8x8x1, .f32⟩
  | 38 => ⟨S8x8x64, .f32⟩
  | 39 => ⟨S8x8x64, .f32⟩
  | 40 => ⟨S8x512, .f32⟩
  | 41 => ⟨S1x512, .f32⟩
  | 42 => ⟨S8x512, .f32⟩
  | 43 => ⟨S8x512, .f32⟩
  | 44 => ⟨S8x1024, .f32⟩
  | 45 => ⟨S1024x1024, .f32⟩
  | 46 => ⟨S8x1024, .f32⟩
  | 47 => ⟨S8x1024, .f32⟩
  | 48 => ⟨S8x1024, .f32⟩
  | 49 => ⟨S1024, .f32⟩
  | 50 => ⟨S8x1024, .f32⟩
  | 51 => ⟨S_, .f32⟩
  | 52 => ⟨S8, .f32⟩
  | 53 => ⟨S8x1, .f32⟩
  | 54 => ⟨S_, .f32⟩
  | 55 => ⟨S8x1, .f32⟩
  | 56 => ⟨S8x1, .f32⟩
  | 57 => ⟨S_, .f32⟩
  | 58 => ⟨S8x1, .f32⟩
  | 59 => ⟨S8x1, .f32⟩
  | 60 => ⟨S8x1, .f32⟩
  | 61 => ⟨S8x1024, .f32⟩
  | 62 => ⟨S8x1024, .f32⟩
  | 63 => ⟨S1x1024, .f32⟩
  | 64 => ⟨S8x1024, .f32⟩
  | 65 => ⟨S8x1024, .f32⟩
  | 66 => ⟨S_, .f32⟩
  | 67 => ⟨S8x1024, .f32⟩
  | 68 => ⟨S8x1024, .f32⟩
  | 69 => ⟨S8x1024, .f32⟩
  | 70 => ⟨S8x1024, .f32⟩
  | 71 => ⟨S1024x4096, .f32⟩
  | 72 => ⟨S8x4096, .f32⟩
  | 73 => ⟨S_, .f32⟩
  | 74 => ⟨S8x4096, .f32⟩
  | 75 => ⟨S8x4096, .f32⟩
  | 76 => ⟨S8x4096, .f32⟩
  | 77 => ⟨S4096x1024, .f32⟩
  | 78 => ⟨S8x1024, .f32⟩
  | 79 => ⟨S8x1024, .f32⟩
  | 80 => ⟨S8x1024, .f32⟩
  | 81 => ⟨S8x1024, .f32⟩
  | 82 => ⟨S_, .f32⟩
  | 83 => ⟨S8, .f32⟩
  | 84 => ⟨S8x1, .f32⟩
  | 85 => ⟨S_, .f32⟩
  | 86 => ⟨S8x1, .f32⟩
  | 87 => ⟨S8x1, .f32⟩
  | 88 => ⟨S_, .f32⟩
  | 89 => ⟨S8x1, .f32⟩
  | 90 => ⟨S8x1, .f32⟩
  | 91 => ⟨S8x1, .f32⟩
  | 92 => ⟨S8x1024, .f32⟩
  | 93 => ⟨S8x1024, .f32⟩
  | 94 => ⟨S1x1024, .f32⟩
  | 95 => ⟨S8x1024, .f32⟩
  | 96 => ⟨S8x1024, .f32⟩
  | 97 => ⟨S1x8x1024, .f32⟩
  | 98 => ⟨S_, .i32⟩
  | 99 => ⟨S_, .i32⟩
  | 100 => ⟨S2048x8x1024, .f32⟩
  | 101 => ⟨S_, .i32⟩
  | 102 => ⟨S_, .i32⟩
  | 103 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c : Ref sig .tc := ⟨.hbm, 59, rfl⟩
abbrev main_call0_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_3 : Ref sig .tc := ⟨.hbm, 107, rfl⟩
abbrev main_v82 : Ref sig .tc := ⟨.hbm, 108, rfl⟩
abbrev main_v83 : Ref sig .tc := ⟨.hbm, 109, rfl⟩
abbrev main_cst_4 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_5 : Ref sig .tc := ⟨.hbm, 121, rfl⟩
abbrev main_v94 : Ref sig .tc := ⟨.hbm, 122, rfl⟩
abbrev main_v95 : Ref sig .tc := ⟨.hbm, 123, rfl⟩
abbrev main_cst_6 : Ref sig .tc := ⟨.hbm, 124, rfl⟩
abbrev main_v96 : Ref sig .tc := ⟨.hbm, 125, rfl⟩
abbrev main_v97 : Ref sig .tc := ⟨.hbm, 126, rfl⟩
abbrev main_cst_7 : Ref sig .tc := ⟨.hbm, 127, rfl⟩
abbrev main_v98 : Ref sig .tc := ⟨.hbm, 128, rfl⟩
abbrev main_v99 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_8 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_9 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_10 : Ref sig .tc := ⟨.hbm, 158, rfl⟩
abbrev main_v113 : Ref sig .tc := ⟨.hbm, 159, rfl⟩
abbrev main_call2_v0 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_11 : Ref sig .tc := ⟨.hbm, 167, rfl⟩
abbrev main_call3_v0 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_12 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_13 : Ref sig .tc := ⟨.hbm, 198, rfl⟩
abbrev main_v148 : Ref sig .tc := ⟨.hbm, 199, rfl⟩
abbrev main_c_14 : Ref sig .tc := ⟨.hbm, 200, rfl⟩
abbrev main_v149_0 : Ref sig .tc := ⟨.hbm, 201, rfl⟩
abbrev main_v149_1 : Ref sig .tc := ⟨.hbm, 202, rfl⟩
abbrev main_v149_2 : Ref sig .tc := ⟨.hbm, 203, rfl⟩
abbrev main_v149_3 : Ref sig .tc := ⟨.hbm, 204, rfl⟩
abbrev main_v149_4 : Ref sig .tc := ⟨.hbm, 205, rfl⟩
abbrev main_v149_5 : Ref sig .tc := ⟨.hbm, 206, rfl⟩
abbrev main_v149_6 : Ref sig .tc := ⟨.hbm, 207, rfl⟩
abbrev main_v149_7 : Ref sig .tc := ⟨.hbm, 208, rfl⟩
abbrev main_v149_8 : Ref sig .tc := ⟨.hbm, 209, rfl⟩
abbrev main_v149_9 : Ref sig .tc := ⟨.hbm, 210, rfl⟩
abbrev main_v149_10 : Ref sig .tc := ⟨.hbm, 211, rfl⟩
abbrev main_v149_11 : Ref sig .tc := ⟨.hbm, 212, rfl⟩
abbrev main_v149_12 : Ref sig .tc := ⟨.hbm, 213, rfl⟩
abbrev main_v149_13 : Ref sig .tc := ⟨.hbm, 214, rfl⟩
abbrev main_v149_14 : Ref sig .tc := ⟨.hbm, 215, rfl⟩
abbrev main_v149_15 : Ref sig .tc := ⟨.hbm, 216, rfl⟩
abbrev main_v149_16 : Ref sig .tc := ⟨.hbm, 217, rfl⟩
abbrev main_v149_17 : Ref sig .tc := ⟨.hbm, 218, rfl⟩
abbrev main_v149_18 : Ref sig .tc := ⟨.hbm, 219, rfl⟩
abbrev main_while0c_c_33 : Ref sig .tc := ⟨.hbm, 220, rfl⟩
abbrev main_while0c_v151 : Ref sig .tc := ⟨.hbm, 221, rfl⟩
abbrev main_while0b_call4_c : Ref sig .tc := ⟨.hbm, 222, rfl⟩
abbrev main_while0b_call4_c_0 : Ref sig .tc := ⟨.hbm, 223, rfl⟩
abbrev main_while0b_call4_v0 : Ref sig .tc := ⟨.hbm, 224, rfl⟩
abbrev main_while0b_v151 : Ref sig .tc := ⟨.hbm, 225, rfl⟩
abbrev main_while0b_call5_c : Ref sig .tc := ⟨.hbm, 226, rfl⟩
abbrev main_while0b_call5_c_0 : Ref sig .tc := ⟨.hbm, 227, rfl⟩
abbrev main_while0b_call5_v0 : Ref sig .tc := ⟨.hbm, 228, rfl⟩
abbrev main_while0b_v152 : Ref sig .tc := ⟨.hbm, 229, rfl⟩
abbrev main_while0b_call6_c : Ref sig .tc := ⟨.hbm, 230, rfl⟩
abbrev main_while0b_call6_c_0 : Ref sig .tc := ⟨.hbm, 231, rfl⟩
abbrev main_while0b_call6_v0 : Ref sig .tc := ⟨.hbm, 232, rfl⟩
abbrev main_while0b_v153 : Ref sig .tc := ⟨.hbm, 233, rfl⟩
abbrev main_while0b_call7_c : Ref sig .tc := ⟨.hbm, 234, rfl⟩
abbrev main_while0b_call7_c_0 : Ref sig .tc := ⟨.hbm, 235, rfl⟩
abbrev main_while0b_call7_v0 : Ref sig .tc := ⟨.hbm, 236, rfl⟩
abbrev main_while0b_v154 : Ref sig .tc := ⟨.hbm, 237, rfl⟩
abbrev main_while0b_call8_c : Ref sig .tc := ⟨.hbm, 238, rfl⟩
abbrev main_while0b_call8_c_0 : Ref sig .tc := ⟨.hbm, 239, rfl⟩
abbrev main_while0b_call8_v0 : Ref sig .tc := ⟨.hbm, 240, rfl⟩
abbrev main_while0b_v155 : Ref sig .tc := ⟨.hbm, 241, rfl⟩
abbrev main_while0b_v156 : Ref sig .tc := ⟨.hbm, 242, rfl⟩
abbrev main_while0b_v157 : Ref sig .tc := ⟨.hbm, 243, rfl⟩
abbrev main_while0b_v158 : Ref sig .tc := ⟨.hbm, 244, rfl⟩
abbrev main_while0b_v159 : Ref sig .tc := ⟨.hbm, 245, rfl⟩
abbrev main_while0b_cst_33 : Ref sig .tc := ⟨.hbm, 246, rfl⟩
abbrev main_while0b_v160 : Ref sig .tc := ⟨.hbm, 247, rfl⟩
abbrev main_while0b_v161 : Ref sig .tc := ⟨.hbm, 248, rfl⟩
abbrev main_while0b_v162 : Ref sig .tc := ⟨.hbm, 249, rfl⟩
abbrev main_while0b_cst_34 : Ref sig .tc := ⟨.hbm, 250, rfl⟩
abbrev main_while0b_v163 : Ref sig .tc := ⟨.hbm, 251, rfl⟩
abbrev main_while0b_v164 : Ref sig .tc := ⟨.hbm, 252, rfl⟩
abbrev main_while0b_v165 : Ref sig .tc := ⟨.hbm, 253, rfl⟩
abbrev main_while0b_cst_35 : Ref sig .tc := ⟨.hbm, 254, rfl⟩
abbrev main_while0b_v166 : Ref sig .tc := ⟨.hbm, 255, rfl⟩
abbrev main_while0b_v167 : Ref sig .tc := ⟨.hbm, 256, rfl⟩
abbrev main_while0b_cst_36 : Ref sig .tc := ⟨.hbm, 257, rfl⟩
abbrev main_while0b_v168 : Ref sig .tc := ⟨.hbm, 258, rfl⟩
abbrev main_while0b_v169 : Ref sig .tc := ⟨.hbm, 259, rfl⟩
abbrev main_while0b_v170 : Ref sig .tc := ⟨.hbm, 260, rfl⟩
abbrev main_while0b_v171 : Ref sig .tc := ⟨.hbm, 261, rfl⟩
abbrev main_while0b_v172 : Ref sig .tc := ⟨.hbm, 262, rfl⟩
abbrev main_while0b_v173 : Ref sig .tc := ⟨.hbm, 263, rfl⟩
abbrev main_while0b_v174 : Ref sig .tc := ⟨.hbm, 264, rfl⟩
abbrev main_while0b_cst_37 : Ref sig .tc := ⟨.hbm, 265, rfl⟩
abbrev main_while0b_v175 : Ref sig .tc := ⟨.hbm, 266, rfl⟩
abbrev main_while0b_v176 : Ref sig .tc := ⟨.hbm, 267, rfl⟩
abbrev main_while0b_cst_38 : Ref sig .tc := ⟨.hbm, 268, rfl⟩
abbrev main_while0b_v177 : Ref sig .tc := ⟨.hbm, 269, rfl⟩
abbrev main_while0b_v178 : Ref sig .tc := ⟨.hbm, 270, rfl⟩
abbrev main_while0b_cst_39 : Ref sig .tc := ⟨.hbm, 271, rfl⟩
abbrev main_while0b_v179 : Ref sig .tc := ⟨.hbm, 272, rfl⟩
abbrev main_while0b_v180 : Ref sig .tc := ⟨.hbm, 273, rfl⟩
abbrev main_while0b_v181 : Ref sig .tc := ⟨.hbm, 274, rfl⟩
abbrev main_while0b_v182 : Ref sig .tc := ⟨.hbm, 275, rfl⟩
abbrev main_while0b_v183 : Ref sig .tc := ⟨.hbm, 276, rfl⟩
abbrev main_while0b_v184 : Ref sig .tc := ⟨.hbm, 277, rfl⟩
abbrev main_while0b_v185 : Ref sig .tc := ⟨.hbm, 278, rfl⟩
abbrev main_while0b_v186 : Ref sig .tc := ⟨.hbm, 279, rfl⟩
abbrev main_while0b_v187 : Ref sig .tc := ⟨.hbm, 280, rfl⟩
abbrev main_while0b_v188 : Ref sig .tc := ⟨.hbm, 281, rfl⟩
abbrev main_while0b_v189 : Ref sig .tc := ⟨.hbm, 282, rfl⟩
abbrev main_while0b_v190 : Ref sig .tc := ⟨.hbm, 283, rfl⟩
abbrev main_while0b_cst_40 : Ref sig .tc := ⟨.hbm, 284, rfl⟩
abbrev main_while0b_v191 : Ref sig .tc := ⟨.hbm, 285, rfl⟩
abbrev main_while0b_v192 : Ref sig .tc := ⟨.hbm, 286, rfl⟩
abbrev main_while0b_cst_41 : Ref sig .tc := ⟨.hbm, 287, rfl⟩
abbrev main_while0b_v193 : Ref sig .tc := ⟨.hbm, 288, rfl⟩
abbrev main_while0b_v194 : Ref sig .tc := ⟨.hbm, 289, rfl⟩
abbrev main_while0b_cst_42 : Ref sig .tc := ⟨.hbm, 290, rfl⟩
abbrev main_while0b_v195 : Ref sig .tc := ⟨.hbm, 291, rfl⟩
abbrev main_while0b_v196 : Ref sig .tc := ⟨.hbm, 292, rfl⟩
abbrev main_while0b_v197 : Ref sig .tc := ⟨.hbm, 293, rfl⟩
abbrev main_while0b_v198 : Ref sig .tc := ⟨.hbm, 294, rfl⟩
abbrev main_while0b_v199 : Ref sig .tc := ⟨.hbm, 295, rfl⟩
abbrev main_while0b_v200 : Ref sig .tc := ⟨.hbm, 296, rfl⟩
abbrev main_while0b_v201 : Ref sig .tc := ⟨.hbm, 297, rfl⟩
abbrev main_while0b_v202 : Ref sig .tc := ⟨.hbm, 298, rfl⟩
abbrev main_while0b_v203 : Ref sig .tc := ⟨.hbm, 299, rfl⟩
abbrev main_while0b_v204 : Ref sig .tc := ⟨.hbm, 300, rfl⟩
abbrev main_while0b_v205 : Ref sig .tc := ⟨.hbm, 301, rfl⟩
abbrev main_while0b_v206 : Ref sig .tc := ⟨.hbm, 302, rfl⟩
abbrev main_while0b_v207 : Ref sig .tc := ⟨.hbm, 303, rfl⟩
abbrev main_while0b_v208 : Ref sig .tc := ⟨.hbm, 304, rfl⟩
abbrev main_while0b_v209 : Ref sig .tc := ⟨.hbm, 305, rfl⟩
abbrev main_while0b_v210 : Ref sig .tc := ⟨.hbm, 306, rfl⟩
abbrev main_while0b_cst_43 : Ref sig .tc := ⟨.hbm, 307, rfl⟩
abbrev main_while0b_v211 : Ref sig .tc := ⟨.hbm, 308, rfl⟩
abbrev main_while0b_v212 : Ref sig .tc := ⟨.hbm, 309, rfl⟩
abbrev main_while0b_cst_44 : Ref sig .tc := ⟨.hbm, 310, rfl⟩
abbrev main_while0b_v213 : Ref sig .tc := ⟨.hbm, 311, rfl⟩
abbrev main_while0b_v214 : Ref sig .tc := ⟨.hbm, 312, rfl⟩
abbrev main_while0b_cst_45 : Ref sig .tc := ⟨.hbm, 313, rfl⟩
abbrev main_while0b_v215 : Ref sig .tc := ⟨.hbm, 314, rfl⟩
abbrev main_while0b_v216 : Ref sig .tc := ⟨.hbm, 315, rfl⟩
abbrev main_while0b_v217 : Ref sig .tc := ⟨.hbm, 316, rfl⟩
abbrev main_while0b_v218 : Ref sig .tc := ⟨.hbm, 317, rfl⟩
abbrev main_while0b_v219 : Ref sig .tc := ⟨.hbm, 318, rfl⟩
abbrev main_while0b_v220 : Ref sig .tc := ⟨.hbm, 319, rfl⟩
abbrev main_while0b_v221 : Ref sig .tc := ⟨.hbm, 320, rfl⟩
abbrev main_while0b_v222 : Ref sig .tc := ⟨.hbm, 321, rfl⟩
abbrev main_while0b_cst_46 : Ref sig .tc := ⟨.hbm, 322, rfl⟩
abbrev main_while0b_v223 : Ref sig .tc := ⟨.hbm, 323, rfl⟩
abbrev main_while0b_v224 : Ref sig .tc := ⟨.hbm, 324, rfl⟩
abbrev main_while0b_v225 : Ref sig .tc := ⟨.hbm, 325, rfl⟩
abbrev main_while0b_v226 : Ref sig .tc := ⟨.hbm, 326, rfl⟩
abbrev main_while0b_v227 : Ref sig .tc := ⟨.hbm, 327, rfl⟩
abbrev main_while0b_v228 : Ref sig .tc := ⟨.hbm, 328, rfl⟩
abbrev main_while0b_call9_cst : Ref sig .tc := ⟨.hbm, 329, rfl⟩
abbrev main_while0b_call9_v0 : Ref sig .tc := ⟨.hbm, 330, rfl⟩
abbrev main_while0b_v229 : Ref sig .tc := ⟨.hbm, 331, rfl⟩
abbrev main_while0b_v230 : Ref sig .tc := ⟨.hbm, 332, rfl⟩
abbrev main_while0b_v231 : Ref sig .tc := ⟨.hbm, 333, rfl⟩
abbrev main_while0b_v232 : Ref sig .tc := ⟨.hbm, 334, rfl⟩
abbrev main_while0b_v233 : Ref sig .tc := ⟨.hbm, 335, rfl⟩
abbrev main_while0b_v234 : Ref sig .tc := ⟨.hbm, 336, rfl⟩
abbrev main_while0b_v235 : Ref sig .tc := ⟨.hbm, 337, rfl⟩
abbrev main_while0b_cst_47 : Ref sig .tc := ⟨.hbm, 338, rfl⟩
abbrev main_while0b_v236 : Ref sig .tc := ⟨.hbm, 339, rfl⟩
abbrev main_while0b_v237 : Ref sig .tc := ⟨.hbm, 340, rfl⟩
abbrev main_while0b_cst_48 : Ref sig .tc := ⟨.hbm, 341, rfl⟩
abbrev main_while0b_v238 : Ref sig .tc := ⟨.hbm, 342, rfl⟩
abbrev main_while0b_v239 : Ref sig .tc := ⟨.hbm, 343, rfl⟩
abbrev main_while0b_cst_49 : Ref sig .tc := ⟨.hbm, 344, rfl⟩
abbrev main_while0b_v240 : Ref sig .tc := ⟨.hbm, 345, rfl⟩
abbrev main_while0b_v241 : Ref sig .tc := ⟨.hbm, 346, rfl⟩
abbrev main_while0b_v242 : Ref sig .tc := ⟨.hbm, 347, rfl⟩
abbrev main_while0b_v243 : Ref sig .tc := ⟨.hbm, 348, rfl⟩
abbrev main_while0b_v244 : Ref sig .tc := ⟨.hbm, 349, rfl⟩
abbrev main_while0b_v245 : Ref sig .tc := ⟨.hbm, 350, rfl⟩
abbrev main_while0b_v246 : Ref sig .tc := ⟨.hbm, 351, rfl⟩
abbrev main_while0b_v247 : Ref sig .tc := ⟨.hbm, 352, rfl⟩
abbrev main_while0b_call10_v0 : Ref sig .tc := ⟨.hbm, 353, rfl⟩
abbrev main_while0b_call10_c : Ref sig .tc := ⟨.hbm, 354, rfl⟩
abbrev main_while0b_call10_c_0 : Ref sig .tc := ⟨.hbm, 355, rfl⟩
abbrev main_while0b_v248 : Ref sig .tc := ⟨.hbm, 356, rfl⟩
abbrev main_while0b_c_50 : Ref sig .tc := ⟨.hbm, 357, rfl⟩
abbrev main_while0b_v249 : Ref sig .tc := ⟨.hbm, 358, rfl⟩
abbrev main_v150 : Ref sig .tc := ⟨.hbm, 359, rfl⟩

abbrev nD : Nat := 1
abbrev τ : Topo := Topo.v7x

variable {F : FTy → Type} [FloatOps F]

abbrev main_while0_count : Scf.Loop 32 := ⟨0#32, 2048#32, 1#32⟩
-- ==== Proof.Cells.lean ====
/-
  What the body leaves at a point of the grid, in the output's block and in the scratch it carries, over any float values; the
  proof data of the pipeline.
-/
module

public import proofs.«01_k».proof.Proof.Gen.KernelIdeal.Frame.RunB
public import Idealize.ShloMosaic.Lib.Claim

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S8x64x1024 .f32)
  (harg1 : arg1.IsWhole) (arg2 : Memref sig .tc .vmem S6x8x1x1024 .f32)
  (harg2 : arg2.IsWhole) (arg3 : Memref sig .tc .vmem S1x1024 .f32)
  (harg3 : arg3.IsWhole) (arg4 : Memref sig .tc .vmem S1024x2560 .bf16)
  (harg4 : arg4.IsWhole) (arg5 : Memref sig .tc .vmem S4x512 .f32)
  (harg5 : arg5.IsWhole) (arg6 : Memref sig .tc .vmem S1x512 .f32)
  (harg6 : arg6.IsWhole) (arg7 : Memref sig .tc .vmem S2x256x512 .bf16)
  (harg7 : arg7.IsWhole) (arg8 : Memref sig .tc .vmem S1x512 .f32)
  (harg8 : arg8.IsWhole) (arg9 : Memref sig .tc .vmem S1x512 .f32)
  (harg9 : arg9.IsWhole) (arg10 : Memref sig .tc .vmem S1x512 .f32)
  (harg10 : arg10.IsWhole) (arg11 : Memref sig .tc .vmem S3x512 .f32)
  (harg11 : arg11.IsWhole) (arg12 : Memref sig .tc .vmem S1x512 .f32)
  (harg12 : arg12.IsWhole) (arg13 : Memref sig .tc .vmem S1x512 .f32)
  (harg13 : arg13.IsWhole) (arg14 : Memref sig .tc .vmem S256x256 .bf16)
  (harg14 : arg14.IsWhole) (arg15 : Memref sig .tc .vmem S1024x1024 .bf16)
  (harg15 : arg15.IsWhole) (arg16 : Memref sig .tc .vmem S1x1024 .f32)
  (harg16 : arg16.IsWhole) (arg17 : Memref sig .tc .vmem S1024x4096 .bf16)
  (harg17 : arg17.IsWhole) (arg18 : Memref sig .tc .vmem S4096x1024 .bf16)
  (harg18 : arg18.IsWhole) (arg19 : Memref sig .tc .vmem S1x1024 .f32)
  (harg19 : arg19.IsWhole) (arg20 : Memref sig .tc .vmem S8x64x1024 .f32)
  (harg20 : arg20.IsWhole) (arg21 : Memref sig .tc .vmem S8x8x512 .f32)
  (harg21 : arg21.IsWhole) (arg22 : Memref sig .tc .vmem S8x8x512 .f32)
  (harg22 : arg22.IsWhole) (arg23 : Memref sig .tc .vmem S8x512 .f32)
  (harg23 : arg23.IsWhole) (arg24 : Memref sig .tc .vmem S4x576x128 .f32)
  (harg24 : arg24.IsWhole) (arg25 : Memref sig .tc .vmem S4x576x128 .f32)
  (harg25 : arg25.IsWhole) (arg26 : Memref sig .tc .vmem S512x1024 .bf16)
  (harg26 : arg26.IsWhole) (arg27 : Memref sig .tc .vmem S8x64x1024 .f32)
  (harg27 : arg27.IsWhole) (arg28 : Memref sig .tc .vmem S512x1024 .bf16)
  (harg28 : arg28.IsWhole) (arg29 : Memref sig .tc .vmem S512x4096 .bf16)
  (harg29 : arg29.IsWhole) (arg30 : Memref sig .tc .vmem S512x1024 .f32)
  (harg30 : arg30.IsWhole) (arg31 : Memref sig .tc .vmem S512x512 .bf16)
  (harg31 : arg31.IsWhole) (arg32 : Memref sig .tc .vmem S512x512 .bf16)
  (harg32 : arg32.IsWhole) (arg33 : Memref sig .tc .vmem S512x512 .bf16)
  (harg33 : arg33.IsWhole) (arg34 : Memref sig .tc .vmem S512x1024 .bf16)
  (harg34 : arg34.IsWhole)
  (hc0 : cond0_0 i)
  (x0 : Vec F S8x64x1024 .f32) (x1 : Vec F S6x8x1x1024 .f32) (x2 : Vec F S1x1024 .f32) (x3 : Vec F S1024x2560 .bf16) (x4 : Vec F S4x512 .f32) (x5 : Vec F S1x512 .f32) (x6 : Vec F S2x256x512 .bf16) (x7 : Vec F S1x512 .f32) (x8 : Vec F S1x512 .f32) (x9 : Vec F S1x512 .f32) (x10 : Vec F S3x512 .f32) (x11 : Vec F S1x512 .f32) (x12 : Vec F S1x512 .f32) (x13 : Vec F S256x256 .bf16) (x14 : Vec F S1024x1024 .bf16) (x15 : Vec F S1x1024 .f32) (x16 : Vec F S1024x4096 .bf16) (x17 : Vec F S4096x1024 .bf16) (x18 : Vec F S1x1024 .f32)

/-- The pieces that case A stores in the output's block cover it. -/
theorem cover0_A_19 (y : S8x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).1 S8x64x1024.size (by sl_kernel_rfl) y

/-- What case A leaves in the output's block. -/
def out0_A_19 : Vec F S8x64x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).1)

/-- The pieces that case A stores in scratch `arg21` cover it. -/
theorem scover0_A_0 (y : S8x8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.1 S8x8x512.size (by sl_kernel_rfl) y

/-- What case A leaves in scratch `arg21`. -/
def sout0_A_0 : Vec F S8x8x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.1)

/-- The pieces that case A stores in scratch `arg22` cover it. -/
theorem scover0_A_1 (y : S8x8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.1 S8x8x512.size (by sl_kernel_rfl) y

/-- What case A leaves in scratch `arg22`. -/
def sout0_A_1 : Vec F S8x8x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.1)

/-- The pieces that case A stores in scratch `arg23` cover it. -/
theorem scover0_A_2 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.1 (by sl_whole_mem) y

/-- What case A leaves in scratch `arg23`. -/
def sout0_A_2 : Vec F S8x512 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.1)

/-- The pieces that case A stores in scratch `arg27` cover it. -/
theorem scover0_A_6 (y : S8x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.1 S8x64x1024.size (by sl_kernel_rfl) y

/-- What case A leaves in scratch `arg27`. -/
def sout0_A_6 : Vec F S8x64x1024 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.1)

/-- The pieces that case A stores in scratch `arg29` cover it. -/
theorem scover0_A_8 (y : S512x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.2.1 (by sl_whole_mem) y

/-- What case A leaves in scratch `arg29`. -/
def sout0_A_8 : Vec F S512x4096 .bf16 :=
  VS0_8.read (Elt F) (VS0_8.writes (Elt F) VS0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.2.1)

end

section

variable (c : Dev nD) (i : grid0.Coords) (arg1 : Memref sig .tc .vmem S8x64x1024 .f32)
  (harg1 : arg1.IsWhole) (arg2 : Memref sig .tc .vmem S6x8x1x1024 .f32)
  (harg2 : arg2.IsWhole) (arg3 : Memref sig .tc .vmem S1x1024 .f32)
  (harg3 : arg3.IsWhole) (arg4 : Memref sig .tc .vmem S1024x2560 .bf16)
  (harg4 : arg4.IsWhole) (arg5 : Memref sig .tc .vmem S4x512 .f32)
  (harg5 : arg5.IsWhole) (arg6 : Memref sig .tc .vmem S1x512 .f32)
  (harg6 : arg6.IsWhole) (arg7 : Memref sig .tc .vmem S2x256x512 .bf16)
  (harg7 : arg7.IsWhole) (arg8 : Memref sig .tc .vmem S1x512 .f32)
  (harg8 : arg8.IsWhole) (arg9 : Memref sig .tc .vmem S1x512 .f32)
  (harg9 : arg9.IsWhole) (arg10 : Memref sig .tc .vmem S1x512 .f32)
  (harg10 : arg10.IsWhole) (arg11 : Memref sig .tc .vmem S3x512 .f32)
  (harg11 : arg11.IsWhole) (arg12 : Memref sig .tc .vmem S1x512 .f32)
  (harg12 : arg12.IsWhole) (arg13 : Memref sig .tc .vmem S1x512 .f32)
  (harg13 : arg13.IsWhole) (arg14 : Memref sig .tc .vmem S256x256 .bf16)
  (harg14 : arg14.IsWhole) (arg15 : Memref sig .tc .vmem S1024x1024 .bf16)
  (harg15 : arg15.IsWhole) (arg16 : Memref sig .tc .vmem S1x1024 .f32)
  (harg16 : arg16.IsWhole) (arg17 : Memref sig .tc .vmem S1024x4096 .bf16)
  (harg17 : arg17.IsWhole) (arg18 : Memref sig .tc .vmem S4096x1024 .bf16)
  (harg18 : arg18.IsWhole) (arg19 : Memref sig .tc .vmem S1x1024 .f32)
  (harg19 : arg19.IsWhole) (arg20 : Memref sig .tc .vmem S8x64x1024 .f32)
  (harg20 : arg20.IsWhole) (arg21 : Memref sig .tc .vmem S8x8x512 .f32)
  (harg21 : arg21.IsWhole) (arg22 : Memref sig .tc .vmem S8x8x512 .f32)
  (harg22 : arg22.IsWhole) (arg23 : Memref sig .tc .vmem S8x512 .f32)
  (harg23 : arg23.IsWhole) (arg24 : Memref sig .tc .vmem S4x576x128 .f32)
  (harg24 : arg24.IsWhole) (arg25 : Memref sig .tc .vmem S4x576x128 .f32)
  (harg25 : arg25.IsWhole) (arg26 : Memref sig .tc .vmem S512x1024 .bf16)
  (harg26 : arg26.IsWhole) (arg27 : Memref sig .tc .vmem S8x64x1024 .f32)
  (harg27 : arg27.IsWhole) (arg28 : Memref sig .tc .vmem S512x1024 .bf16)
  (harg28 : arg28.IsWhole) (arg29 : Memref sig .tc .vmem S512x4096 .bf16)
  (harg29 : arg29.IsWhole) (arg30 : Memref sig .tc .vmem S512x1024 .f32)
  (harg30 : arg30.IsWhole) (arg31 : Memref sig .tc .vmem S512x512 .bf16)
  (harg31 : arg31.IsWhole) (arg32 : Memref sig .tc .vmem S512x512 .bf16)
  (harg32 : arg32.IsWhole) (arg33 : Memref sig .tc .vmem S512x512 .bf16)
  (harg33 : arg33.IsWhole) (arg34 : Memref sig .tc .vmem S512x1024 .bf16)
  (harg34 : arg34.IsWhole)
  (hc0 : ¬cond0_0 i)
  (x0 : Vec F S8x64x1024 .f32) (x1 : Vec F S6x8x1x1024 .f32) (x2 : Vec F S1x1024 .f32) (x3 : Vec F S1024x2560 .bf16) (x4 : Vec F S4x512 .f32) (x5 : Vec F S1x512 .f32) (x6 : Vec F S2x256x512 .bf16) (x7 : Vec F S1x512 .f32) (x8 : Vec F S1x512 .f32) (x9 : Vec F S1x512 .f32) (x10 : Vec F S3x512 .f32) (x11 : Vec F S1x512 .f32) (x12 : Vec F S1x512 .f32) (x13 : Vec F S256x256 .bf16) (x14 : Vec F S1024x1024 .bf16) (x15 : Vec F S1x1024 .f32) (x16 : Vec F S1024x4096 .bf16) (x17 : Vec F S4096x1024 .bf16) (x18 : Vec F S1x1024 .f32) (xs0 : Vec F S8x8x512 .f32) (xs1 : Vec F S8x8x512 .f32) (xs2 : Vec F S8x512 .f32) (xs6 : Vec F S8x64x1024 .f32) (xs8 : Vec F S512x4096 .bf16)

/-- The pieces that case B stores in the output's block cover it. -/
theorem cover0_B_19 (y : S8x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).1 S8x64x1024.size (by sl_kernel_rfl) y

/-- What case B leaves in the output's block. -/
def out0_B_19 : Vec F S8x64x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).1)

/-- The pieces that case B stores in scratch `arg21` cover it. -/
theorem scover0_B_0 (y : S8x8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.1 S8x8x512.size (by sl_kernel_rfl) y

/-- What case B leaves in scratch `arg21`. -/
def sout0_B_0 : Vec F S8x8x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.1)

/-- The pieces that case B stores in scratch `arg22` cover it. -/
theorem scover0_B_1 (y : S8x8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.1 S8x8x512.size (by sl_kernel_rfl) y

/-- What case B leaves in scratch `arg22`. -/
def sout0_B_1 : Vec F S8x8x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.1)

/-- The pieces that case B stores in scratch `arg23` cover it. -/
theorem scover0_B_2 (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.1 S8x128.size (by sl_kernel_rfl) y

/-- What case B leaves in scratch `arg23`. -/
def sout0_B_2 : Vec F S8x512 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.1)

/-- The pieces that case B stores in scratch `arg27` cover it. -/
theorem scover0_B_6 (y : S8x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.1 S8x64x1024.size (by sl_kernel_rfl) y

/-- What case B leaves in scratch `arg27`. -/
def sout0_B_6 : Vec F S8x64x1024 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.1)

/-- The pieces that case B stores in scratch `arg29` cover it. -/
theorem scover0_B_8 (y : S512x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.2.1 S512x1024.size (by sl_kernel_rfl) y

/-- What case B leaves in scratch `arg29`. -/
def sout0_B_8 : Vec F S512x4096 .bf16 :=
  VS0_8.read (Elt F) (VS0_8.writes (Elt F) VS0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.2.1)

/-! ## What the outputs hold after each point -/

end

/-- What the output's block and the five scratch buffers that the body carries hold after point `n`: the first point is case A,
    the others are case B over what the point before left. -/
def outsAt0 (c : Dev nD) : (n : ℕ) → n < cfg0.N → Vec F S8x64x1024 .f32 × Vec F S8x8x512 .f32 × Vec F S8x8x512 .f32 × Vec F S8x512 .f32 × Vec F S8x64x1024 .f32 × Vec F S512x4096 .bf16
  | 0, hn => (out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩))
  | n + 1, hn =>
    if h0 : (n + 1) % 33 = 0 then
      (out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩))
    else
      (out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 33 = 0) :
    outsAt0 m c t.val t.isLt = (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 33 = 0) :
    outsAt0 m c t.val t.isLt = (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- What holds of the scratch before point `n`: before the first point its contents are anything; afterwards the five carried
    buffers hold what the point before left, and the others anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.1) ∗ (∃ d, owns (c : Thread nD τ) scM0_7 fullShare d) ∗ owns (c : Thread nD τ) scM0_8 fullShare ((outsAt0 m c n hn).2.2.2.2.2) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.1) ∗ (∃ d, owns (c : Thread nD τ) scM0_7 fullShare d) ∗ owns (c : Thread nD τ) scM0_8 fullShare ((outsAt0 m c n hn).2.2.2.2.2) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2.2.1) ∗ (∃ d, owns (c : Thread nD τ) scM0_7 fullShare d) ∗ owns (c : Thread nD τ) scM0_8 fullShare ((outsAt0 m c (n - 1) (by omega)).2.2.2.2.2) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  cases n with
  | zero => exact absurd rfl hz
  | succ n => rfl

/-! ## The pipeline's proof data -/

/-- The proof data of the pipeline on a core: each input's buffer holds its block, the output's holds `outsAt0`, and the scratch
    is as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨_ + 20, h⟩ => absurd h (Nat.not_lt.2 (Nat.le_add_left _ _))
  Φ t := PhiS m c t.val (Nat.le_of_lt_succ t.isLt)
  q _ := fullShare
  owed _ := 0

/-- The arrays are what the region is entered with. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

end Cert.Proof.Run
-- ==== Proof.Launched.lean ====
/-
  The body keeps the pipeline's invariant at every point, so the program runs to its end: what its memory then holds.
-/
module

public import proofs.«01_k».proof.Proof.Cells
public import Idealize.ShloMosaic.Lib.Claim

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 25600000 in
/-- The body at any point: the inputs' buffers hold their blocks, the case is the first point's or the others', and the run of that
    case takes the carried scratch from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases hz : t.val = 0
    · rw [PhiS_castSucc m c t, PhiS_zero m c _ _ hz, PhiA0_eq]
      rw [outsAt0_A m c t h0]
      unfold out0_A_19 sout0_A_0 sout0_A_1 sout0_A_2 sout0_A_6 sout0_A_8; (try dsimp only)
      iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      iintro ⟨H0, H1, H2, H3, H4, H5, H6, H7, H8, H9, H10, H11, H12, H13, H14, H15, H16, H17, H18, ⟨%e19, H19⟩, ⟨%es0, HS0⟩, ⟨%es1, HS1⟩, ⟨%es2, HS2⟩, ⟨%fT3, HS3⟩, HS4, ⟨%fT5, HS5⟩, ⟨%es6, HS6⟩, ⟨%fT7, HS7⟩, ⟨%es8, HS8⟩, ⟨%fT9, HS9⟩, ⟨%fT10, HS10⟩, ⟨%fT11, HS11⟩, ⟨%fT12, HS12⟩, ⟨%fT13, HS13⟩⟩
      isplitl [HS0 HS1 HS2 HS3 HS4 HS5 HS6 HS7 HS8 HS9 HS10 HS11 HS12 HS13 Hg]
      · isplitl [HS0 HS1 HS2 HS3 HS4 HS5 HS6 HS7 HS8 HS9 HS10 HS11 HS12 HS13]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexact HS4
          isplitl [HS5]
          · iexists _; unfold owns; iexists _; isplitr
            swap; · iexact HS5
            ipureintro; rfl
          isplitl [HS6]
          · unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS7]
          · iexists _; unfold owns; iexists _; isplitr
            swap; · iexact HS7
            ipureintro; rfl
          isplitl [HS8]
          · unfold owns; iexists _; isplitr
            swap; · iexact HS8
            ipureintro; exact View.read_writes_of_cover _ _ _ _ _ (scover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS9]
          · iexists _; unfold owns; iexists _; isplitr
            swap; · iexact HS9
            ipureintro; rfl
          isplitl [HS10]
          · iexists _; unfold owns; iexists _; isplitr
            swap; · iexact HS10
            ipureintro; rfl
          isplitl [HS11]
          · iexists _; unfold owns; iexists _; isplitr
            swap; · iexact HS11
            ipureintro; rfl
          isplitl [HS12]
          · iexists _; unfold owns; iexists _; isplitr
            swap; · iexact HS12
            ipureintro; rfl
          iexists _; unfold owns; iexists _; isplitr
          swap; · iexact HS13
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 33 := lt_of_lt_of_eq t.isLt (show cfg0.N = 33 from N_0); omega
  · by_cases hz : t.val = 0
    · exfalso; have hN : t.val < 33 := lt_of_lt_of_eq t.isLt (show cfg0.N = 33 from N_0); omega
    · rw [PhiS_castSucc m c t, PhiS_pos m c _ _ hz]
      rw [outsAt0_B m c t h0]
      unfold out0_B_19 sout0_B_0 sout0_B_1 sout0_B_2 sout0_B_6 sout0_B_8; (try dsimp only)
      iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ _ _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      iintro ⟨H0, H1, H2, H3, H4, H5, H6, H7, H8, H9, H10, H11, H12, H13, H14, H15, H16, H17, H18, ⟨%e19, H19⟩, ⟨%es0, HS0⟩, ⟨%es1, HS1⟩, ⟨%es2, HS2⟩, ⟨%fT3, HS3⟩, HS4, ⟨%fT5, HS5⟩, ⟨%es6, HS6⟩, ⟨%fT7, HS7⟩, ⟨%es8, HS8⟩, ⟨%fT9, HS9⟩, ⟨%fT10, HS10⟩, ⟨%fT11, HS11⟩, ⟨%fT12, HS12⟩, ⟨%fT13, HS13⟩⟩
      isplitl [HS0 HS1 HS2 HS3 HS4 HS5 HS6 HS7 HS8 HS9 HS10 HS11 HS12 HS13 Hg]
      · isplitl [HS0 HS1 HS2 HS3 HS4 HS5 HS6 HS7 HS8 HS9 HS10 HS11 HS12 HS13]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexact HS4
          isplitl [HS5]
          · iexists _; unfold owns; iexists _; isplitr
            swap; · iexact HS5
            ipureintro; rfl
          isplitl [HS6]
          · unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS7]
          · iexists _; unfold owns; iexists _; isplitr
            swap; · iexact HS7
            ipureintro; rfl
          isplitl [HS8]
          · unfold owns; iexists _; isplitr
            swap; · iexact HS8
            ipureintro; exact View.read_writes_of_cover _ _ _ _ _ (scover0_B_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS9]
          · iexists _; unfold owns; iexists _; isplitr
            swap; · iexact HS9
            ipureintro; rfl
          isplitl [HS10]
          · iexists _; unfold owns; iexists _; isplitr
            swap; · iexact HS10
            ipureintro; rfl
          isplitl [HS11]
          · iexists _; unfold owns; iexists _; isplitr
            swap; · iexact HS11
            ipureintro; rfl
          isplitl [HS12]
          · iexists _; unfold owns; iexists _; isplitr
            swap; · iexact HS12
            ipureintro; rfl
          iexists _; unfold owns; iexists _; isplitr
          swap; · iexact HS13
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- What the launch calls at a point is the body at that point. -/
theorem defs₀_row (t : Fin cfg0.N) :
    defs₀ (F := F) .tc cfg0.body (cfg0.bodyArgs t (cfg0.slots t)) = bodyAt0 t := by
  unfold defs₀; rw [Defs.onTc_tc]

set_option maxHeartbeats 25600000 in
/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts from is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the contents of the carried scratch may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11, HS12, HS13⟩, Hg⟩
  isplitl [HS0 HS1 HS2 HS3 HS4 HS5 HS6 HS7 HS8 HS9 HS10 HS11 HS12 HS13]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexists _; iexact HS6
    isplitl [HS7]
    · iexact HS7
    isplitl [HS8]
    · iexists _; iexact HS8
    isplitl [HS9]
    · iexact HS9
    isplitl [HS10]
    · iexact HS10
    isplitl [HS11]
    · iexact HS11
    isplitl [HS12]
    · iexact HS12
    iexact HS13
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

set_option backward.isDefEq.respectTransparency.types false in
/-- Every execution of `main` ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Proof.Run

end
-- ==== Proof.Frames.lean ====
/-
  The kernel's frame, from the run of the ideal kernel taken over the machine's words: the two programs have the same text.
-/
module

public import proofs.«01_k».proof.Defs
public import proofs.«01_k».proof.Proof.Gen.Kernel
public import proofs.«01_k».proof.Proof.Launched

@[expose] public section

set_option maxRecDepth 65536

noncomputable section

namespace Cert.Proof

open Idealize.ShloMosaic Idealize.ShloMosaic.TcCoe Idealize.ShloMosaic.Tactic Idealize.SL.Sem

/-- The kernel's statement is the same with the ideal kernel's text in it. -/
theorem same : Cert.quiescent_Kernel (hKernel := Cert.Kernel.Gen.facts) =
  (∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)) := by
  sl_kernel_rfl

/-- The kernel's frame. -/
theorem frame_kernel : Cert.quiescent_Kernel (hKernel := Cert.Kernel.Gen.facts) := by
  rw [same]
  exact fun m ρ _ => Run.frame m ρ

/-- The ideal kernel's frame. -/
theorem frame_kernelIdeal : Cert.quiescent_KernelIdeal (hKernelIdeal := Cert.KernelIdeal.Gen.facts) := fun m ρ _ => Run.frame m ρ

end Cert.Proof

end
-- ==== Proof.Spec.lean ====
/-
  The layer as one function of its arrays, index by index over the extended reals: the first norm and its modulation, the
  projection, the causal convolutions, the gates, the recurrence, the head norms, the output product, the second norm, the
  two-layer perceptron and the last norm. Both programs are shown to compute `Inp.out`.
-/
module

public import Idealize.ShloMosaic.Lib.Pointwise

@[expose] public section

noncomputable section

namespace Cert.Proof

open Idealize.ShloMosaic

/-- The nineteen arrays the layer reads. -/
structure Inp where
  x : FVec Ideal ⟨3, ![8, 2048, 1024]⟩ .f32
  md : FVec Ideal ⟨2, ![8, 6144]⟩ .f32
  n1g : FVec Ideal ⟨2, ![1, 1024]⟩ .f32
  win : FVec Ideal ⟨3, ![1, 1024, 2560]⟩ .f32
  lcw : FVec Ideal ⟨3, ![1, 4, 512]⟩ .f32
  lcb : FVec Ideal ⟨2, ![1, 512]⟩ .f32
  gaw : FVec Ideal ⟨4, ![1, 8, 64, 64]⟩ .f32
  gab : FVec Ideal ⟨2, ![1, 512]⟩ .f32
  gxw : FVec Ideal ⟨4, ![1, 8, 64, 64]⟩ .f32
  gxb : FVec Ideal ⟨2, ![1, 512]⟩ .f32
  ap : FVec Ideal ⟨2, ![1, 512]⟩ .f32
  scw : FVec Ideal ⟨3, ![1, 3, 512]⟩ .f32
  lg : FVec Ideal ⟨2, ![1, 512]⟩ .f32
  cg : FVec Ideal ⟨2, ![1, 512]⟩ .f32
  wout : FVec Ideal ⟨3, ![1, 1024, 1024]⟩ .f32
  n2g : FVec Ideal ⟨2, ![1, 1024]⟩ .f32
  w1 : FVec Ideal ⟨3, ![1, 1024, 4096]⟩ .f32
  w2 : FVec Ideal ⟨3, ![1, 4096, 1024]⟩ .f32
  fg : FVec Ideal ⟨1, ![1024]⟩ .f32

/-- The norms' small constant, the width of the model, the width of a head. -/
abbrev eps : EReal := Ideal.ofBits .f32 0x358637BD#32
abbrev wid : EReal := Ideal.ofBits .f32 0x44800000#32
abbrev hwid : EReal := Ideal.ofBits .f32 0x42800000#32

/-- The factor a root-mean-square norm multiplies a row of the model's width by. -/
def rms (v : Fin 1024 → EReal) : EReal := Ideal.rsqrt (Ideal.div (∑ k, v k * v k) wid + eps)

/-- Lane `i` of the head that lane `c` belongs to. -/
def lane (c : Fin 512) (i : Fin 64) : Fin 512 := ⟨c.val / 64 * 64 + i.val, by omega⟩

/-- The factor of lane `c`'s head. -/
def hrms (v : Fin 512 → EReal) (c : Fin 512) : EReal :=
  Ideal.rsqrt (Ideal.div (∑ i : Fin 64, v (lane c i) * v (lane c i)) hwid + eps)

/-- The logistic function as both programs spell it. -/
def sigm (z : EReal) : EReal := Ideal.div 1 (1 + Ideal.exp (-z))

/-- The gelu of the tanh kind. -/
def gelu (u : EReal) : EReal :=
  u * (Ideal.ofBits .f32 0x3F000000#32 *
    (1 + Ideal.tanh (Ideal.ofBits .f32 0x3F4C422A#32 * (u + Ideal.ofBits .f32 0x3D372713#32 * (u * u * u)))))

namespace Inp

variable (I : Inp)

/-- Part `k` of the modulation. -/
def mod (k : Fin 6) (b : Fin 8) (d : Fin 1024) : EReal := I.md (ix2 b ⟨k.val * 1024 + d.val, by omega⟩)

/-- The first norm, modulated. -/
def h (b : Fin 8) (t : Fin 2048) (d : Fin 1024) : EReal :=
  I.x (ix3 b t d) * rms (fun k => I.x (ix3 b t k)) * I.n1g (ix2 0 d) * (1 + I.mod 1 b d) + I.mod 0 b d

/-- The projection. -/
def u (b : Fin 8) (t : Fin 2048) (n : Fin 2560) : EReal := ∑ k : Fin 1024, I.h b t k * I.win (ix3 0 k n)

/-- The convolution's value `j` steps back of a row over time: zero before the start. -/
def back (f : Fin 2048 → EReal) (t : Fin 2048) (j : ℕ) : EReal :=
  if j ≤ t.val then f ⟨t.val - j, by omega⟩ else 0

def ulx (b : Fin 8) (t : Fin 2048) (c : Fin 512) : EReal := I.u b t ⟨c.val, by omega⟩
def uly (b : Fin 8) (t : Fin 2048) (c : Fin 512) : EReal := I.u b t ⟨512 + c.val, by omega⟩
def ub (b : Fin 8) (t : Fin 2048) (c : Fin 512) : EReal := I.u b t ⟨1024 + c.val, by omega⟩
def cv (b : Fin 8) (t : Fin 2048) (c : Fin 512) : EReal :=
  I.u b t ⟨1536 + c.val, by omega⟩ * I.u b t ⟨2048 + c.val, by omega⟩

/-- The recurrence's input after its convolution. -/
def xl (b : Fin 8) (t : Fin 2048) (c : Fin 512) : EReal :=
  back (fun s => I.ulx b s c) t 3 * I.lcw (ix3 0 0 c) + back (fun s => I.ulx b s c) t 2 * I.lcw (ix3 0 1 c)
    + back (fun s => I.ulx b s c) t 1 * I.lcw (ix3 0 2 c) + I.ulx b t c * I.lcw (ix3 0 3 c) + I.lcb (ix2 0 c)

/-- A gate: the head's product, its bias, the logistic function. -/
def gate (w : FVec Ideal ⟨4, ![1, 8, 64, 64]⟩ .f32) (bias : FVec Ideal ⟨2, ![1, 512]⟩ .f32) (b : Fin 8) (t : Fin 2048)
    (c : Fin 512) : EReal :=
  sigm ((∑ i : Fin 64, I.xl b t (lane c i) * w (ix4 0 ⟨c.val / 64, by omega⟩ i ⟨c.val % 64, by omega⟩)) + bias (ix2 0 c))

/-- The softplus of the decay parameter. -/
def sp (c : Fin 512) : EReal :=
  max (I.ap (ix2 0 c)) 0 + Ideal.log1p (Ideal.exp (-max (I.ap (ix2 0 c)) (-I.ap (ix2 0 c))))

/-- The logarithm of the decay, and the decay. -/
def la (b : Fin 8) (t : Fin 2048) (c : Fin 512) : EReal :=
  Ideal.ofBits .f32 0xC1000000#32 * I.gate I.gaw I.gab b t c * I.sp c
def a (b : Fin 8) (t : Fin 2048) (c : Fin 512) : EReal := Ideal.exp (I.la b t c)

/-- What the recurrence adds. -/
def bx (b : Fin 8) (t : Fin 2048) (c : Fin 512) : EReal :=
  (if t.val = 0 then 1 else Ideal.sqrt (1 - I.a b t c * I.a b t c)) * (I.gate I.gxw I.gxb b t c * I.xl b t c)

/-- The short convolution's branch, before its norm. -/
def yc (b : Fin 8) (t : Fin 2048) (c : Fin 512) : EReal :=
  I.ub b t c * (back (fun s => I.cv b s c) t 2 * I.scw (ix3 0 0 c) + back (fun s => I.cv b s c) t 1 * I.scw (ix3 0 1 c)
    + I.cv b t c * I.scw (ix3 0 2 c))

/-- The recurrence's state after `n` steps. -/
def hs (b : Fin 8) (c : Fin 512) : ℕ → EReal
  | 0 => 0
  | n + 1 => if h : n < 2048 then I.a b ⟨n, h⟩ c * hs b c n + I.bx b ⟨n, h⟩ c else 0

def yl (b : Fin 8) (t : Fin 2048) (c : Fin 512) : EReal := gelu (I.uly b t c) * I.hs b c (t.val + 1)

/-- The two branches after their norms, side by side. -/
def mix (b : Fin 8) (t : Fin 2048) (k : Fin 1024) : EReal :=
  if hk : k.val < 512 then I.yl b t ⟨k.val, hk⟩ * hrms (I.yl b t) ⟨k.val, hk⟩ * I.lg (ix2 0 ⟨k.val, hk⟩)
  else I.yc b t ⟨k.val - 512, by omega⟩ * hrms (I.yc b t) ⟨k.val - 512, by omega⟩ * I.cg (ix2 0 ⟨k.val - 512, by omega⟩)

/-- The residual after the mixer. -/
def x1 (b : Fin 8) (t : Fin 2048) (d : Fin 1024) : EReal :=
  I.x (ix3 b t d) + I.mod 2 b d * ∑ k : Fin 1024, I.mix b t k * I.wout (ix3 0 k d)

/-- The second norm, modulated; the hidden layer; the perceptron's residual; the result. -/
def h2 (b : Fin 8) (t : Fin 2048) (d : Fin 1024) : EReal :=
  I.x1 b t d * rms (I.x1 b t) * I.n2g (ix2 0 d) * (1 + I.mod 4 b d) + I.mod 3 b d
def hid (b : Fin 8) (t : Fin 2048) (f : Fin 4096) : EReal :=
  max (∑ k : Fin 1024, I.h2 b t k * I.w1 (ix3 0 k f)) 0 * max (∑ k : Fin 1024, I.h2 b t k * I.w1 (ix3 0 k f)) 0
def x2 (b : Fin 8) (t : Fin 2048) (d : Fin 1024) : EReal :=
  I.x1 b t d + I.mod 5 b d * ∑ f : Fin 4096, I.hid b t f * I.w2 (ix3 0 f d)
def out (b : Fin 8) (t : Fin 2048) (d : Fin 1024) : EReal :=
  I.x2 b t d * rms (I.x2 b t) * I.fg (ix1 d)

end Inp

end Cert.Proof

end
-- ==== Proof.Scan.lean ====
/-
  The recurrence inside one point of the grid. A chunk's coefficients lie in two scratch planes, one row per (batch entry,
  time), at a pitch of 72 rows per batch entry; each of the 64 time steps takes one row of every batch entry, of one of the
  four lane slabs at a time, and writes the new state over the row of the second plane. This module says what the two planes
  and the state hold after any number of these steps.
-/
module

public import proofs.«01_k».proof.Proof.Gen.KernelIdeal.Skeleton
public import proofs.«01_k».proof.Proof.Spec
public import Idealize.ShloMosaic.Lib.Pipeline.Value

@[expose] public section

set_option maxRecDepth 16384
set_option backward.isDefEq.respectTransparency false

noncomputable section

namespace Cert.Proof.Scan

open Idealize.ShloMosaic Cert.KernelIdeal Cert.KernelIdeal.Gen

/-- One row of every batch entry, of one lane slab: row `j` of each pitch of 72 rows. -/
def row (s j : ℕ) (hs : s < 4) (hj : j < 64) : Rect S4x576x128 where
  off := ![s, j, 0]
  size := S1x8x128.size
  stride := ![1, 72, 1]
  inb a := by
    match a with
    | ⟨0, _⟩ => exact Or.inr (show s + 1 * (1 - 1) < 4 by omega)
    | ⟨1, _⟩ => exact Or.inr (show j + 72 * (8 - 1) < 576 by omega)
    | ⟨2, _⟩ => exact Or.inr (show 0 + 1 * (128 - 1) < 128 by omega)
  stride_pos a := by
    match a with
    | ⟨0, _⟩ => exact Nat.one_pos
    | ⟨1, _⟩ => exact (show 0 < 72 by omega)
    | ⟨2, _⟩ => exact Nat.one_pos

/-- The 64 rows of one batch entry, of one lane slab. -/
def tile (s b : ℕ) (hs : s < 4) (hb : b < 8) : Rect S4x576x128 :=
  Rect.unit ![s, b * 72, 0] S1x64x128.size fun a => by
    match a with
    | ⟨0, _⟩ => exact (show s + 1 ≤ 4 by omega)
    | ⟨1, _⟩ => exact (show b * 72 + 64 ≤ 576 by omega)
    | ⟨2, _⟩ => exact (show 0 + 128 ≤ 128 by omega)

theorem tile_slices (s b : ℕ) (hs : s < 4) (hb : b < 8) : S8x64x512.Slices ![b, 0, s * 128] S1x64x128 :=
  ⟨rfl, fun a => by
    match a with
    | ⟨0, _⟩ => exact (show b + 1 ≤ 8 by omega)
    | ⟨1, _⟩ => exact (show 0 + 64 ≤ 64 by omega)
    | ⟨2, _⟩ => exact (show s * 128 + 128 ≤ 512 by omega)⟩

/-- The stores that lay a chunk's array out in a scratch plane, the last first. -/
def slab (v : FVec Ideal S8x64x512 .f32) : ℕ → List (View.Piece (Elt Ideal) S4x576x128 .f32)
  | 0 => []
  | n + 1 => ⟨tile (n % 4) (n / 4 % 8) (Nat.mod_lt _ (by decide)) (Nat.mod_lt _ (by decide)),
      shapeCast S1x64x128 (shapeCast S64x128 (extractStridedSlice S1x64x128 ![n / 4 % 8, 0, (n % 4) * 128] v
        (tile_slices _ _ (Nat.mod_lt _ (by decide)) (Nat.mod_lt _ (by decide)))) shapeCasts_S1x64x128_S64x128)
        shapeCasts_S64x128_S1x64x128⟩ :: slab v n

/-- The second plane's stores so far and the four slabs' states, the next one to advance first. -/
structure St where
  L : List (View.Piece (Elt Ideal) S4x576x128 .f32)
  p0 : FVec Ideal S8x128 .f32
  p1 : FVec Ideal S8x128 .f32
  p2 : FVec Ideal S8x128 .f32
  p3 : FVec Ideal S8x128 .f32

section
variable {κ : Kind} {sp : Space} (va vb : View sig κ sp S4x576x128 .f32)
  (A : List (View.Piece (Elt Ideal) S4x576x128 .f32))

/-- The new state of one slab at one time step. -/
def adv (s j : ℕ) (hs : s < 4) (hj : j < 64) (L : List (View.Piece (Elt Ideal) S4x576x128 .f32))
    (p : FVec Ideal S8x128 .f32) : FVec Ideal S8x128 .f32 :=
  addf (mulf (shapeCast S8x128 (va.readCov A (row s j hs hj).toLoadRect) shapeCasts_S1x8x128_S8x128) p)
    (shapeCast S8x128 (vb.readCov L (row s j hs hj).toLoadRect) shapeCasts_S1x8x128_S8x128)

theorem adv_scalar (x y : FVec Ideal S1x8x128 .f32) (p : FVec Ideal S8x128 .f32) (b : Fin 8) (l : Fin 128) :
    addf (mulf (shapeCast S8x128 x shapeCasts_S1x8x128_S8x128) p) (shapeCast S8x128 y shapeCasts_S1x8x128_S8x128) (ix2 b l)
      = x (ix3 0 b l) * p (ix2 b l) + y (ix3 0 b l) := by
  pointwise

theorem unrow (x : FVec Ideal S8x128 .f32) (b : Fin 8) (l : Fin 128) :
    shapeCast S1x8x128 x shapeCasts_S8x128_S1x8x128 (ix3 0 b l) = x (ix2 b l) := by
  pointwise

theorem adv_apply (s j : ℕ) (hs : s < 4) (hj : j < 64) (L : List (View.Piece (Elt Ideal) S4x576x128 .f32))
    (p : FVec Ideal S8x128 .f32) (b : Fin 8) (l : Fin 128) :
    adv va vb A s j hs hj L p (ix2 b l)
      = View.canon A ((row s j hs hj).idx (ix3 0 b l)) * p (ix2 b l) + View.canon L ((row s j hs hj).idx (ix3 0 b l)) := by
  unfold adv
  rw [View.readCov_eq_canon', View.readCov_eq_canon']
  exact adv_scalar _ _ p b l

/-- One slab advanced by one time step, and its new state stored. -/
def step (n : ℕ) (σ : St) : St where
  L := ⟨row (n % 4) (n / 4 % 64) (Nat.mod_lt _ (by decide)) (Nat.mod_lt _ (by decide)),
    shapeCast S1x8x128 (adv va vb A (n % 4) (n / 4 % 64) (Nat.mod_lt _ (by decide)) (Nat.mod_lt _ (by decide)) σ.L σ.p0)
      shapeCasts_S8x128_S1x8x128⟩ :: σ.L
  p0 := σ.p1
  p1 := σ.p2
  p2 := σ.p3
  p3 := adv va vb A (n % 4) (n / 4 % 64) (Nat.mod_lt _ (by decide)) (Nat.mod_lt _ (by decide)) σ.L σ.p0

def run (σ : St) : ℕ → St
  | 0 => σ
  | n + 1 => step va vb A n (run σ n)

end

/-! ## What the stores leave -/

theorem row_idx (s j : ℕ) (hs : s < 4) (hj : j < 64) (b : Fin 8) (l : Fin 128) :
    (row s j hs hj).idx (ix3 0 b l) = ix3 ⟨s, hs⟩ ⟨b * 72 + j, by omega⟩ l := by
  funext a
  match a with
  | ⟨0, _⟩ => exact Fin.ext (show s + 1 * 0 = s by omega)
  | ⟨1, _⟩ => exact Fin.ext (show j + 72 * b.val = b.val * 72 + j by omega)
  | ⟨2, _⟩ => exact Fin.ext (show 0 + 1 * l.val = l.val by omega)

theorem tile_idx (s b : ℕ) (hs : s < 4) (hb : b < 8) (j : Fin 64) (l : Fin 128) :
    (tile s b hs hb).idx (ix3 0 j l) = ix3 ⟨s, hs⟩ ⟨b * 72 + j, by omega⟩ l := by
  funext a
  match a with
  | ⟨0, _⟩ => exact Fin.ext (show s + 1 * 0 = s by omega)
  | ⟨1, _⟩ => exact Fin.ext (show b * 72 + 1 * j.val = b * 72 + j by omega)
  | ⟨2, _⟩ => exact Fin.ext (show 0 + 1 * l.val = l.val by omega)

theorem not_mem_row (s j : ℕ) (hs : s < 4) (hj : j < 64) (s' : Fin 4) (b : Fin 8) (j' : Fin 64) (l : Fin 128)
    (h : ¬(s'.val = s ∧ j'.val = j)) :
    (ix3 s' ⟨b * 72 + j', by omega⟩ l : S4x576x128.Idx) ∉ (row s j hs hj).set := by
  intro hm
  rw [LoadRect.mem_set] at hm
  obtain ⟨k0, h0, e0⟩ := hm ⟨0, by decide⟩
  obtain ⟨k1, h1, e1⟩ := hm ⟨1, by decide⟩
  have h0' : k0 < 1 := h0
  have h1' : k1 < 8 := h1
  have e0' : s'.val = s + 1 * k0 := e0
  have e1' : b.val * 72 + j'.val = j + 72 * k1 := e1
  have hb := b.isLt
  have hj' := j'.isLt
  exact h ⟨by omega, by omega⟩

theorem not_mem_tile (s b : ℕ) (hs : s < 4) (hb : b < 8) (s' : Fin 4) (b' : Fin 8) (j' : Fin 64) (l : Fin 128)
    (h : ¬(s'.val = s ∧ b'.val = b)) :
    (ix3 s' ⟨b' * 72 + j', by omega⟩ l : S4x576x128.Idx) ∉ (tile s b hs hb).set := by
  intro hm
  rw [LoadRect.mem_set] at hm
  obtain ⟨k0, h0, e0⟩ := hm ⟨0, by decide⟩
  obtain ⟨k1, h1, e1⟩ := hm ⟨1, by decide⟩
  have h0' : k0 < 1 := h0
  have h1' : k1 < 64 := h1
  have e0' : s'.val = s + 1 * k0 := e0
  have e1' : b'.val * 72 + j'.val = b * 72 + 1 * k1 := e1
  have hb := b'.isLt
  have hj' := j'.isLt
  exact h ⟨by omega, by omega⟩

theorem tile_payload (v : FVec Ideal S8x64x512 .f32) (s b : ℕ) (hs : s < 4) (hb : b < 8) (j : Fin 64) (l : Fin 128) :
    shapeCast S1x64x128 (shapeCast S64x128 (extractStridedSlice S1x64x128 ![b, 0, s * 128] v (tile_slices s b hs hb))
      shapeCasts_S1x64x128_S64x128) shapeCasts_S64x128_S1x64x128 (ix3 0 j l)
      = v (ix3 ⟨b, hb⟩ j ⟨s * 128 + l, by omega⟩) := by
  pointwise

/-- A chunk's array laid out: row `b * 72 + j` of slab `s` is its row `j` of batch entry `b`, at the slab's lanes. -/
theorem slab_apply (v : FVec Ideal S8x64x512 .f32) (n : ℕ) (s : Fin 4) (b : Fin 8) (j : Fin 64) (l : Fin 128)
    (hn : b.val * 4 + s.val < n) (hn' : n ≤ 32) :
    View.canon (slab v n) (ix3 s ⟨b * 72 + j, by omega⟩ l) = v (ix3 b j ⟨s * 128 + l, by omega⟩) := by
  induction n with
  | zero => omega
  | succ n ih =>
    have hs := s.isLt
    have hb := b.isLt
    by_cases h : s.val = n % 4 ∧ b.val = n / 4 % 8
    · obtain ⟨h1, h2⟩ := h
      have e := tile_idx (n % 4) (n / 4 % 8) (Nat.mod_lt _ (by decide)) (Nat.mod_lt _ (by decide)) j l
      have e' : (ix3 s ⟨b * 72 + j, by omega⟩ l : S4x576x128.Idx)
          = (tile (n % 4) (n / 4 % 8) (Nat.mod_lt _ (by decide)) (Nat.mod_lt _ (by decide))).emb (ix3 0 j l) := by
        refine Eq.trans ?_ e.symm
        congr 1
        · exact Fin.ext h1
        · exact Fin.ext (by show b.val * 72 + j.val = _; rw [h2])
      rw [e']
      refine (View.canon_cons_emb (tile (n % 4) (n / 4 % 8) _ _) _ (slab v n) (ix3 0 j l)).trans ?_
      refine (tile_payload v _ _ (Nat.mod_lt _ (by decide)) (Nat.mod_lt _ (by decide)) j l).trans ?_
      congr 1
      congr 1
      · exact Fin.ext h2.symm
      · exact Fin.ext (by show n % 4 * 128 + l.val = s.val * 128 + l.val; rw [h1])
    · refine (View.canon_cons_of_not_mem ⟨tile (n % 4) (n / 4 % 8) (Nat.mod_lt _ (by decide)) (Nat.mod_lt _ (by decide)), _⟩
        (slab v n) (not_mem_tile _ _ (Nat.mod_lt _ (by decide)) (Nat.mod_lt _ (by decide)) s b j l h)).trans ?_
      refine ih ?_ (by omega)
      by_contra hc
      exact h ⟨by omega, by omega⟩

section
variable {κ : Kind} {sp : Space} (va vb : View sig κ sp S4x576x128 .f32)
  (A : List (View.Piece (Elt Ideal) S4x576x128 .f32))
  (a bx : Fin 4 → Fin 8 → ℕ → Fin 128 → EReal) (h0 : Fin 4 → Fin 8 → Fin 128 → EReal)

/-- The state of a slab before time step `j`. -/
def W (s : Fin 4) (b : Fin 8) (l : Fin 128) : ℕ → EReal
  | 0 => h0 s b l
  | j + 1 => a s b j l * W s b l j + bx s b j l

def slot (n : ℕ) : Fin 4 := ⟨n % 4, Nat.mod_lt _ (by decide)⟩

/-- What stands after `n` advances. -/
structure Inv (n : ℕ) (σ : St) : Prop where
  rows : ∀ (s : Fin 4) (b : Fin 8) (j : Fin 64) (l : Fin 128),
    View.canon σ.L (ix3 s ⟨b * 72 + j, by omega⟩ l)
      = if j.val * 4 + s.val < n then W a bx h0 s b l (j.val + 1) else bx s b j.val l
  p0 : ∀ b l, σ.p0 (ix2 b l) = W a bx h0 (slot n) b l (n / 4)
  p1 : ∀ b l, σ.p1 (ix2 b l) = W a bx h0 (slot (n + 1)) b l ((n + 1) / 4)
  p2 : ∀ b l, σ.p2 (ix2 b l) = W a bx h0 (slot (n + 2)) b l ((n + 2) / 4)
  p3 : ∀ b l, σ.p3 (ix2 b l) = W a bx h0 (slot (n + 3)) b l ((n + 3) / 4)

variable (hA : ∀ (s : Fin 4) (b : Fin 8) (j : Fin 64) (l : Fin 128),
    View.canon A (ix3 s ⟨b * 72 + j, by omega⟩ l) = a s b j.val l)
include hA

theorem adv_eq (n : ℕ) (hn : n < 256) (σ : St) (h : Inv a bx h0 n σ) (b : Fin 8) (l : Fin 128) :
    adv va vb A (n % 4) (n / 4 % 64) (Nat.mod_lt _ (by decide)) (Nat.mod_lt _ (by decide)) σ.L σ.p0 (ix2 b l)
      = W a bx h0 (slot n) b l (n / 4 + 1) := by
  have hj : n / 4 % 64 = n / 4 := Nat.mod_eq_of_lt (by omega)
  rw [adv_apply, row_idx]
  have ea := hA (slot n) b ⟨n / 4 % 64, Nat.mod_lt _ (by decide)⟩ l
  have eb := h.rows (slot n) b ⟨n / 4 % 64, Nat.mod_lt _ (by decide)⟩ l
  rw [if_neg (by show ¬(n / 4 % 64 * 4 + n % 4 < n); omega)] at eb
  refine (congrArg₂ (fun x y => x * σ.p0 (ix2 b l) + y) ea eb).trans ?_
  simp only [hj]
  rw [h.p0 b l]
  rfl

theorem step_rows (n : ℕ) (hn : n < 256) (σ : St) (h : Inv a bx h0 n σ) (s : Fin 4) (b : Fin 8) (j : Fin 64) (l : Fin 128) :
    View.canon (step va vb A n σ).L (ix3 s ⟨b * 72 + j, by omega⟩ l)
      = if j.val * 4 + s.val < n + 1 then W a bx h0 s b l (j.val + 1) else bx s b j.val l := by
  have hs := s.isLt
  have hjl := j.isLt
  by_cases hm : s.val = n % 4 ∧ j.val = n / 4 % 64
  · obtain ⟨h1, h2⟩ := hm
    have e' : (ix3 s ⟨b * 72 + j, by omega⟩ l : S4x576x128.Idx)
        = (row (n % 4) (n / 4 % 64) (Nat.mod_lt _ (by decide)) (Nat.mod_lt _ (by decide))).emb (ix3 0 b l) := by
      refine Eq.trans ?_ (row_idx _ _ _ _ b l).symm
      congr 1
      · exact Fin.ext h1
      · exact Fin.ext (by show b.val * 72 + j.val = _; rw [h2])
    rw [e', if_pos (by omega)]
    refine (View.canon_cons_emb (row (n % 4) (n / 4 % 64) _ _) _ σ.L (ix3 0 b l)).trans ?_
    refine (unrow _ b l).trans ?_
    refine (adv_eq va vb A a bx h0 hA n hn σ h b l).trans ?_
    have hs' : slot n = s := Fin.ext h1.symm
    have hj' : n / 4 = j.val := by omega
    rw [hs', hj']
  · refine (View.canon_cons_of_not_mem ⟨row (n % 4) (n / 4 % 64) (Nat.mod_lt _ (by decide)) (Nat.mod_lt _ (by decide)), _⟩
      σ.L (not_mem_row _ _ (Nat.mod_lt _ (by decide)) (Nat.mod_lt _ (by decide)) s b j l hm)).trans ?_
    refine (h.rows s b j l).trans ?_
    have : (j.val * 4 + s.val < n) ↔ (j.val * 4 + s.val < n + 1) := by
      constructor
      · omega
      · intro h'; by_contra hc; exact hm ⟨by omega, by omega⟩
    by_cases hc : j.val * 4 + s.val < n
    · rw [if_pos hc, if_pos (this.mp hc)]
    · rw [if_neg hc, if_neg (fun h => hc (this.mpr h))]

theorem step_inv (n : ℕ) (hn : n < 256) (σ : St) (h : Inv a bx h0 n σ) : Inv a bx h0 (n + 1) (step va vb A n σ) := by
  refine ⟨step_rows va vb A a bx h0 hA n hn σ h, h.p1, h.p2, h.p3, fun b l => ?_⟩
  refine (adv_eq va vb A a bx h0 hA n hn σ h b l).trans ?_
  have hs' : slot (n + 1 + 3) = slot n := Fin.ext (by show (n + 1 + 3) % 4 = n % 4; omega)
  have hj' : (n + 1 + 3) / 4 = n / 4 + 1 := by omega
  rw [hs', hj']

theorem run_inv (σ : St) (h : Inv a bx h0 0 σ) (n : ℕ) (hn : n ≤ 256) : Inv a bx h0 n (run va vb A σ n) := by
  induction n with
  | zero => exact h
  | succ n ih => exact step_inv va vb A a bx h0 hA n (by omega) _ (ih (by omega))

end

end Cert.Proof.Scan
-- ==== Proof.Body.lean ====
/-
  One point of the grid, as functions of what the body reads: the chunk of the input, the modulation, the weights, and the
  scratch the point before left. Each definition is one of the arrays the body makes, from the values printed for it; an
  array that goes through a scratch buffer is read back from the pieces stored there.
-/
module

public import proofs.«01_k».proof.Proof.Scan

@[expose] public section

set_option maxRecDepth 16384

noncomputable section

namespace Cert.Proof.Body

open Idealize.ShloMosaic Cert.KernelIdeal Cert.KernelIdeal.Gen

/-- What the body reads at a point. -/
structure Rd where
  i0 : BitVec 32
  x : Vec Ideal S8x64x1024 .f32
  m0 : Vec Ideal S1x8x1x1024 .f32
  m1 : Vec Ideal S1x8x1x1024 .f32
  m2 : Vec Ideal S1x8x1x1024 .f32
  m3 : Vec Ideal S1x8x1x1024 .f32
  m4 : Vec Ideal S1x8x1x1024 .f32
  m5 : Vec Ideal S1x8x1x1024 .f32
  n1g : Vec Ideal S1x1024 .f32
  wlx : Vec Ideal S1024x512 .bf16
  wly : Vec Ideal S1024x512 .bf16
  wb : Vec Ideal S1024x512 .bf16
  wc : Vec Ideal S1024x512 .bf16
  wv : Vec Ideal S1024x512 .bf16
  lcw : Vec Ideal S4x512 .f32
  lcb : Vec Ideal S1x512 .f32
  g0 : Vec Ideal S1x256x512 .bf16
  g1 : Vec Ideal S1x256x512 .bf16
  gab : Vec Ideal S1x512 .f32
  gxb : Vec Ideal S1x512 .f32
  ap : Vec Ideal S1x512 .f32
  scw : Vec Ideal S3x512 .f32
  lg : Vec Ideal S1x512 .f32
  cg : Vec Ideal S1x512 .f32
  pool : Vec Ideal S256x256 .bf16
  wo : Vec Ideal S1024x1024 .bf16
  n2g : Vec Ideal S1x1024 .f32
  p0 : Vec Ideal S1024x1024 .bf16
  p1 : Vec Ideal S1024x1024 .bf16
  p2 : Vec Ideal S1024x1024 .bf16
  p3 : Vec Ideal S1024x1024 .bf16
  q0 : Vec Ideal S4096x256 .bf16
  q1 : Vec Ideal S4096x256 .bf16
  q2 : Vec Ideal S4096x256 .bf16
  q3 : Vec Ideal S4096x256 .bf16
  fg : Vec Ideal S1x1024 .f32
  lt : Vec Ideal S8x8x512 .f32
  ct : Vec Ideal S8x8x512 .f32
  s0 : Vec Ideal S8x128 .f32
  s1 : Vec Ideal S8x128 .f32
  s2 : Vec Ideal S8x128 .f32
  s3 : Vec Ideal S8x128 .f32
  xp : Vec Ideal S8x64x1024 .f32
  hp : Vec Ideal S512x4096 .bf16

/-- The scratch buffers that an array passes through within the point. -/
structure Vs where
  v24 : View sig .tc .vmem S4x576x128 .f32
  v25 : View sig .tc .vmem S4x576x128 .f32
  v26 : View sig .tc .vmem S512x1024 .bf16
  v28 : View sig .tc .vmem S512x1024 .bf16
  v30 : View sig .tc .vmem S512x1024 .f32
  v31 : View sig .tc .vmem S512x512 .bf16
  v32 : View sig .tc .vmem S512x512 .bf16
  v33 : View sig .tc .vmem S512x512 .bf16
  v34 : View sig .tc .vmem S512x1024 .bf16

/-- The whole of a buffer, and the halves and quarters of its columns. -/
abbrev wholeW : Rect S512x1024 := Rect.unit ![0, 0] S512x1024.size inb_S512x1024_S512x1024_0_0
abbrev wholeN : Rect S512x512 := Rect.unit ![0, 0] S512x512.size inb_S512x512_S512x512_0_0
abbrev left : Rect S512x512 := Rect.unit ![0, 0] S512x256.size inb_S512x512_S512x256_0_0
abbrev right : Rect S512x512 := Rect.unit ![0, 256] S512x256.size inb_S512x512_S512x256_0_256
abbrev leftW : Rect S512x1024 := Rect.unit ![0, 0] S512x512.size inb_S512x1024_S512x512_0_0
abbrev rightW : Rect S512x1024 := Rect.unit ![0, 512] S512x512.size inb_S512x1024_S512x512_0_512
abbrev quarter0 : Rect S512x1024 := Rect.unit ![0, 0] S512x256.size inb_S512x1024_S512x256_0_0
abbrev quarter1 : Rect S512x1024 := Rect.unit ![0, 256] S512x256.size inb_S512x1024_S512x256_0_256
abbrev quarter2 : Rect S512x1024 := Rect.unit ![0, 512] S512x256.size inb_S512x1024_S512x256_0_512
abbrev quarter3 : Rect S512x1024 := Rect.unit ![0, 768] S512x256.size inb_S512x1024_S512x256_0_768

variable (V : Vs) (R : Rd)

/-- The modulated norm, as the products read it. -/
def h : FVec Ideal S512x1024 .bf16 := k0_pay14 (k0_pay7 R.m0) (k0_pay8 R.m1) R.x R.n1g
def hb : Vec Ideal S512x1024 .bf16 := V.v26.readCov [⟨wholeW, h R⟩] wholeW.toLoadRect

/-- The five parts of the projection. -/
def ulx : FVec Ideal S8x64x512 .f32 := k0_pay15 (hb V R) R.wlx
def uly : FVec Ideal S8x64x512 .f32 := k0_pay35 (hb V R) R.wly
def ub : FVec Ideal S8x64x512 .f32 := k0_pay34 (hb V R) R.wb
def uc : FVec Ideal S8x64x512 .f32 := k0_pay16 (hb V R) R.wc
def uv : FVec Ideal S8x64x512 .f32 := k0_pay17 (hb V R) R.wv

/-- The recurrence's input after its convolution, and as the gates' products read it. -/
def xl : FVec Ideal S8x64x512 .f32 :=
  k0_pay23 (ulx V R) (k0_pay18 R.lcw) R.lt (k0_pay19 (ulx V R) R.lcw R.lt R.lcb) (k0_pay21 (ulx V R) R.lt) (k0_pay22 (ulx V R))
def xls : FVec Ideal S512x512 .bf16 :=
  k0_pay25 (ulx V R) (k0_pay18 R.lcw) R.lt (k0_pay19 (ulx V R) R.lcw R.lt R.lcb) (k0_pay21 (ulx V R) R.lt) (k0_pay22 (ulx V R))
def xl0 : Vec Ideal S512x256 .bf16 := V.v31.readCov [⟨wholeN, xls V R⟩] left.toLoadRect
def xl1 : Vec Ideal S512x256 .bf16 := V.v31.readCov [⟨wholeN, xls V R⟩] right.toLoadRect

/-- The short convolution's product and its convolution. -/
def cv : FVec Ideal S8x64x512 .f32 := k0_pay27 (uc V R) (uv V R)
def conv : FVec Ideal S8x64x512 .f32 :=
  k0_pay30 (k0_pay26 R.scw) (cv V R) R.ct (k0_pay28 (uc V R) (uv V R) R.scw) (k0_pay29 (uc V R) (uv V R)) 1#32

/-- The two gates, the decay and what the recurrence adds. -/
def gr : FVec Ideal S8x64x512 .f32 := k0_pay36 (k0_pay32 (xl0 V R) R.g0) (xl1 V R) R.g1 R.gab
def gi : FVec Ideal S8x64x512 .f32 := k0_pay37 (k0_pay32 (xl0 V R) R.g0) (xl1 V R) R.g1 R.gxb
def a : FVec Ideal S8x64x512 .f32 := k0_pay41 (gr V R) (k0_pay39 R.ap) (k0_pay40 R.ap)
def bx : FVec Ideal S8x64x512 .f32 := k0_pay42 R.i0 (xl V R) (gr V R) (gi V R) (k0_pay39 R.ap) (k0_pay40 R.ap)

/-- The short convolution's branch: before its norm, its squares, after its norm. -/
def yc : FVec Ideal S512x512 .f32 := k0_pay114 (conv V R) (ub V R)
def yc0 : Vec Ideal S512x256 .bf16 := V.v33.readCov [⟨wholeN, k0_pay115 (conv V R) (ub V R)⟩] left.toLoadRect
def yc1 : Vec Ideal S512x256 .bf16 := V.v33.readCov [⟨wholeN, k0_pay115 (conv V R) (ub V R)⟩] right.toLoadRect
def mixc : FVec Ideal S512x512 .bf16 :=
  k0_pay119 (yc V R) (k0_pay117 R.pool) (k0_pay118 R.pool (yc0 V R)) (yc1 V R) R.cg

/-- The recurrence: its planes and states after the chunk's 256 advances. -/
def fin : Scan.St :=
  Scan.run V.v24 V.v25 (Scan.slab (a V R) 32) ⟨Scan.slab (bx V R) 32, R.s0, R.s1, R.s2, R.s3⟩ 256
def st (s b : ℕ) (hs : s < 4) (hb : b < 8) : Vec Ideal S1x64x128 .f32 :=
  V.v25.readCov (fin V R).L (Scan.tile s b hs hb).toLoadRect

/-- The states of each batch entry, lane slabs side by side; of the last one, the first slab only. -/
def h0 : FVec Ideal S64x512 .f32 :=
  k0_pay672 (st V R 0 0 (by decide) (by decide)) (st V R 1 0 (by decide) (by decide)) (st V R 2 0 (by decide) (by decide)) (st V R 3 0 (by decide) (by decide))
def h1 : FVec Ideal S64x512 .f32 :=
  k0_pay676 (k0_pay673 (st V R 0 1 (by decide) (by decide))) (k0_pay674 (st V R 1 1 (by decide) (by decide))) (k0_pay675 (st V R 2 1 (by decide) (by decide))) (st V R 3 1 (by decide) (by decide))
def h2' : FVec Ideal S64x512 .f32 :=
  k0_pay677 (st V R 0 2 (by decide) (by decide)) (st V R 1 2 (by decide) (by decide)) (st V R 2 2 (by decide) (by decide)) (st V R 3 2 (by decide) (by decide))
def h3 : FVec Ideal S64x512 .f32 :=
  k0_pay678 (st V R 0 3 (by decide) (by decide)) (st V R 1 3 (by decide) (by decide)) (st V R 2 3 (by decide) (by decide)) (st V R 3 3 (by decide) (by decide))
def h4 : FVec Ideal S64x512 .f32 :=
  k0_pay681 (k0_pay679 (st V R 0 4 (by decide) (by decide))) (k0_pay680 (st V R 1 4 (by decide) (by decide))) (st V R 2 4 (by decide) (by decide)) (st V R 3 4 (by decide) (by decide))
def h5 : FVec Ideal S64x512 .f32 :=
  k0_pay682 (st V R 0 5 (by decide) (by decide)) (st V R 1 5 (by decide) (by decide)) (st V R 2 5 (by decide) (by decide)) (st V R 3 5 (by decide) (by decide))
def h6 : FVec Ideal S64x512 .f32 :=
  k0_pay683 (st V R 0 6 (by decide) (by decide)) (st V R 1 6 (by decide) (by decide)) (st V R 2 6 (by decide) (by decide)) (st V R 3 6 (by decide) (by decide))

/-- The recurrence's branch: its squares and, after its norm, the two branches side by side. -/
def yls : FVec Ideal S512x512 .bf16 :=
  k0_pay686 (k0_pay116 (uly V R)) (h0 V R) (h1 V R) (h2' V R) (h3 V R) (h4 V R) (h5 V R) (h6 V R) (k0_pay684 (st V R 0 7 (by decide) (by decide))) (st V R 1 7 (by decide) (by decide)) (st V R 2 7 (by decide) (by decide)) (st V R 3 7 (by decide) (by decide))
def yl0 : Vec Ideal S512x256 .bf16 := V.v32.readCov [⟨wholeN, yls V R⟩] left.toLoadRect
def yl1 : Vec Ideal S512x256 .bf16 := V.v32.readCov [⟨wholeN, yls V R⟩] right.toLoadRect
def mixl : FVec Ideal S512x512 .bf16 :=
  k0_pay687 (k0_pay116 (uly V R)) (k0_pay117 R.pool) (h0 V R) (h1 V R) (h2' V R) (h3 V R) (h4 V R) (h5 V R) (h6 V R) (k0_pay684 (st V R 0 7 (by decide) (by decide))) (st V R 1 7 (by decide) (by decide)) (st V R 2 7 (by decide) (by decide)) (st V R 3 7 (by decide) (by decide))
    (yl0 V R) (yl1 V R) R.lg
def mix : Vec Ideal S512x1024 .bf16 := V.v34.readCov [⟨leftW, mixl V R⟩, ⟨rightW, mixc V R⟩] wholeW.toLoadRect

/-- The residual after the mixer; the second norm; the hidden layer by its column blocks. -/
def x1 : FVec Ideal S8x64x1024 .f32 := k0_pay690 (k0_pay9 R.m2) (mix V R) R.wo R.x
def h2 : FVec Ideal S512x1024 .bf16 :=
  k0_pay693 (k0_pay10 R.m3) (k0_pay11 R.m4) (k0_pay691 (k0_pay9 R.m2) (mix V R) R.wo R.x) (k0_pay692 R.n2g)
def h2b : Vec Ideal S512x1024 .bf16 := V.v28.readCov [⟨wholeW, h2 V R⟩] wholeW.toLoadRect
def hid0 : FVec Ideal S512x1024 .bf16 := k0_pay694 (h2b V R) R.p0
def hid1 : FVec Ideal S512x1024 .bf16 := k0_pay697 (h2b V R) R.p1
def hid2 : FVec Ideal S512x1024 .bf16 := k0_pay698 (h2b V R) R.p2
def hid3 : FVec Ideal S512x1024 .bf16 := k0_pay1 (k0_pay699 (h2b V R) R.p3) (FloatOps.ofBits (F := Ideal) FTy.f32 0#32)

/-- The chunk before's second product, and its result. -/
def mlp : Vec Ideal S512x1024 .f32 :=
  V.v30.readCov [⟨quarter3, k0_pay688 R.hp R.q3⟩, ⟨quarter2, k0_pay120 R.hp R.q2⟩, ⟨quarter1, k0_pay113 R.hp R.q1⟩,
    ⟨quarter0, k0_pay13 R.hp R.q0⟩] wholeW.toLoadRect
def out : FVec Ideal S8x64x1024 .f32 := k0_pay696 (k0_pay695 (k0_pay12 R.m5) R.xp (mlp V R)) R.fg

/-- What the point leaves in the five scratch buffers that the next one reads. -/
def lt' : FVec Ideal S8x8x512 .f32 := k0_pay24 (ulx V R)
def ct' : FVec Ideal S8x8x512 .f32 := k0_pay31 (cv V R)
def s0' : FVec Ideal S8x128 .f32 := k0_pay668 (fin V R).p0
def s1' : FVec Ideal S8x128 .f32 := k0_pay669 (fin V R).p1
def s2' : FVec Ideal S8x128 .f32 := k0_pay670 (fin V R).p2
def s3' : FVec Ideal S8x128 .f32 := k0_pay671 (fin V R).p3

/-- A run's scratch buffers. -/
def vs (arg24 arg25 : Memref sig .tc .vmem S4x576x128 .f32) (arg26 arg28 : Memref sig .tc .vmem S512x1024 .bf16)
    (arg30 : Memref sig .tc .vmem S512x1024 .f32) (arg31 arg32 arg33 : Memref sig .tc .vmem S512x512 .bf16)
    (arg34 : Memref sig .tc .vmem S512x1024 .bf16) : Vs :=
  ⟨arg24.view, arg25.view, arg26.view, arg28.view, arg30.view, arg31.view, arg32.view, arg33.view, arg34.view⟩

/-- A load from a buffer that holds `x`. -/
def rd {S : Shape} {dt : EltTy} (M : Memref sig .tc .vmem S dt) (hM : M.IsWhole) (x : Vec Ideal S dt) (r : Rect S) :
    Vec Ideal r.shape dt :=
  View.readAt (Elt Ideal) M.view r.toLoadRect (hM.unread x)

theorem rd_eq {S : Shape} {dt : EltTy} (M : Memref sig .tc .vmem S dt) (hM : M.IsWhole) (x : Vec Ideal S dt) (r : Rect S) :
    rd M hM x r = View.ld x r := by
  unfold rd
  rw [View.readAt_eq_ld, hM.read_unread]

end Cert.Proof.Body
-- ==== Proof.Val1.lean ====
/-
  The values of a point's arrays, up to what goes into the recurrence, from what the body reads: each is the layer's value at
  the same place of the chunk.
-/
module

public import proofs.«01_k».proof.Proof.Body

@[expose] public section

set_option maxRecDepth 16384
set_option backward.isDefEq.respectTransparency false

noncomputable section

namespace Cert.Proof.Body

open Idealize.ShloMosaic Cert.KernelIdeal Cert.KernelIdeal.Gen

/-- Time step `j` of chunk `t`. -/
def tm (t : Fin 32) (j : Fin 64) : Fin 2048 := ⟨t * 64 + j, by omega⟩

/-- The batch entry and the step of a row of the flat arrays. -/
def rb (r : Fin 512) : Fin 8 := ⟨r / 64, by omega⟩
def rj (r : Fin 512) : Fin 64 := ⟨r % 64, by omega⟩
theorem rb_mk (b : Fin 8) (j : Fin 64) (h : b.val * 64 + j.val < 512) : rb ⟨b.val * 64 + j.val, h⟩ = b :=
  Fin.ext (show (b.val * 64 + j.val) / 64 = b.val by omega)
theorem rj_mk (b : Fin 8) (j : Fin 64) (h : b.val * 64 + j.val < 512) : rj ⟨b.val * 64 + j.val, h⟩ = j :=
  Fin.ext (show (b.val * 64 + j.val) % 64 = j.val by omega)

/-- The weights the body reads are the layer's. -/
structure Wt (I : Inp) (R : Rd) : Prop where
  m0 : ∀ b d, R.m0 (ix4 0 b 0 d) = I.mod 0 b d
  m1 : ∀ b d, R.m1 (ix4 0 b 0 d) = I.mod 1 b d
  m2 : ∀ b d, R.m2 (ix4 0 b 0 d) = I.mod 2 b d
  m3 : ∀ b d, R.m3 (ix4 0 b 0 d) = I.mod 3 b d
  m4 : ∀ b d, R.m4 (ix4 0 b 0 d) = I.mod 4 b d
  m5 : ∀ b d, R.m5 (ix4 0 b 0 d) = I.mod 5 b d
  n1g : ∀ d, R.n1g (ix2 0 d) = I.n1g (ix2 0 d)
  wlx : ∀ (k : Fin 1024) (c : Fin 512), R.wlx (ix2 k c) = I.win (ix3 0 k ⟨c.val, by omega⟩)
  wly : ∀ (k : Fin 1024) (c : Fin 512), R.wly (ix2 k c) = I.win (ix3 0 k ⟨512 + c.val, by omega⟩)
  wb : ∀ (k : Fin 1024) (c : Fin 512), R.wb (ix2 k c) = I.win (ix3 0 k ⟨1024 + c.val, by omega⟩)
  wc : ∀ (k : Fin 1024) (c : Fin 512), R.wc (ix2 k c) = I.win (ix3 0 k ⟨1536 + c.val, by omega⟩)
  wv : ∀ (k : Fin 1024) (c : Fin 512), R.wv (ix2 k c) = I.win (ix3 0 k ⟨2048 + c.val, by omega⟩)
  lcw : ∀ k c, R.lcw (ix2 k c) = I.lcw (ix3 0 k c)
  lcb : ∀ c, R.lcb (ix2 0 c) = I.lcb (ix2 0 c)
  g0a : ∀ x c : Fin 256, R.g0 (ix3 0 x ⟨c.val, by omega⟩)
    = if x.val / 64 = c.val / 64 then I.gaw (ix4 0 ⟨c / 64, by omega⟩ ⟨x % 64, by omega⟩ ⟨c % 64, by omega⟩) else 0
  g0x : ∀ x c : Fin 256, R.g0 (ix3 0 x ⟨256 + c.val, by omega⟩)
    = if x.val / 64 = c.val / 64 then I.gxw (ix4 0 ⟨c / 64, by omega⟩ ⟨x % 64, by omega⟩ ⟨c % 64, by omega⟩) else 0
  g1a : ∀ x c : Fin 256, R.g1 (ix3 0 x ⟨c.val, by omega⟩)
    = if x.val / 64 = c.val / 64 then I.gaw (ix4 0 ⟨4 + c / 64, by omega⟩ ⟨x % 64, by omega⟩ ⟨c % 64, by omega⟩) else 0
  g1x : ∀ x c : Fin 256, R.g1 (ix3 0 x ⟨256 + c.val, by omega⟩)
    = if x.val / 64 = c.val / 64 then I.gxw (ix4 0 ⟨4 + c / 64, by omega⟩ ⟨x % 64, by omega⟩ ⟨c % 64, by omega⟩) else 0
  gab : ∀ c, R.gab (ix2 0 c) = I.gab (ix2 0 c)
  gxb : ∀ c, R.gxb (ix2 0 c) = I.gxb (ix2 0 c)
  ap : ∀ c, R.ap (ix2 0 c) = I.ap (ix2 0 c)
  scw : ∀ k c, R.scw (ix2 k c) = I.scw (ix3 0 k c)
  lg : ∀ c, R.lg (ix2 0 c) = I.lg (ix2 0 c)
  cg : ∀ c, R.cg (ix2 0 c) = I.cg (ix2 0 c)
  pool : ∀ x c : Fin 256, R.pool (ix2 x c) = if x.val / 64 = c.val / 64 then Ideal.ofBits .bf16 0x3C80#16 else 0
  wo : ∀ k d, R.wo (ix2 k d) = I.wout (ix3 0 k d)
  n2g : ∀ d, R.n2g (ix2 0 d) = I.n2g (ix2 0 d)
  p0 : ∀ (k d : Fin 1024), R.p0 (ix2 k d) = I.w1 (ix3 0 k ⟨d.val, by omega⟩)
  p1 : ∀ (k d : Fin 1024), R.p1 (ix2 k d) = I.w1 (ix3 0 k ⟨1024 + d.val, by omega⟩)
  p2 : ∀ (k d : Fin 1024), R.p2 (ix2 k d) = I.w1 (ix3 0 k ⟨2048 + d.val, by omega⟩)
  p3 : ∀ (k d : Fin 1024), R.p3 (ix2 k d) = I.w1 (ix3 0 k ⟨3072 + d.val, by omega⟩)
  q0 : ∀ (k : Fin 4096) (d : Fin 256), R.q0 (ix2 k d) = I.w2 (ix3 0 k ⟨d.val, by omega⟩)
  q1 : ∀ (k : Fin 4096) (d : Fin 256), R.q1 (ix2 k d) = I.w2 (ix3 0 k ⟨256 + d.val, by omega⟩)
  q2 : ∀ (k : Fin 4096) (d : Fin 256), R.q2 (ix2 k d) = I.w2 (ix3 0 k ⟨512 + d.val, by omega⟩)
  q3 : ∀ (k : Fin 4096) (d : Fin 256), R.q3 (ix2 k d) = I.w2 (ix3 0 k ⟨768 + d.val, by omega⟩)
  fg : ∀ d, R.fg (ix2 0 d) = I.fg (ix1 d)

/-- The chunk the body reads is chunk `t`, and the scratch is what the chunks before leave. -/
structure Pt (I : Inp) (t : Fin 32) (R : Rd) : Prop where
  i0 : R.i0 = BitVec.ofNat 32 t
  x : ∀ b j d, R.x (ix3 b j d) = I.x (ix3 b (tm t j) d)
  lt : ∀ b c (k : ℕ) (h1 : 1 ≤ k) (_ : k ≤ 3), R.lt (ix3 b ⟨8 - k, by omega⟩ c) = Inp.back (fun s => I.ulx b s c) (tm t 0) k
  ct : ∀ b c (k : ℕ) (h1 : 1 ≤ k) (_ : k ≤ 3), R.ct (ix3 b ⟨8 - k, by omega⟩ c) = Inp.back (fun s => I.cv b s c) (tm t 0) k
  s0 : ∀ (b : Fin 8) (l : Fin 128), R.s0 (ix2 b l) = I.hs b ⟨0 * 128 + l.val, by omega⟩ (t.val * 64)
  s1 : ∀ (b : Fin 8) (l : Fin 128), R.s1 (ix2 b l) = I.hs b ⟨1 * 128 + l.val, by omega⟩ (t.val * 64)
  s2 : ∀ (b : Fin 8) (l : Fin 128), R.s2 (ix2 b l) = I.hs b ⟨2 * 128 + l.val, by omega⟩ (t.val * 64)
  s3 : ∀ (b : Fin 8) (l : Fin 128), R.s3 (ix2 b l) = I.hs b ⟨3 * 128 + l.val, by omega⟩ (t.val * 64)

/-! ## Reads of what was stored whole -/

theorem read_whole {e : EltTy} (v : View sig .tc .vmem S512x1024 e) (w : Vec Ideal S512x1024 e) :
    v.readCov [⟨wholeW, w⟩] wholeW.toLoadRect = w :=
  View.readCov_cons_toLoadRect v wholeW w []

theorem read_left {e : EltTy} (v : View sig .tc .vmem S512x512 e) (w : Vec Ideal S512x512 e) (r : Fin 512) (x : Fin 256) :
    v.readCov [⟨wholeN, w⟩] left.toLoadRect (ix2 r x) = w (ix2 r ⟨x.val, by omega⟩) := by
  rw [View.readCov_eq_canon', View.canon_unit_zero (by funext a; match a with | ⟨0, _⟩ => rfl | ⟨1, _⟩ => rfl)]
  refine congrArg w (funext fun a => ?_)
  match a with
  | ⟨0, _⟩ => exact Fin.ext (show 0 + 1 * r.val = r.val by omega)
  | ⟨1, _⟩ => exact Fin.ext (show 0 + 1 * x.val = x.val by omega)

theorem read_right {e : EltTy} (v : View sig .tc .vmem S512x512 e) (w : Vec Ideal S512x512 e) (r : Fin 512) (x : Fin 256) :
    v.readCov [⟨wholeN, w⟩] right.toLoadRect (ix2 r x) = w (ix2 r ⟨256 + x.val, by omega⟩) := by
  rw [View.readCov_eq_canon', View.canon_unit_zero (by funext a; match a with | ⟨0, _⟩ => rfl | ⟨1, _⟩ => rfl)]
  refine congrArg w (funext fun a => ?_)
  match a with
  | ⟨0, _⟩ => exact Fin.ext (show 0 + 1 * r.val = r.val by omega)
  | ⟨1, _⟩ => exact Fin.ext (show 256 + 1 * x.val = 256 + x.val by omega)

section
variable {I : Inp} {t : Fin 32} {V : Vs} {R : Rd}

/-! ## The norm and the projection -/

theorem h_at (hW : Wt I R) (hP : Pt I t R) (r : Fin 512) (d : Fin 1024) : h R (ix2 r d) = I.h (rb r) (tm t (rj r)) d := by
  unfold h
  pointwise [k0_pay14, k0_pay7, k0_pay8]
  simp only [hP.x, hW.n1g, hW.m0, hW.m1]
  unfold Inp.h rms
  rw [mul_assoc (I.x _ * _)]
  rfl

theorem hb_eq : hb V R = h R := read_whole _ _

theorem proj (h : Vec Ideal S512x1024 .bf16) (w : Vec Ideal S1024x512 .bf16) (b : Fin 8) (j : Fin 64) (c : Fin 512) :
    (k0_pay15 h w (ix3 b j c) = ∑ x : Fin 1024, h (ix2 ⟨b.val * 64 + j.val, by omega⟩ x) * w (ix2 x c)) ∧
    (k0_pay16 h w (ix3 b j c) = ∑ x : Fin 1024, h (ix2 ⟨b.val * 64 + j.val, by omega⟩ x) * w (ix2 x c)) ∧
    (k0_pay17 h w (ix3 b j c) = ∑ x : Fin 1024, h (ix2 ⟨b.val * 64 + j.val, by omega⟩ x) * w (ix2 x c)) ∧
    (k0_pay34 h w (ix3 b j c) = ∑ x : Fin 1024, h (ix2 ⟨b.val * 64 + j.val, by omega⟩ x) * w (ix2 x c)) ∧
    (k0_pay35 h w (ix3 b j c) = ∑ x : Fin 1024, h (ix2 ⟨b.val * 64 + j.val, by omega⟩ x) * w (ix2 x c)) := by
  refine ⟨?_, ?_, ?_, ?_, ?_⟩
  · pointwise [k0_pay15]
  · pointwise [k0_pay16]
  · pointwise [k0_pay17]
  · pointwise [k0_pay34]
  · pointwise [k0_pay35]

theorem ulx_at (hW : Wt I R) (hP : Pt I t R) (b : Fin 8) (j : Fin 64) (c : Fin 512) :
    ulx V R (ix3 b j c) = I.ulx b (tm t j) c := by
  unfold ulx; rw [(proj _ _ b j c).1]; simp only [hb_eq, h_at hW hP, rb_mk, rj_mk, hW.wlx]; rfl
theorem uc_at (hW : Wt I R) (hP : Pt I t R) (b : Fin 8) (j : Fin 64) (c : Fin 512) :
    uc V R (ix3 b j c) = I.u b (tm t j) ⟨1536 + c.val, by omega⟩ := by
  unfold uc; rw [(proj _ _ b j c).2.1]; simp only [hb_eq, h_at hW hP, rb_mk, rj_mk, hW.wc]; rfl
theorem uv_at (hW : Wt I R) (hP : Pt I t R) (b : Fin 8) (j : Fin 64) (c : Fin 512) :
    uv V R (ix3 b j c) = I.u b (tm t j) ⟨2048 + c.val, by omega⟩ := by
  unfold uv; rw [(proj _ _ b j c).2.2.1]; simp only [hb_eq, h_at hW hP, rb_mk, rj_mk, hW.wv]; rfl
theorem ub_at (hW : Wt I R) (hP : Pt I t R) (b : Fin 8) (j : Fin 64) (c : Fin 512) :
    ub V R (ix3 b j c) = I.ub b (tm t j) c := by
  unfold ub; rw [(proj _ _ b j c).2.2.2.1]; simp only [hb_eq, h_at hW hP, rb_mk, rj_mk, hW.wb]; rfl
theorem uly_at (hW : Wt I R) (hP : Pt I t R) (b : Fin 8) (j : Fin 64) (c : Fin 512) :
    uly V R (ix3 b j c) = I.uly b (tm t j) c := by
  unfold uly; rw [(proj _ _ b j c).2.2.2.2]; simp only [hb_eq, h_at hW hP, rb_mk, rj_mk, hW.wly]; rfl
theorem cv_at (hW : Wt I R) (hP : Pt I t R) (b : Fin 8) (j : Fin 64) (c : Fin 512) :
    uc V R (ix3 b j c) * uv V R (ix3 b j c) = I.cv b (tm t j) c := by
  rw [uc_at hW hP, uv_at hW hP]; rfl

/-! ## The convolutions -/

theorem add5 (u l x y z : EReal) : u + l + x + y + z = z + y + x + u + l := by ac_rfl
theorem add3 (u x y : EReal) : u + x + y = y + x + u := by ac_rfl

theorem slt_small : ∀ (j : Fin 8) (k : Fin 4),
    IntOp.cmpi CmpIPredicate.slt (BitVec.ofNat 32 j) (BitVec.ofNat 32 k) = if j.val < k.val then 1#1 else 0#1 := by decide

theorem back_tm (f : Fin 2048 → EReal) (t : Fin 32) (j : Fin 64) (k : ℕ) :
    Inp.back f (tm t j) k = if j.val < k then Inp.back f (tm t 0) (k - j) else f (tm t ⟨j - k, by omega⟩) := by
  unfold Inp.back tm
  simp only [Fin.val_zero, add_zero]
  split
  · rename_i h
    split
    · rename_i h2
      rw [if_pos (by omega)]
      congr 1; apply Fin.ext; simp only; omega
    · congr 1; apply Fin.ext; simp only; omega
  · rename_i h
    rw [if_pos (by omega), if_neg (by omega)]

/-- A chunk shifted by `k` steps, its first rows filled from the rows the chunk before left. -/
theorem shift (k : ℕ) (h1 : 1 ≤ k) (h3 : k ≤ 3) (L : Fin 8 → EReal) (U : Fin 64 → EReal) (f : Fin 2048 → EReal) (t : Fin 32)
    (hL : ∀ (q : ℕ) (_ : 1 ≤ q) (_ : q ≤ 3), L ⟨8 - q, by omega⟩ = Inp.back f (tm t 0) q) (hU : ∀ j, U j = f (tm t j)) (j : Fin 64) :
    (if h : j.val < 8 then Scalar.select (IntOp.cmpi CmpIPredicate.slt (BitVec.ofNat 32 j.val) (BitVec.ofNat 32 k))
      (L ⟨(j.val + 8 - k) % 8, by omega⟩) (U ⟨(j.val + 64 - k) % 64, by omega⟩)
      else U ⟨(8 + (j.val - 8) + 64 - k) % 64, by omega⟩) = Inp.back f (tm t j) k := by
  rw [back_tm]
  split
  · rename_i h
    have e := slt_small ⟨j.val, h⟩ ⟨k, by omega⟩
    simp only at e
    rw [e]
    by_cases hk : j.val < k
    · rw [if_pos hk, if_pos hk, ← hL (k - j.val) (by omega) (by omega)]
      refine Eq.trans (if_pos (by decide)) (congrArg L (Fin.ext ?_))
      simp only; omega
    · rw [if_neg hk, if_neg hk, ← hU]
      refine Eq.trans (if_neg (by decide)) (congrArg U (Fin.ext ?_))
      simp only; omega
  · rename_i h
    rw [if_neg (by omega), ← hU]
    refine congrArg U (Fin.ext ?_)
    simp only; omega

theorem xl_at (hW : Wt I R) (hP : Pt I t R) (b : Fin 8) (j : Fin 64) (c : Fin 512) :
    xl V R (ix3 b j c) = I.xl b (tm t j) c := by
  have s := fun k h1 h3 => shift k h1 h3 (fun q => R.lt (ix3 b q c)) (fun j => ulx V R (ix3 b j c)) (fun s => I.ulx b s c) t
    (hP.lt b c) (fun j => ulx_at hW hP b j c) j
  have s1 := s 1 (by decide) (by decide)
  have s2 := s 2 (by decide) (by decide)
  have s3 := s 3 (by decide) (by decide)
  clear s
  unfold xl
  generalize hu : ulx V R = u at *
  pointwise [k0_pay23, k0_pay18, k0_pay19, k0_pay20, k0_pay21, k0_pay22]
  rw [s1, s2, s3, ← hu, ulx_at hW hP, hW.lcw, hW.lcw, hW.lcw, hW.lcw, hW.lcb]
  exact add5 _ _ _ _ _

theorem conv_at (hW : Wt I R) (hP : Pt I t R) (b : Fin 8) (j : Fin 64) (c : Fin 512) :
    conv V R (ix3 b j c) = Inp.back (fun s => I.cv b s c) (tm t j) 2 * I.scw (ix3 0 0 c)
      + Inp.back (fun s => I.cv b s c) (tm t j) 1 * I.scw (ix3 0 1 c) + I.cv b (tm t j) c * I.scw (ix3 0 2 c) := by
  have s := fun k h1 h3 => shift k h1 h3 (fun q => R.ct (ix3 b q c)) (fun j => uc V R (ix3 b j c) * uv V R (ix3 b j c))
    (fun s => I.cv b s c) t (hP.ct b c) (fun j => cv_at hW hP b j c) j
  have s1 := s 1 (by decide) (by decide)
  have s2 := s 2 (by decide) (by decide)
  clear s
  have s0 := cv_at (V := V) hW hP b j c
  unfold conv cv
  generalize uc V R = u at *
  generalize uv V R = v at *
  pointwise [k0_pay30, k0_pay26, k0_pay27, k0_pay28, k0_pay29]
  rw [s1, s2, s0, hW.scw, hW.scw, hW.scw]
  exact add3 _ _ _

theorem yc_at (hW : Wt I R) (hP : Pt I t R) (r c : Fin 512) : yc V R (ix2 r c) = I.yc (rb r) (tm t (rj r)) c := by
  have e : yc V R (ix2 r c) = ub V R (ix3 (rb r) (rj r) c) * conv V R (ix3 (rb r) (rj r) c) := by
    unfold yc
    generalize ub V R = u
    generalize conv V R = v
    pointwise [k0_pay114]
    rfl
  rw [e, ub_at hW hP, conv_at hW hP]
  rfl

end

end Cert.Proof.Body
-- ==== Proof.Val2.lean ====
/-
  The gates, the decay, what the recurrence adds, and the head norms, at a place of the chunk.
-/
module

public import proofs.«01_k».proof.Proof.Val1

@[expose] public section

set_option maxRecDepth 16384
set_option backward.isDefEq.respectTransparency false

noncomputable section

namespace Cert.Proof.Body

open Idealize.ShloMosaic Cert.KernelIdeal Cert.KernelIdeal.Gen

/-- A sum against a column that is zero outside one block of 64. -/
theorem block_sum (f : Fin 256 → EReal) (g : Fin 256 → EReal) (q : ℕ) (hq : q < 4) (w : Fin 64 → EReal)
    (hg : ∀ x, g x = if x.val / 64 = q then w ⟨x % 64, by omega⟩ else 0) :
    ∑ x, f x * g x = ∑ i : Fin 64, f ⟨q * 64 + i.val, by omega⟩ * w i := by
  have e : ∑ x : Fin (4 * 64), f x * g x = ∑ p : Fin 4 × Fin 64, f (finProdFinEquiv p) * g (finProdFinEquiv p) :=
    (finProdFinEquiv.sum_comp (fun x : Fin (4 * 64) => f x * g x)).symm
  refine e.trans ?_
  rw [Fintype.sum_prod_type, Finset.sum_eq_single (⟨q, hq⟩ : Fin 4)]
  · refine Finset.sum_congr rfl fun i _ => ?_
    have h1 : (finProdFinEquiv ((⟨q, hq⟩ : Fin 4), i)).val = i.val + 64 * q := rfl
    rw [hg, if_pos (by rw [h1]; omega)]
    congr 1
    · exact congrArg f (Fin.ext (by rw [h1]; show _ = q * 64 + i.val; omega))
    · exact congrArg w (Fin.ext (by show (finProdFinEquiv ((⟨q, hq⟩ : Fin 4), i)).val % 64 = i.val; rw [h1]; omega))
  · intro p _ hp
    refine Finset.sum_eq_zero fun i _ => ?_
    have h1 : (finProdFinEquiv (p, i)).val = i.val + 64 * p.val := rfl
    have h2 : p.val ≠ q := fun h => hp (Fin.ext h)
    rw [hg, if_neg (by rw [h1]; omega), mul_zero]
  · intro h; exact absurd (Finset.mem_univ _) h

section
variable {I : Inp} {t : Fin 32} {V : Vs} {R : Rd}

theorem xls_at (hW : Wt I R) (hP : Pt I t R) (r c : Fin 512) : xls V R (ix2 r c) = I.xl (rb r) (tm t (rj r)) c := by
  have e : xls V R (ix2 r c) = xl V R (ix3 (rb r) (rj r) c) := by
    unfold xls xl
    generalize ulx V R = u
    generalize k0_pay18 R.lcw = a
    generalize k0_pay19 u R.lcw R.lt R.lcb = d
    generalize k0_pay21 u R.lt = f
    generalize k0_pay22 u = g
    pointwise [k0_pay25]
    rfl
  rw [e, xl_at hW hP]

theorem gr_form (x0 x1 : Vec Ideal S512x256 .bf16) (g0 g1 : Vec Ideal S1x256x512 .bf16) (ga : Vec Ideal S1x512 .f32) (b : Fin 8)
    (j : Fin 64) (c : Fin 512) : k0_pay36 (k0_pay32 x0 g0) x1 g1 ga (ix3 b j c) = sigm
      ((if h : c.val < 256 then ∑ x : Fin 256, x0 (ix2 ⟨b.val * 64 + j.val, by omega⟩ x) * g0 (ix3 0 x c)
        else ∑ x : Fin 256, x1 (ix2 ⟨b.val * 64 + j.val, by omega⟩ x) * g1 (ix3 0 x ⟨c.val - 256, by omega⟩)) + ga (ix2 0 c)) := by
  pointwise [k0_pay36, k0_pay32, k0_pay33]
  rfl

theorem gi_form (x0 x1 : Vec Ideal S512x256 .bf16) (g0 g1 : Vec Ideal S1x256x512 .bf16) (ga : Vec Ideal S1x512 .f32) (b : Fin 8)
    (j : Fin 64) (c : Fin 512) : k0_pay37 (k0_pay32 x0 g0) x1 g1 ga (ix3 b j c) = sigm
      ((if h : c.val < 256 then ∑ x : Fin 256, x0 (ix2 ⟨b.val * 64 + j.val, by omega⟩ x) * g0 (ix3 0 x ⟨256 + c.val, by omega⟩)
        else ∑ x : Fin 256, x1 (ix2 ⟨b.val * 64 + j.val, by omega⟩ x) * g1 (ix3 0 x ⟨256 + (c.val - 256), by omega⟩))
        + ga (ix2 0 c)) := by
  pointwise [k0_pay37, k0_pay32, k0_pay33]
  rfl

theorem gr_at (hW : Wt I R) (hP : Pt I t R) (b : Fin 8) (j : Fin 64) (c : Fin 512) :
    gr V R (ix3 b j c) = I.gate I.gaw I.gab b (tm t j) c := by
  unfold gr
  rw [gr_form, hW.gab]
  unfold Inp.gate
  congr 2
  split
  · rename_i h
    rw [block_sum _ _ (c.val / 64) (by omega) (fun i => I.gaw (ix4 0 ⟨c.val / 64, by omega⟩ i ⟨c.val % 64, by omega⟩))
      (fun x => hW.g0a x ⟨c.val, h⟩)]
    refine Finset.sum_congr rfl fun i _ => ?_
    unfold xl0
    rw [read_left, xls_at hW hP, rb_mk, rj_mk]
    rfl
  · rename_i h
    rw [block_sum _ _ ((c.val - 256) / 64) (by omega)
      (fun i => I.gaw (ix4 0 ⟨4 + (c.val - 256) / 64, by omega⟩ i ⟨(c.val - 256) % 64, by omega⟩))
      (fun x => hW.g1a x ⟨c.val - 256, by omega⟩)]
    refine Finset.sum_congr rfl fun i _ => ?_
    unfold xl1
    rw [read_right, xls_at hW hP, rb_mk, rj_mk]
    have e1 : (⟨256 + ((c.val - 256) / 64 * 64 + i.val), by omega⟩ : Fin 512) = lane c i := Fin.ext (by simp only [lane]; omega)
    have e2 : (⟨4 + (c.val - 256) / 64, by omega⟩ : Fin 8) = ⟨c.val / 64, by omega⟩ := Fin.ext (by simp only; omega)
    have e3 : (⟨(c.val - 256) % 64, by omega⟩ : Fin 64) = ⟨c.val % 64, by omega⟩ := Fin.ext (by simp only; omega)
    rw [e2, e3]
    exact congrArg (fun z => I.xl b (tm t j) z * _) e1

theorem gi_at (hW : Wt I R) (hP : Pt I t R) (b : Fin 8) (j : Fin 64) (c : Fin 512) :
    gi V R (ix3 b j c) = I.gate I.gxw I.gxb b (tm t j) c := by
  unfold gi
  rw [gi_form, hW.gxb]
  unfold Inp.gate
  congr 2
  split
  · rename_i h
    rw [block_sum _ _ (c.val / 64) (by omega) (fun i => I.gxw (ix4 0 ⟨c.val / 64, by omega⟩ i ⟨c.val % 64, by omega⟩))
      (fun x => hW.g0x x ⟨c.val, h⟩)]
    refine Finset.sum_congr rfl fun i _ => ?_
    unfold xl0
    rw [read_left, xls_at hW hP, rb_mk, rj_mk]
    rfl
  · rename_i h
    rw [block_sum _ _ ((c.val - 256) / 64) (by omega)
      (fun i => I.gxw (ix4 0 ⟨4 + (c.val - 256) / 64, by omega⟩ i ⟨(c.val - 256) % 64, by omega⟩))
      (fun x => hW.g1x x ⟨c.val - 256, by omega⟩)]
    refine Finset.sum_congr rfl fun i _ => ?_
    unfold xl1
    rw [read_right, xls_at hW hP, rb_mk, rj_mk]
    have e1 : (⟨256 + ((c.val - 256) / 64 * 64 + i.val), by omega⟩ : Fin 512) = lane c i := Fin.ext (by simp only [lane]; omega)
    have e2 : (⟨4 + (c.val - 256) / 64, by omega⟩ : Fin 8) = ⟨c.val / 64, by omega⟩ := Fin.ext (by simp only; omega)
    have e3 : (⟨(c.val - 256) % 64, by omega⟩ : Fin 64) = ⟨c.val % 64, by omega⟩ := Fin.ext (by simp only; omega)
    rw [e2, e3]
    exact congrArg (fun z => I.xl b (tm t j) z * _) e1

theorem a_form (r : FVec Ideal S8x64x512 .f32) (ap : Vec Ideal S1x512 .f32) (b : Fin 8) (j : Fin 64) (c : Fin 512) :
    k0_pay41 r (k0_pay39 ap) (k0_pay40 ap) (ix3 b j c) = Ideal.exp (r (ix3 b j c) * (Ideal.ofBits .f32 0xC1000000#32 *
      (max (ap (ix2 0 c)) 0 + Ideal.log1p (Ideal.exp (0 - max (ap (ix2 0 c)) (-ap (ix2 0 c))))))) := by
  pointwise [k0_pay41, k0_pay39, k0_pay40, k0_pay38]
  rfl

theorem a_at (hW : Wt I R) (hP : Pt I t R) (b : Fin 8) (j : Fin 64) (c : Fin 512) :
    a V R (ix3 b j c) = I.a b (tm t j) c := by
  unfold a
  rw [a_form, gr_at hW hP, hW.ap]
  unfold Inp.a Inp.la Inp.sp
  rw [zero_sub, mul_left_comm, mul_assoc]

theorem eq_small : ∀ (j : Fin 8) (t : Fin 32),
    IntOp.andi (IntOp.cmpi CmpIPredicate.eq (BitVec.ofNat 32 j) 0#32) (Scalar.cmpi CmpIPredicate.eq (BitVec.ofNat 32 t) 0#32)
      = if j.val = 0 ∧ t.val = 0 then 1#1 else 0#1 := by decide

theorem bx_form (i : BitVec 32) (x r g : FVec Ideal S8x64x512 .f32) (ap : Vec Ideal S1x512 .f32) (b : Fin 8) (j : Fin 64)
    (c : Fin 512) : k0_pay42 i x r g (k0_pay39 ap) (k0_pay40 ap) (ix3 b j c)
      = (if h : j.val < 8 then Scalar.select
          (IntOp.andi (IntOp.cmpi CmpIPredicate.eq (BitVec.ofNat 32 j.val) 0#32) (Scalar.cmpi CmpIPredicate.eq i 0#32)) 1
          (Ideal.sqrt (1 - k0_pay41 r (k0_pay39 ap) (k0_pay40 ap) (ix3 b j c) * k0_pay41 r (k0_pay39 ap) (k0_pay40 ap) (ix3 b j c)))
        else Ideal.sqrt (1 - k0_pay41 r (k0_pay39 ap) (k0_pay40 ap) (ix3 b ⟨8 + (j.val - 8), by omega⟩ c)
          * k0_pay41 r (k0_pay39 ap) (k0_pay40 ap) (ix3 b ⟨8 + (j.val - 8), by omega⟩ c)))
        * (g (ix3 b j c) * x (ix3 b j c)) := by
  generalize k0_pay39 ap = u
  generalize k0_pay40 ap = v
  pointwise [k0_pay42]
  try rfl

theorem bx_at (hW : Wt I R) (hP : Pt I t R) (b : Fin 8) (j : Fin 64) (c : Fin 512) :
    bx V R (ix3 b j c) = I.bx b (tm t j) c := by
  have ha := a_at (V := V) hW hP b
  unfold a at ha
  unfold bx
  rw [bx_form, gi_at hW hP, xl_at hW hP]
  unfold Inp.bx
  congr 1
  simp only [ha]
  rw [hP.i0]
  split
  · rename_i h
    have e := eq_small ⟨j.val, h⟩ t
    simp only at e
    rw [e]
    by_cases hk : j.val = 0 ∧ t.val = 0
    · rw [if_pos hk, if_pos (show (tm t j).val = 0 by show t.val * 64 + j.val = 0; omega)]
      exact if_pos (by decide)
    · rw [if_neg hk, if_neg (show ¬(tm t j).val = 0 by show ¬t.val * 64 + j.val = 0; omega)]
      exact if_neg (by decide)
  · rename_i h
    rw [if_neg (show ¬(tm t j).val = 0 by show ¬t.val * 64 + j.val = 0; omega)]
    have e : (⟨8 + (j.val - 8), by omega⟩ : Fin 64) = j := Fin.ext (by simp only; omega)
    rw [e]

/-- The mean square of a head as the pooling product computes it. -/
theorem pool_sum (v : Fin 64 → EReal) :
    ∑ i, v i * v i * Ideal.ofBits .bf16 0x3C80#16 = Ideal.div (∑ i, v i * v i) hwid := by
  have c1 : Ideal.ofBits .bf16 0x3C80#16 = (((64 : ℝ)⁻¹ : ℝ) : EReal) := by
    simp [Ideal.ofBits, Ideal.ieee, -EReal.coe_mul]; norm_num
  have c2 : hwid = ((64 : ℝ) : EReal) := by
    simp [hwid, Ideal.ofBits, Ideal.ieee, -EReal.coe_mul]; norm_num
  have add : ∀ s : Finset (Fin 64), ∑ i ∈ s, v i * v i * (((64 : ℝ)⁻¹ : ℝ) : EReal)
      = (∑ i ∈ s, v i * v i) * (((64 : ℝ)⁻¹ : ℝ) : EReal) := by
    intro s
    induction s using Finset.cons_induction with
    | empty => simp
    | cons i s hi ih =>
      rw [Finset.sum_cons, Finset.sum_cons, ih, EReal.right_distrib_of_nonneg_of_ne_top (by positivity) (EReal.coe_ne_top _)]
  rw [c1, c2, add]
  unfold Ideal.div
  rw [if_neg (by norm_num), ← EReal.coe_inv]

/-- The norm's factor from the pooled squares. -/
theorem pooled (hW : Wt I R) (y : Fin 512 → EReal) (s0 s1 : Fin 256 → EReal) (h0 : ∀ x : Fin 256, s0 x = y ⟨x.val, by omega⟩ * y ⟨x.val, by omega⟩)
    (h1 : ∀ x : Fin 256, s1 x = y ⟨256 + x.val, by omega⟩ * y ⟨256 + x.val, by omega⟩) (c : Fin 512) :
    Ideal.rsqrt ((if h : c.val < 256 then ∑ x : Fin 256, s0 x * R.pool (ix2 x ⟨c.val, h⟩)
      else ∑ x : Fin 256, s1 x * R.pool (ix2 x ⟨c.val - 256, by omega⟩)) + Ideal.ofBits .f32 0x358637BD#32) = hrms y c := by
  unfold hrms
  congr 2
  rw [← pool_sum]
  split
  · rename_i h
    rw [block_sum _ _ (c.val / 64) (by omega) (fun _ => Ideal.ofBits .bf16 0x3C80#16) (fun x => hW.pool x ⟨c.val, h⟩)]
    refine Finset.sum_congr rfl fun i _ => ?_
    rw [h0]
    rfl
  · rename_i h
    rw [block_sum _ _ ((c.val - 256) / 64) (by omega) (fun _ => Ideal.ofBits .bf16 0x3C80#16)
      (fun x => hW.pool x ⟨c.val - 256, by omega⟩)]
    refine Finset.sum_congr rfl fun i _ => ?_
    rw [h1]
    have e1 : (⟨256 + ((c.val - 256) / 64 * 64 + i.val), by omega⟩ : Fin 512) = lane c i := Fin.ext (by simp only [lane]; omega)
    exact congrArg (fun z => y z * y z * _) e1

theorem mixc_form (y : FVec Ideal S512x512 .f32) (P : Vec Ideal S256x256 .bf16) (s0 s1 : Vec Ideal S512x256 .bf16)
    (g : Vec Ideal S1x512 .f32) (r c : Fin 512) : k0_pay119 y (k0_pay117 P) (k0_pay118 P s0) s1 g (ix2 r c)
      = y (ix2 r c) * Ideal.rsqrt ((if h : c.val < 256 then ∑ x : Fin 256, s0 (ix2 r x) * P (ix2 x ⟨c.val, h⟩)
        else ∑ x : Fin 256, s1 (ix2 r x) * P (ix2 x ⟨c.val - 256, by omega⟩)) + Ideal.ofBits .f32 0x358637BD#32) * g (ix2 0 c) := by
  pointwise [k0_pay119, k0_pay117, k0_pay118]
  try rfl

theorem ycs_at (hW : Wt I R) (hP : Pt I t R) (r c : Fin 512) :
    k0_pay115 (conv V R) (ub V R) (ix2 r c) = I.yc (rb r) (tm t (rj r)) c * I.yc (rb r) (tm t (rj r)) c := by
  rw [← yc_at (V := V) hW hP]
  unfold yc
  pointwise [k0_pay115]
  try rfl

theorem mixc_at (hW : Wt I R) (hP : Pt I t R) (r c : Fin 512) : mixc V R (ix2 r c)
    = I.yc (rb r) (tm t (rj r)) c * hrms (I.yc (rb r) (tm t (rj r))) c * I.cg (ix2 0 c) := by
  unfold mixc
  rw [mixc_form, yc_at hW hP, hW.cg, pooled hW (I.yc (rb r) (tm t (rj r)))]
  · intro x
    unfold yc0
    rw [read_left, ycs_at hW hP]
  · intro x
    unfold yc1
    rw [read_right, ycs_at hW hP]

end

end Cert.Proof.Body
-- ==== Proof.Val3.lean ====
/-
  The recurrence through a chunk, its branch and norm, and the two branches side by side.
-/
module

public import proofs.«01_k».proof.Proof.Val2

@[expose] public section

set_option maxRecDepth 16384
set_option backward.isDefEq.respectTransparency false

noncomputable section

namespace Cert.Proof.Body

open Idealize.ShloMosaic Cert.KernelIdeal Cert.KernelIdeal.Gen

section
variable {I : Inp} {t : Fin 32} {V : Vs} {R : Rd}

/-- The decay and the addend of the chunk's steps, and the state before them, by lane slab. -/
def aF (I : Inp) (t : Fin 32) (s : Fin 4) (b : Fin 8) (j : ℕ) (l : Fin 128) : EReal :=
  if h : j < 64 then I.a b (tm t ⟨j, h⟩) ⟨s.val * 128 + l.val, by omega⟩ else 0
def bF (I : Inp) (t : Fin 32) (s : Fin 4) (b : Fin 8) (j : ℕ) (l : Fin 128) : EReal :=
  if h : j < 64 then I.bx b (tm t ⟨j, h⟩) ⟨s.val * 128 + l.val, by omega⟩ else 0
def hF (I : Inp) (t : Fin 32) (s : Fin 4) (b : Fin 8) (l : Fin 128) : EReal :=
  I.hs b ⟨s.val * 128 + l.val, by omega⟩ (t.val * 64)

theorem hs_succ (I : Inp) (b : Fin 8) (c : Fin 512) (n : ℕ) (h : n < 2048) :
    I.hs b c (n + 1) = I.a b ⟨n, h⟩ c * I.hs b c n + I.bx b ⟨n, h⟩ c := by
  conv => lhs; unfold Inp.hs
  rw [dif_pos h]

theorem W_eq (s : Fin 4) (b : Fin 8) (l : Fin 128) (j : ℕ) (hj : j ≤ 64) :
    Scan.W (aF I t) (bF I t) (hF I t) s b l j = I.hs b ⟨s.val * 128 + l.val, by omega⟩ (t.val * 64 + j) := by
  induction j with
  | zero => rfl
  | succ j ih =>
    show aF I t s b j l * Scan.W (aF I t) (bF I t) (hF I t) s b l j + bF I t s b j l = _
    rw [ih (by omega), ← Nat.add_assoc]
    rw [hs_succ I b _ (t.val * 64 + j) (by omega)]
    unfold aF bF
    rw [dif_pos (by omega), dif_pos (by omega)]
    rfl

theorem fin_inv (hW : Wt I R) (hP : Pt I t R) : Scan.Inv (aF I t) (bF I t) (hF I t) 256 (fin V R) := by
  refine Scan.run_inv V.v24 V.v25 (Scan.slab (a V R) 32) (aF I t) (bF I t) (hF I t) ?_ _ ?_ 256 (le_refl _)
  · intro s b j l
    rw [Scan.slab_apply (a V R) 32 s b j l (by omega) (by omega), a_at hW hP]
    unfold aF
    rw [dif_pos j.isLt]
  · refine ⟨fun s b j l => ?_, hP.s0, hP.s1, hP.s2, hP.s3⟩
    rw [if_neg (by omega)]
    refine (Scan.slab_apply (bx V R) 32 s b j l (by omega) (by omega)).trans ?_
    rw [bx_at hW hP]
    unfold bF
    rw [dif_pos j.isLt]

theorem st_at (hW : Wt I R) (hP : Pt I t R) (s b : ℕ) (hs : s < 4) (hb : b < 8) (j : Fin 64) (l : Fin 128) :
    st V R s b hs hb (ix3 0 j l) = I.hs ⟨b, hb⟩ ⟨s * 128 + l.val, by omega⟩ (t.val * 64 + (j.val + 1)) := by
  unfold st
  rw [View.readCov_eq_canon']
  have e := (fin_inv (V := V) hW hP).rows ⟨s, hs⟩ ⟨b, hb⟩ j l
  rw [if_pos (show j.val * 4 + s < 256 by omega), W_eq _ _ _ _ (by omega)] at e
  refine Eq.trans ?_ e
  exact congrArg (View.canon (fin V R).L) (Scan.tile_idx s b hs hb j l)

theorem cat_form (x0 x1 x2 x3 : Vec Ideal S1x64x128 .f32) (j : Fin 64) (c : Fin 512) :
    k0_pay672 x0 x1 x2 x3 (ix2 j c) = if h : c.val < 128 then x0 (ix3 0 j ⟨c.val, h⟩)
      else if h1 : c.val - 128 < 128 then x1 (ix3 0 j ⟨c.val - 128, h1⟩)
      else if h2 : c.val - 128 - 128 < 128 then x2 (ix3 0 j ⟨c.val - 128 - 128, h2⟩)
      else x3 (ix3 0 j ⟨c.val - 128 - 128 - 128, by omega⟩) := by
  pointwise [k0_pay672]

/-- The other spellings of the same arrangement. -/
theorem cat_same (x0 x1 x2 x3 : Vec Ideal S1x64x128 .f32) :
    (k0_pay676 (k0_pay673 x0) (k0_pay674 x1) (k0_pay675 x2) x3 = k0_pay672 x0 x1 x2 x3) ∧
    (k0_pay677 x0 x1 x2 x3 = k0_pay672 x0 x1 x2 x3) ∧ (k0_pay678 x0 x1 x2 x3 = k0_pay672 x0 x1 x2 x3) ∧
    (k0_pay681 (k0_pay679 x0) (k0_pay680 x1) x2 x3 = k0_pay672 x0 x1 x2 x3) ∧
    (k0_pay682 x0 x1 x2 x3 = k0_pay672 x0 x1 x2 x3) ∧ (k0_pay683 x0 x1 x2 x3 = k0_pay672 x0 x1 x2 x3) :=
  ⟨rfl, rfl, rfl, rfl, rfl, rfl⟩

theorem cat4 (H : Fin 64 → Fin 512 → EReal) (j : Fin 64) (c : Fin 512) (x0 x1 x2 x3 : Vec Ideal S1x64x128 .f32)
    (e0 : ∀ l : Fin 128, x0 (ix3 0 j l) = H j ⟨0 * 128 + l.val, by omega⟩) (e1 : ∀ l : Fin 128, x1 (ix3 0 j l) = H j ⟨1 * 128 + l.val, by omega⟩)
    (e2 : ∀ l : Fin 128, x2 (ix3 0 j l) = H j ⟨2 * 128 + l.val, by omega⟩) (e3 : ∀ l : Fin 128, x3 (ix3 0 j l) = H j ⟨3 * 128 + l.val, by omega⟩) :
    k0_pay672 x0 x1 x2 x3 (ix2 j c) = H j c := by
  rw [cat_form]
  split
  · rw [e0]; exact congrArg (H j) (Fin.ext (by simp only; omega))
  · split
    · rw [e1]; exact congrArg (H j) (Fin.ext (by simp only; omega))
    · split
      · rw [e2]; exact congrArg (H j) (Fin.ext (by simp only; omega))
      · rw [e3]; exact congrArg (H j) (Fin.ext (by simp only; omega))

/-- A batch entry's states, side by side. -/
theorem side (hW : Wt I R) (hP : Pt I t R) (b : ℕ) (hb : b < 8) (j : Fin 64) (c : Fin 512) :
    k0_pay672 (st V R 0 b (by decide) hb) (st V R 1 b (by decide) hb) (st V R 2 b (by decide) hb) (st V R 3 b (by decide) hb)
      (ix2 j c) = I.hs ⟨b, hb⟩ c (t.val * 64 + (j.val + 1)) :=
  cat4 (fun j c => I.hs ⟨b, hb⟩ c (t.val * 64 + (j.val + 1))) j c _ _ _ _
    (fun l => st_at hW hP 0 b _ hb j l) (fun l => st_at hW hP 1 b _ hb j l) (fun l => st_at hW hP 2 b _ hb j l)
    (fun l => st_at hW hP 3 b _ hb j l)

theorem yl_ifs (u : FVec Ideal S8x64x512 .f32) (h0 h1 h2 h3 h4 h5 h6 : FVec Ideal S64x512 .f32)
    (x0 x1 x2 x3 : Vec Ideal S1x64x128 .f32) (r c : Fin 512) (X : EReal)
    (hX : (u (ix3 (rb r) (rj r) c) *
      if h : r.val / 64 < 1 then h0 (ix2 (rj r) c)
      else if h : r.val / 64 - 1 < 1 then h1 (ix2 (rj r) c)
      else if h : r.val / 64 - 1 - 1 < 1 then h2 (ix2 (rj r) c)
      else if h : r.val / 64 - 1 - 1 - 1 < 1 then h3 (ix2 (rj r) c)
      else if h : r.val / 64 - 1 - 1 - 1 - 1 < 1 then h4 (ix2 (rj r) c)
      else if h : r.val / 64 - 1 - 1 - 1 - 1 - 1 < 1 then h5 (ix2 (rj r) c)
      else if h : r.val / 64 - 1 - 1 - 1 - 1 - 1 - 1 < 1 then h6 (ix2 (rj r) c)
      else if h1 : c.val < 128 then x0 (ix3 0 (rj r) ⟨c.val, h1⟩)
      else if h2 : c.val - 128 < 128 then x1 (ix3 0 (rj r) ⟨c.val - 128, h2⟩)
      else if h3 : c.val - 128 - 128 < 128 then x2 (ix3 0 (rj r) ⟨c.val - 128 - 128, h3⟩)
      else x3 (ix3 0 (rj r) ⟨c.val - 128 - 128 - 128, by omega⟩)) = X) :
    k0_pay685 u h0 h1 h2 h3 h4 h5 h6 (k0_pay684 x0) x1 x2 x3 (ix2 r c) = X := by
  pointwise [k0_pay685, k0_pay684]
  exact hX

set_option maxHeartbeats 1600000 in
theorem yl_form (u : FVec Ideal S8x64x512 .f32) (H : Fin 8 → Fin 64 → Fin 512 → EReal)
    (h0 h1 h2 h3 h4 h5 h6 : FVec Ideal S64x512 .f32) (x0 x1 x2 x3 : Vec Ideal S1x64x128 .f32)
    (e0 : ∀ j c, h0 (ix2 j c) = H 0 j c) (e1 : ∀ j c, h1 (ix2 j c) = H 1 j c) (e2 : ∀ j c, h2 (ix2 j c) = H 2 j c)
    (e3 : ∀ j c, h3 (ix2 j c) = H 3 j c) (e4 : ∀ j c, h4 (ix2 j c) = H 4 j c) (e5 : ∀ j c, h5 (ix2 j c) = H 5 j c)
    (e6 : ∀ j c, h6 (ix2 j c) = H 6 j c) (e7 : ∀ j c, k0_pay672 x0 x1 x2 x3 (ix2 j c) = H 7 j c) (b : Fin 8) (j : Fin 64) (c r : Fin 512)
    (hb : rb r = b) (hj : rj r = j) :
    k0_pay685 u h0 h1 h2 h3 h4 h5 h6 (k0_pay684 x0) x1 x2 x3 (ix2 r c) = u (ix3 b j c) * H b j c := by
  have hr := r.isLt
  have sub : ∀ (k : Fin 8) (f : Fin 64 → Fin 512 → EReal), (∀ j c, f j c = H k j c) → r.val / 64 = k.val →
      f ⟨r.val % 64, by omega⟩ c = H b j c := by
    intro k f hf hk
    rw [hf, ← hb, ← hj]
    exact congrArg (fun z => H z (rj r) c) (Fin.ext hk.symm)
  refine yl_ifs u h0 h1 h2 h3 h4 h5 h6 x0 x1 x2 x3 r c _ ?_
  refine congrArg₂ (fun x y => x * y) (by rw [hb, hj]) ?_
  split; · exact sub 0 (fun j c => h0 (ix2 j c)) e0 (by show _ = 0; omega)
  split; · exact sub 1 (fun j c => h1 (ix2 j c)) e1 (by show _ = 1; omega)
  split; · exact sub 2 (fun j c => h2 (ix2 j c)) e2 (by show _ = 2; omega)
  split; · exact sub 3 (fun j c => h3 (ix2 j c)) e3 (by show _ = 3; omega)
  split; · exact sub 4 (fun j c => h4 (ix2 j c)) e4 (by show _ = 4; omega)
  split; · exact sub 5 (fun j c => h5 (ix2 j c)) e5 (by show _ = 5; omega)
  split; · exact sub 6 (fun j c => h6 (ix2 j c)) e6 (by show _ = 6; omega)
  refine Eq.trans ?_ (sub 7 (fun j c => k0_pay672 x0 x1 x2 x3 (ix2 j c)) e7 (by show _ = 7; omega))
  exact (cat_form _ _ _ _ _ _).symm

/-- The recurrence's branch, flat. -/
def ylf (V : Vs) (R : Rd) : FVec Ideal S512x512 .f32 :=
  k0_pay685 (k0_pay116 (uly V R)) (h0 V R) (h1 V R) (h2' V R) (h3 V R) (h4 V R) (h5 V R) (h6 V R)
    (k0_pay684 (st V R 0 7 (by decide) (by decide))) (st V R 1 7 (by decide) (by decide))
    (st V R 2 7 (by decide) (by decide)) (st V R 3 7 (by decide) (by decide))

theorem gelu_form (u : FVec Ideal S8x64x512 .f32) (b : Fin 8) (j : Fin 64) (c : Fin 512) :
    k0_pay116 u (ix3 b j c) = gelu (u (ix3 b j c)) := by
  unfold gelu
  rw [mul_assoc (u (ix3 b j c)) (u (ix3 b j c))]
  pointwise [k0_pay116]

theorem ylf_at (hW : Wt I R) (hP : Pt I t R) (r c : Fin 512) : ylf V R (ix2 r c) = I.yl (rb r) (tm t (rj r)) c := by
  have e0 : ∀ j c, h0 V R (ix2 j c) = I.hs 0 c (t.val * 64 + (j.val + 1)) := fun j c => by
    unfold h0; exact side hW hP 0 (by decide) j c
  have e1 : ∀ j c, h1 V R (ix2 j c) = I.hs 1 c (t.val * 64 + (j.val + 1)) := fun j c => by
    unfold h1; rw [(cat_same _ _ _ _).1]; exact side hW hP 1 (by decide) j c
  have e2 : ∀ j c, h2' V R (ix2 j c) = I.hs 2 c (t.val * 64 + (j.val + 1)) := fun j c => by
    unfold h2'; rw [(cat_same _ _ _ _).2.1]; exact side hW hP 2 (by decide) j c
  have e3 : ∀ j c, h3 V R (ix2 j c) = I.hs 3 c (t.val * 64 + (j.val + 1)) := fun j c => by
    unfold h3; rw [(cat_same _ _ _ _).2.2.1]; exact side hW hP 3 (by decide) j c
  have e4 : ∀ j c, h4 V R (ix2 j c) = I.hs 4 c (t.val * 64 + (j.val + 1)) := fun j c => by
    unfold h4; rw [(cat_same _ _ _ _).2.2.2.1]; exact side hW hP 4 (by decide) j c
  have e5 : ∀ j c, h5 V R (ix2 j c) = I.hs 5 c (t.val * 64 + (j.val + 1)) := fun j c => by
    unfold h5; rw [(cat_same _ _ _ _).2.2.2.2.1]; exact side hW hP 5 (by decide) j c
  have e6 : ∀ j c, h6 V R (ix2 j c) = I.hs 6 c (t.val * 64 + (j.val + 1)) := fun j c => by
    unfold h6; rw [(cat_same _ _ _ _).2.2.2.2.2]; exact side hW hP 6 (by decide) j c
  have e7 : ∀ j c, k0_pay672 (st V R 0 7 (by decide) (by decide)) (st V R 1 7 (by decide) (by decide))
      (st V R 2 7 (by decide) (by decide)) (st V R 3 7 (by decide) (by decide)) (ix2 j c)
      = I.hs 7 c (t.val * 64 + (j.val + 1)) := fun j c => side hW hP 7 (by decide) j c
  have e8 : I.yl (rb r) (tm t (rj r)) c = k0_pay116 (uly V R) (ix3 (rb r) (rj r) c) * I.hs (rb r) c (t.val * 64 + ((rj r).val + 1)) := by
    rw [gelu_form, uly_at hW hP]
    rfl
  rw [e8]
  unfold ylf
  generalize st V R 0 7 (by decide) (by decide) = x0 at e7 ⊢
  generalize st V R 1 7 (by decide) (by decide) = x1 at e7 ⊢
  generalize st V R 2 7 (by decide) (by decide) = x2 at e7 ⊢
  generalize st V R 3 7 (by decide) (by decide) = x3 at e7 ⊢
  generalize k0_pay116 (uly V R) = u
  generalize h0 V R = f0 at e0 ⊢
  generalize h1 V R = f1 at e1 ⊢
  generalize h2' V R = f2 at e2 ⊢
  generalize h3 V R = f3 at e3 ⊢
  generalize h4 V R = f4 at e4 ⊢
  generalize h5 V R = f5 at e5 ⊢
  generalize h6 V R = f6 at e6 ⊢
  exact yl_form u (fun b j c => I.hs b c (t.val * 64 + (j.val + 1))) f0 f1 f2 f3 f4 f5 f6 x0 x1 x2 x3 e0 e1 e2 e3 e4 e5 e6 e7
    (rb r) (rj r) c r rfl rfl

theorem yls_form (u : FVec Ideal S8x64x512 .f32) (h0 h1 h2 h3 h4 h5 h6 : FVec Ideal S64x512 .f32)
    (x0 : FVec Ideal S64x128 .f32) (x1 x2 x3 : Vec Ideal S1x64x128 .f32) (r c : Fin 512) :
    k0_pay686 u h0 h1 h2 h3 h4 h5 h6 x0 x1 x2 x3 (ix2 r c)
      = k0_pay685 u h0 h1 h2 h3 h4 h5 h6 x0 x1 x2 x3 (ix2 r c) * k0_pay685 u h0 h1 h2 h3 h4 h5 h6 x0 x1 x2 x3 (ix2 r c) := by
  unfold k0_pay686
  generalize k0_pay685 u h0 h1 h2 h3 h4 h5 h6 x0 x1 x2 x3 = y
  pointwise

theorem yls_at (hW : Wt I R) (hP : Pt I t R) (r c : Fin 512) :
    yls V R (ix2 r c) = I.yl (rb r) (tm t (rj r)) c * I.yl (rb r) (tm t (rj r)) c := by
  unfold yls
  rw [yls_form]
  exact congrArg₂ (fun x y => x * y) (ylf_at hW hP r c) (ylf_at hW hP r c)

theorem mixl_form (u : FVec Ideal S8x64x512 .f32) (P : Vec Ideal S256x256 .bf16) (h0 h1 h2 h3 h4 h5 h6 : FVec Ideal S64x512 .f32)
    (x0 : FVec Ideal S64x128 .f32) (x1 x2 x3 : Vec Ideal S1x64x128 .f32) (s0 s1 : Vec Ideal S512x256 .bf16) (g : Vec Ideal S1x512 .f32)
    (r c : Fin 512) : k0_pay687 u (k0_pay117 P) h0 h1 h2 h3 h4 h5 h6 x0 x1 x2 x3 s0 s1 g (ix2 r c)
      = k0_pay685 u h0 h1 h2 h3 h4 h5 h6 x0 x1 x2 x3 (ix2 r c)
        * Ideal.rsqrt ((if h : c.val < 256 then ∑ x : Fin 256, s0 (ix2 r x) * P (ix2 x ⟨c.val, h⟩)
        else ∑ x : Fin 256, s1 (ix2 r x) * P (ix2 x ⟨c.val - 256, by omega⟩)) + Ideal.ofBits .f32 0x358637BD#32) * g (ix2 0 c) := by
  unfold k0_pay687
  generalize k0_pay685 u h0 h1 h2 h3 h4 h5 h6 x0 x1 x2 x3 = y
  pointwise [k0_pay117]

theorem mixl_at (hW : Wt I R) (hP : Pt I t R) (r c : Fin 512) : mixl V R (ix2 r c)
    = I.yl (rb r) (tm t (rj r)) c * hrms (I.yl (rb r) (tm t (rj r))) c * I.lg (ix2 0 c) := by
  unfold mixl
  rw [mixl_form, hW.lg, pooled hW (I.yl (rb r) (tm t (rj r)))]
  · exact congrArg (fun z => z * _ * _) (ylf_at hW hP r c)
  · intro x
    unfold yl0
    rw [read_left, yls_at hW hP]
  · intro x
    unfold yl1
    rw [read_right, yls_at hW hP]

/-! ## Stores of whole columns -/

theorem canon_in {e : EltTy} {n m w o : ℕ} (inb) (p : (Rect.unit (s := ⟨2, ![n, m]⟩) ![0, o] ![n, w] inb).shape.Idx → Elt Ideal e)
    (L : List (View.Piece (Elt Ideal) ⟨2, ![n, m]⟩ e)) (r : Fin n) (k : Fin m) (k' : Fin w) (h : k.val = o + k'.val) :
    View.canon (⟨Rect.unit (s := ⟨2, ![n, m]⟩) ![0, o] ![n, w] inb, p⟩ :: L) (ix2 r k) = p (ix2 r k') := by
  refine Eq.trans ?_ (View.canon_cons_emb (Rect.unit (s := ⟨2, ![n, m]⟩) ![0, o] ![n, w] inb) p L (ix2 r k'))
  refine congrArg _ (funext fun a => ?_)
  match a with
  | ⟨0, _⟩ => exact Fin.ext (show r.val = 0 + 1 * r.val by omega)
  | ⟨1, _⟩ => exact Fin.ext (show k.val = o + 1 * k'.val by omega)

theorem canon_out {e : EltTy} {n m w o : ℕ} (inb) (p : (Rect.unit (s := ⟨2, ![n, m]⟩) ![0, o] ![n, w] inb).shape.Idx → Elt Ideal e)
    (L : List (View.Piece (Elt Ideal) ⟨2, ![n, m]⟩ e)) (r : Fin n) (k : Fin m) (h : k.val < o ∨ o + w ≤ k.val) :
    View.canon (⟨Rect.unit (s := ⟨2, ![n, m]⟩) ![0, o] ![n, w] inb, p⟩ :: L) (ix2 r k) = View.canon L (ix2 r k) := by
  refine View.canon_cons_of_not_mem ⟨_, p⟩ L fun hm => ?_
  rw [LoadRect.mem_set] at hm
  obtain ⟨k1, h1, e1⟩ := hm (1 : Fin 2)
  have h1' : k1 < w := h1
  have e1' : k.val = o + 1 * k1 := e1
  omega

theorem read_cols {e : EltTy} (v : View sig .tc .vmem S512x1024 e) (L : List (View.Piece (Elt Ideal) S512x1024 e)) (r : Fin 512)
    (k : Fin 1024) : v.readCov L wholeW.toLoadRect (ix2 r k) = View.canon L (ix2 r k) := by
  rw [View.readCov_eq_canon']
  refine congrArg (View.canon L) (funext fun a => ?_)
  match a with
  | ⟨0, _⟩ => exact Fin.ext (show 0 + 1 * r.val = r.val by omega)
  | ⟨1, _⟩ => exact Fin.ext (show 0 + 1 * k.val = k.val by omega)

theorem mix_at (hW : Wt I R) (hP : Pt I t R) (r : Fin 512) (k : Fin 1024) : mix V R (ix2 r k) = I.mix (rb r) (tm t (rj r)) k := by
  unfold mix
  rw [read_cols]
  unfold Inp.mix
  split
  · rename_i h
    refine (canon_in _ _ _ r k ⟨k.val, h⟩ (by simp only; omega)).trans ?_
    rw [mixl_at hW hP]
  · rename_i h
    refine (canon_out _ _ _ r k (by omega)).trans ?_
    refine (canon_in _ _ _ r k ⟨k.val - 512, by omega⟩ (by simp only; omega)).trans ?_
    rw [mixc_at hW hP]

end

end Cert.Proof.Body
-- ==== Proof.Val4.lean ====
/-
  The residual after the mixer, the second norm and the hidden layer of a point's chunk, the result of the chunk before it,
  and what the next point finds.
-/
module

public import proofs.«01_k».proof.Proof.Val3

@[expose] public section

set_option maxRecDepth 16384
set_option backward.isDefEq.respectTransparency false

noncomputable section

namespace Cert.Proof.Body

open Idealize.ShloMosaic Cert.KernelIdeal Cert.KernelIdeal.Gen

section
variable {I : Inp} {t : Fin 32} {V : Vs} {R : Rd}

/-- The residual's two spellings. -/
theorem x1_form (m : Vec Ideal S1x8x1x1024 .f32) (y : Vec Ideal S512x1024 .bf16) (w : Vec Ideal S1024x1024 .bf16)
    (x : Vec Ideal S8x64x1024 .f32) (b : Fin 8) (j : Fin 64) (d : Fin 1024) : k0_pay689 (k0_pay9 m) y w x (ix3 b j d)
      = x (ix3 b j d) + m (ix4 0 b 0 d) * ∑ k : Fin 1024, y (ix2 ⟨b.val * 64 + j.val, by omega⟩ k) * w (ix2 k d) := by
  pointwise [k0_pay689, k0_pay9]

theorem res_at (hW : Wt I R) (hP : Pt I t R) (b : Fin 8) (j : Fin 64) (d : Fin 1024) :
    k0_pay689 (k0_pay9 R.m2) (mix V R) R.wo R.x (ix3 b j d) = I.x1 b (tm t j) d := by
  rw [x1_form, hP.x, hW.m2]
  simp only [mix_at hW hP, rb_mk, rj_mk, hW.wo]
  rfl

theorem x1_at (hW : Wt I R) (hP : Pt I t R) (b : Fin 8) (j : Fin 64) (d : Fin 1024) :
    x1 V R (ix3 b j d) = I.x1 b (tm t j) d := by
  rw [← res_at (V := V) hW hP]
  unfold x1
  generalize k0_pay9 R.m2 = m
  generalize mix V R = y
  unfold k0_pay690
  generalize k0_pay689 m y R.wo R.x = z
  pointwise

theorem h2_form (m3 m4 : Vec Ideal S1x8x1x1024 .f32) (m2 : FVec Ideal S8x1x1024 .f32) (y : Vec Ideal S512x1024 .bf16) (w : Vec Ideal S1024x1024 .bf16)
    (x : Vec Ideal S8x64x1024 .f32) (n : Vec Ideal S1x1024 .f32) (r : Fin 512) (d : Fin 1024) :
    k0_pay693 (k0_pay10 m3) (k0_pay11 m4) (k0_pay691 m2 y w x) (k0_pay692 n) (ix2 r d)
      = k0_pay689 m2 y w x (ix3 (rb r) (rj r) d) * rms (fun k => k0_pay689 m2 y w x (ix3 (rb r) (rj r) k))
        * (n (ix2 0 d) * (1 + m4 (ix4 0 (rb r) 0 d))) + m3 (ix4 0 (rb r) 0 d) := by
  unfold k0_pay691
  generalize k0_pay689 m2 y w x = z
  pointwise [k0_pay693, k0_pay10, k0_pay11, k0_pay692]
  rfl

theorem h2_at (hW : Wt I R) (hP : Pt I t R) (r : Fin 512) (d : Fin 1024) :
    h2 V R (ix2 r d) = I.h2 (rb r) (tm t (rj r)) d := by
  unfold h2
  rw [h2_form]
  simp only [res_at hW hP, hW.n2g, hW.m3, hW.m4]
  rw [← mul_assoc]
  rfl

theorem h2b_eq : h2b V R = h2 V R := read_whole _ _

theorem hid_form (h : Vec Ideal S512x1024 .bf16) (w : Vec Ideal S1024x1024 .bf16) (r : Fin 512) (d : Fin 1024) :
    (k0_pay694 h w (ix2 r d) = max (∑ k : Fin 1024, h (ix2 r k) * w (ix2 k d)) 0 * max (∑ k : Fin 1024, h (ix2 r k) * w (ix2 k d)) 0) ∧
    (k0_pay697 h w (ix2 r d) = max (∑ k : Fin 1024, h (ix2 r k) * w (ix2 k d)) 0 * max (∑ k : Fin 1024, h (ix2 r k) * w (ix2 k d)) 0) ∧
    (k0_pay698 h w (ix2 r d) = max (∑ k : Fin 1024, h (ix2 r k) * w (ix2 k d)) 0 * max (∑ k : Fin 1024, h (ix2 r k) * w (ix2 k d)) 0) ∧
    (k0_pay1 (k0_pay699 h w) (FloatOps.ofBits (F := Ideal) FTy.f32 0#32) (ix2 r d)
      = max (∑ k : Fin 1024, h (ix2 r k) * w (ix2 k d)) 0 * max (∑ k : Fin 1024, h (ix2 r k) * w (ix2 k d)) 0) := by
  refine ⟨?_, ?_, ?_, ?_⟩
  · pointwise [k0_pay694]
  · pointwise [k0_pay697]
  · pointwise [k0_pay698]
  · pointwise [k0_pay1, k0_pay699]

theorem hid0_at (hW : Wt I R) (hP : Pt I t R) (r : Fin 512) (d : Fin 1024) :
    hid0 V R (ix2 r d) = I.hid (rb r) (tm t (rj r)) ⟨d.val, by omega⟩ := by
  unfold hid0; rw [(hid_form _ _ r d).1]; simp only [h2b_eq, h2_at hW hP, hW.p0]; rfl
theorem hid1_at (hW : Wt I R) (hP : Pt I t R) (r : Fin 512) (d : Fin 1024) :
    hid1 V R (ix2 r d) = I.hid (rb r) (tm t (rj r)) ⟨1024 + d.val, by omega⟩ := by
  unfold hid1; rw [(hid_form _ _ r d).2.1]; simp only [h2b_eq, h2_at hW hP, hW.p1]; rfl
theorem hid2_at (hW : Wt I R) (hP : Pt I t R) (r : Fin 512) (d : Fin 1024) :
    hid2 V R (ix2 r d) = I.hid (rb r) (tm t (rj r)) ⟨2048 + d.val, by omega⟩ := by
  unfold hid2; rw [(hid_form _ _ r d).2.2.1]; simp only [h2b_eq, h2_at hW hP, hW.p2]; rfl
theorem hid3_at (hW : Wt I R) (hP : Pt I t R) (r : Fin 512) (d : Fin 1024) :
    hid3 V R (ix2 r d) = I.hid (rb r) (tm t (rj r)) ⟨3072 + d.val, by omega⟩ := by
  unfold hid3; rw [(hid_form _ _ r d).2.2.2]; simp only [h2b_eq, h2_at hW hP, hW.p3]; rfl

/-! ## The chunk before -/

/-- What the point reads of the chunk before it. -/
structure Pv (I : Inp) (t : Fin 32) (R : Rd) : Prop where
  xp : ∀ b j d, R.xp (ix3 b j d) = I.x1 b (tm t j) d
  hp : ∀ r f, R.hp (ix2 r f) = I.hid (rb r) (tm t (rj r)) f

theorem mlp_form (h : Vec Ideal S512x4096 .bf16) (w : Vec Ideal S4096x256 .bf16) (r : Fin 512) (d : Fin 256) :
    (k0_pay688 h w (ix2 r d) = ∑ f : Fin 4096, h (ix2 r f) * w (ix2 f d)) ∧
    (k0_pay120 h w (ix2 r d) = ∑ f : Fin 4096, h (ix2 r f) * w (ix2 f d)) ∧
    (k0_pay113 h w (ix2 r d) = ∑ f : Fin 4096, h (ix2 r f) * w (ix2 f d)) ∧
    (k0_pay13 h w (ix2 r d) = ∑ f : Fin 4096, h (ix2 r f) * w (ix2 f d)) := by
  refine ⟨?_, ?_, ?_, ?_⟩
  · pointwise [k0_pay688]
  · pointwise [k0_pay120]
  · pointwise [k0_pay113]
  · pointwise [k0_pay13]

theorem mlp_at (hW : Wt I R) (hP : Pv I t R) (r : Fin 512) (d : Fin 1024) :
    mlp V R (ix2 r d) = ∑ f : Fin 4096, I.hid (rb r) (tm t (rj r)) f * I.w2 (ix3 0 f d) := by
  have hd := d.isLt
  unfold mlp
  rw [read_cols]
  by_cases h3 : 768 ≤ d.val
  · refine (canon_in _ _ _ r d ⟨d.val - 768, by omega⟩ (by simp only; omega)).trans ?_
    rw [(mlp_form _ _ r _).1]
    refine Finset.sum_congr rfl fun f _ => ?_
    rw [hP.hp, hW.q3]
    exact congrArg (fun z => _ * I.w2 (ix3 0 f z)) (Fin.ext (by simp only; omega))
  refine (canon_out _ _ _ r d (by omega)).trans ?_
  by_cases h2 : 512 ≤ d.val
  · refine (canon_in _ _ _ r d ⟨d.val - 512, by omega⟩ (by simp only; omega)).trans ?_
    rw [(mlp_form _ _ r _).2.1]
    refine Finset.sum_congr rfl fun f _ => ?_
    rw [hP.hp, hW.q2]
    exact congrArg (fun z => _ * I.w2 (ix3 0 f z)) (Fin.ext (by simp only; omega))
  refine (canon_out _ _ _ r d (by omega)).trans ?_
  by_cases h1 : 256 ≤ d.val
  · refine (canon_in _ _ _ r d ⟨d.val - 256, by omega⟩ (by simp only; omega)).trans ?_
    rw [(mlp_form _ _ r _).2.2.1]
    refine Finset.sum_congr rfl fun f _ => ?_
    rw [hP.hp, hW.q1]
    exact congrArg (fun z => _ * I.w2 (ix3 0 f z)) (Fin.ext (by simp only; omega))
  refine (canon_out _ _ _ r d (by omega)).trans ?_
  refine (canon_in _ _ _ r d ⟨d.val, by omega⟩ (by simp only; omega)).trans ?_
  rw [(mlp_form _ _ r _).2.2.2]
  refine Finset.sum_congr rfl fun f _ => ?_
  rw [hP.hp, hW.q0]

theorem out_form (m : Vec Ideal S1x8x1x1024 .f32) (x : Vec Ideal S8x64x1024 .f32) (y : Vec Ideal S512x1024 .f32)
    (g : Vec Ideal S1x1024 .f32) (b : Fin 8) (j : Fin 64) (d : Fin 1024) :
    k0_pay696 (k0_pay695 (k0_pay12 m) x y) g (ix3 b j d)
      = (x (ix3 b j d) + m (ix4 0 b 0 d) * y (ix2 ⟨b.val * 64 + j.val, by omega⟩ d))
        * rms (fun k => x (ix3 b j k) + m (ix4 0 b 0 k) * y (ix2 ⟨b.val * 64 + j.val, by omega⟩ k)) * g (ix2 0 d) := by
  pointwise [k0_pay696, k0_pay695, k0_pay12]
  rfl

theorem out_at (hW : Wt I R) (hP : Pv I t R) (b : Fin 8) (j : Fin 64) (d : Fin 1024) :
    out V R (ix3 b j d) = I.out b (tm t j) d := by
  unfold out
  rw [out_form]
  simp only [mlp_at hW hP, hP.xp, rb_mk, rj_mk, hW.m5, hW.fg]
  rfl

/-! ## What the next point finds -/

theorem tail_form (u : FVec Ideal S8x64x512 .f32) (b : Fin 8) (i : Fin 8) (c : Fin 512) :
    (k0_pay24 u (ix3 b i c) = u (ix3 b ⟨56 + i.val, by omega⟩ c)) ∧ (k0_pay31 u (ix3 b i c) = u (ix3 b ⟨56 + i.val, by omega⟩ c)) := by
  refine ⟨?_, ?_⟩
  · pointwise [k0_pay24]
  · pointwise [k0_pay31]

theorem back_next (f : Fin 2048 → EReal) (t t' : Fin 32) (ht : t'.val = t.val + 1) (k : ℕ) (h1 : 1 ≤ k) (h3 : k ≤ 3) :
    f (tm t ⟨56 + (8 - k), by omega⟩) = Inp.back f (tm t' 0) k := by
  unfold Inp.back
  rw [if_pos (by show k ≤ t'.val * 64 + 0; omega)]
  exact congrArg f (Fin.ext (by show t.val * 64 + (56 + (8 - k)) = t'.val * 64 + 0 - k; omega))

theorem lt_at (hW : Wt I R) (hP : Pt I t R) (t' : Fin 32) (ht : t'.val = t.val + 1) (b : Fin 8) (c : Fin 512) (k : ℕ)
    (h1 : 1 ≤ k) (h3 : k ≤ 3) : lt' V R (ix3 b ⟨8 - k, by omega⟩ c) = Inp.back (fun s => I.ulx b s c) (tm t' 0) k := by
  unfold lt'
  rw [(tail_form _ b _ c).1, ulx_at hW hP]
  exact back_next (fun s => I.ulx b s c) t t' ht k h1 h3

theorem ct_at (hW : Wt I R) (hP : Pt I t R) (t' : Fin 32) (ht : t'.val = t.val + 1) (b : Fin 8) (c : Fin 512) (k : ℕ)
    (h1 : 1 ≤ k) (h3 : k ≤ 3) : ct' V R (ix3 b ⟨8 - k, by omega⟩ c) = Inp.back (fun s => I.cv b s c) (tm t' 0) k := by
  unfold ct'
  rw [(tail_form _ b _ c).2]
  refine (cv_at (V := V) hW hP b _ c).trans ?_
  exact back_next (fun s => I.cv b s c) t t' ht k h1 h3

theorem state_form (p : FVec Ideal S8x128 .f32) (b : Fin 8) (l : Fin 128) :
    k0_pay668 p (ix2 b l) = p (ix2 b l) ∧ k0_pay669 p (ix2 b l) = p (ix2 b l) ∧ k0_pay670 p (ix2 b l) = p (ix2 b l)
      ∧ k0_pay671 p (ix2 b l) = p (ix2 b l) := by
  refine ⟨?_, ?_, ?_, ?_⟩
  · pointwise [k0_pay668]
  · pointwise [k0_pay669]
  · pointwise [k0_pay670]
  · pointwise [k0_pay671]

theorem s0_at (hW : Wt I R) (hP : Pt I t R) (b : Fin 8) (l : Fin 128) :
    s0' V R (ix2 b l) = I.hs b ⟨0 * 128 + l.val, by omega⟩ (t.val * 64 + 64) := by
  unfold s0'
  rw [(state_form _ b l).1, (fin_inv (V := V) hW hP).p0, W_eq _ _ _ _ (by decide)]
  rfl
theorem s1_at (hW : Wt I R) (hP : Pt I t R) (b : Fin 8) (l : Fin 128) :
    s1' V R (ix2 b l) = I.hs b ⟨1 * 128 + l.val, by omega⟩ (t.val * 64 + 64) := by
  unfold s1'
  rw [(state_form _ b l).2.1, (fin_inv (V := V) hW hP).p1, W_eq _ _ _ _ (by decide)]
  rfl
theorem s2_at (hW : Wt I R) (hP : Pt I t R) (b : Fin 8) (l : Fin 128) :
    s2' V R (ix2 b l) = I.hs b ⟨2 * 128 + l.val, by omega⟩ (t.val * 64 + 64) := by
  unfold s2'
  rw [(state_form _ b l).2.2.1, (fin_inv (V := V) hW hP).p2, W_eq _ _ _ _ (by decide)]
  rfl
theorem s3_at (hW : Wt I R) (hP : Pt I t R) (b : Fin 8) (l : Fin 128) :
    s3' V R (ix2 b l) = I.hs b ⟨3 * 128 + l.val, by omega⟩ (t.val * 64 + 64) := by
  unfold s3'
  rw [(state_form _ b l).2.2.2, (fin_inv (V := V) hW hP).p3, W_eq _ _ _ _ (by decide)]
  rfl

end

end Cert.Proof.Body
-- ==== Proof.SameA.lean ====
/-
  What a point's run stores is what `Body` names.
-/
module

public import proofs.«01_k».proof.Proof.Body
public import proofs.«01_k».proof.Proof.Gen.KernelIdeal.Frame.RunA

@[expose] public section

set_option maxRecDepth 65536

noncomputable section

namespace Cert.Proof.Body

open Idealize.ShloMosaic Idealize.ShloMosaic.Tactic Cert.KernelIdeal Cert.KernelIdeal.Gen

section
variable (c : Dev nD) (i : grid0.Coords) (arg1 : Memref sig .tc .vmem S8x64x1024 .f32)
  (harg1 : arg1.IsWhole) (arg2 : Memref sig .tc .vmem S6x8x1x1024 .f32)
  (harg2 : arg2.IsWhole) (arg3 : Memref sig .tc .vmem S1x1024 .f32)
  (harg3 : arg3.IsWhole) (arg4 : Memref sig .tc .vmem S1024x2560 .bf16)
  (harg4 : arg4.IsWhole) (arg5 : Memref sig .tc .vmem S4x512 .f32)
  (harg5 : arg5.IsWhole) (arg6 : Memref sig .tc .vmem S1x512 .f32)
  (harg6 : arg6.IsWhole) (arg7 : Memref sig .tc .vmem S2x256x512 .bf16)
  (harg7 : arg7.IsWhole) (arg8 : Memref sig .tc .vmem S1x512 .f32)
  (harg8 : arg8.IsWhole) (arg9 : Memref sig .tc .vmem S1x512 .f32)
  (harg9 : arg9.IsWhole) (arg10 : Memref sig .tc .vmem S1x512 .f32)
  (harg10 : arg10.IsWhole) (arg11 : Memref sig .tc .vmem S3x512 .f32)
  (harg11 : arg11.IsWhole) (arg12 : Memref sig .tc .vmem S1x512 .f32)
  (harg12 : arg12.IsWhole) (arg13 : Memref sig .tc .vmem S1x512 .f32)
  (harg13 : arg13.IsWhole) (arg14 : Memref sig .tc .vmem S256x256 .bf16)
  (harg14 : arg14.IsWhole) (arg15 : Memref sig .tc .vmem S1024x1024 .bf16)
  (harg15 : arg15.IsWhole) (arg16 : Memref sig .tc .vmem S1x1024 .f32)
  (harg16 : arg16.IsWhole) (arg17 : Memref sig .tc .vmem S1024x4096 .bf16)
  (harg17 : arg17.IsWhole) (arg18 : Memref sig .tc .vmem S4096x1024 .bf16)
  (harg18 : arg18.IsWhole) (arg19 : Memref sig .tc .vmem S1x1024 .f32)
  (harg19 : arg19.IsWhole) (arg20 : Memref sig .tc .vmem S8x64x1024 .f32)
  (harg20 : arg20.IsWhole) (arg21 : Memref sig .tc .vmem S8x8x512 .f32)
  (harg21 : arg21.IsWhole) (arg22 : Memref sig .tc .vmem S8x8x512 .f32)
  (harg22 : arg22.IsWhole) (arg23 : Memref sig .tc .vmem S8x512 .f32)
  (harg23 : arg23.IsWhole) (arg24 : Memref sig .tc .vmem S4x576x128 .f32)
  (harg24 : arg24.IsWhole) (arg25 : Memref sig .tc .vmem S4x576x128 .f32)
  (harg25 : arg25.IsWhole) (arg26 : Memref sig .tc .vmem S512x1024 .bf16)
  (harg26 : arg26.IsWhole) (arg27 : Memref sig .tc .vmem S8x64x1024 .f32)
  (harg27 : arg27.IsWhole) (arg28 : Memref sig .tc .vmem S512x1024 .bf16)
  (harg28 : arg28.IsWhole) (arg29 : Memref sig .tc .vmem S512x4096 .bf16)
  (harg29 : arg29.IsWhole) (arg30 : Memref sig .tc .vmem S512x1024 .f32)
  (harg30 : arg30.IsWhole) (arg31 : Memref sig .tc .vmem S512x512 .bf16)
  (harg31 : arg31.IsWhole) (arg32 : Memref sig .tc .vmem S512x512 .bf16)
  (harg32 : arg32.IsWhole) (arg33 : Memref sig .tc .vmem S512x512 .bf16)
  (harg33 : arg33.IsWhole) (arg34 : Memref sig .tc .vmem S512x1024 .bf16)
  (harg34 : arg34.IsWhole)
  (hc0 : cond0_0 i)
  (x0 : Vec Ideal S8x64x1024 .f32) (x1 : Vec Ideal S6x8x1x1024 .f32) (x2 : Vec Ideal S1x1024 .f32) (x3 : Vec Ideal S1024x2560 .bf16) (x4 : Vec Ideal S4x512 .f32) (x5 : Vec Ideal S1x512 .f32) (x6 : Vec Ideal S2x256x512 .bf16) (x7 : Vec Ideal S1x512 .f32) (x8 : Vec Ideal S1x512 .f32) (x9 : Vec Ideal S1x512 .f32) (x10 : Vec Ideal S3x512 .f32) (x11 : Vec Ideal S1x512 .f32) (x12 : Vec Ideal S1x512 .f32) (x13 : Vec Ideal S256x256 .bf16) (x14 : Vec Ideal S1024x1024 .bf16) (x15 : Vec Ideal S1x1024 .f32) (x16 : Vec Ideal S1024x4096 .bf16) (x17 : Vec Ideal S4096x1024 .bf16) (x18 : Vec Ideal S1x1024 .f32)

/-- What the body reads in case A. -/
def rdA : Rd where
  i0 := BitVec.ofNat 32 (i 0)
  x := rd arg1 harg1 x0 (Rect.unit ![0, 0, 0] S8x64x1024.size inb_S8x64x1024_S8x64x1024_0_0_0)
  m0 := rd arg2 harg2 x1 (Rect.unit ![0, 0, 0, 0] S1x8x1x1024.size inb_S6x8x1x1024_S1x8x1x1024_0_0_0_0)
  m1 := rd arg2 harg2 x1 (Rect.unit ![1, 0, 0, 0] S1x8x1x1024.size inb_S6x8x1x1024_S1x8x1x1024_1_0_0_0)
  m2 := rd arg2 harg2 x1 (Rect.unit ![2, 0, 0, 0] S1x8x1x1024.size inb_S6x8x1x1024_S1x8x1x1024_2_0_0_0)
  m3 := rd arg2 harg2 x1 (Rect.unit ![3, 0, 0, 0] S1x8x1x1024.size inb_S6x8x1x1024_S1x8x1x1024_3_0_0_0)
  m4 := rd arg2 harg2 x1 (Rect.unit ![4, 0, 0, 0] S1x8x1x1024.size inb_S6x8x1x1024_S1x8x1x1024_4_0_0_0)
  m5 := rd arg2 harg2 x1 (Rect.unit ![5, 0, 0, 0] S1x8x1x1024.size inb_S6x8x1x1024_S1x8x1x1024_5_0_0_0)
  n1g := rd arg3 harg3 x2 (Rect.unit ![0, 0] S1x1024.size inb_S1x1024_S1x1024_0_0)
  wlx := rd arg4 harg4 x3 (Rect.unit ![0, 0] S1024x512.size inb_S1024x2560_S1024x512_0_0)
  wly := rd arg4 harg4 x3 (Rect.unit ![0, 512] S1024x512.size inb_S1024x2560_S1024x512_0_512)
  wb := rd arg4 harg4 x3 (Rect.unit ![0, 1024] S1024x512.size inb_S1024x2560_S1024x512_0_1024)
  wc := rd arg4 harg4 x3 (Rect.unit ![0, 1536] S1024x512.size inb_S1024x2560_S1024x512_0_1536)
  wv := rd arg4 harg4 x3 (Rect.unit ![0, 2048] S1024x512.size inb_S1024x2560_S1024x512_0_2048)
  lcw := rd arg5 harg5 x4 (Rect.unit ![0, 0] S4x512.size inb_S4x512_S4x512_0_0)
  lcb := rd arg6 harg6 x5 (Rect.unit ![0, 0] S1x512.size inb_S1x512_S1x512_0_0)
  g0 := rd arg7 harg7 x6 (Rect.unit ![0, 0, 0] S1x256x512.size inb_S2x256x512_S1x256x512_0_0_0)
  g1 := rd arg7 harg7 x6 (Rect.unit ![1, 0, 0] S1x256x512.size inb_S2x256x512_S1x256x512_1_0_0)
  gab := rd arg8 harg8 x7 (Rect.unit ![0, 0] S1x512.size inb_S1x512_S1x512_0_0)
  gxb := rd arg9 harg9 x8 (Rect.unit ![0, 0] S1x512.size inb_S1x512_S1x512_0_0)
  ap := rd arg10 harg10 x9 (Rect.unit ![0, 0] S1x512.size inb_S1x512_S1x512_0_0)
  scw := rd arg11 harg11 x10 (Rect.unit ![0, 0] S3x512.size inb_S3x512_S3x512_0_0)
  lg := rd arg12 harg12 x11 (Rect.unit ![0, 0] S1x512.size inb_S1x512_S1x512_0_0)
  cg := rd arg13 harg13 x12 (Rect.unit ![0, 0] S1x512.size inb_S1x512_S1x512_0_0)
  pool := rd arg14 harg14 x13 (Rect.unit ![0, 0] S256x256.size inb_S256x256_S256x256_0_0)
  wo := rd arg15 harg15 x14 (Rect.unit ![0, 0] S1024x1024.size inb_S1024x1024_S1024x1024_0_0)
  n2g := rd arg16 harg16 x15 (Rect.unit ![0, 0] S1x1024.size inb_S1x1024_S1x1024_0_0)
  p0 := rd arg17 harg17 x16 (Rect.unit ![0, 0] S1024x1024.size inb_S1024x4096_S1024x1024_0_0)
  p1 := rd arg17 harg17 x16 (Rect.unit ![0, 1024] S1024x1024.size inb_S1024x4096_S1024x1024_0_1024)
  p2 := rd arg17 harg17 x16 (Rect.unit ![0, 2048] S1024x1024.size inb_S1024x4096_S1024x1024_0_2048)
  p3 := rd arg17 harg17 x16 (Rect.unit ![0, 3072] S1024x1024.size inb_S1024x4096_S1024x1024_0_3072)
  q0 := rd arg18 harg18 x17 (Rect.unit ![0, 0] S4096x256.size inb_S4096x1024_S4096x256_0_0)
  q1 := rd arg18 harg18 x17 (Rect.unit ![0, 256] S4096x256.size inb_S4096x1024_S4096x256_0_256)
  q2 := rd arg18 harg18 x17 (Rect.unit ![0, 512] S4096x256.size inb_S4096x1024_S4096x256_0_512)
  q3 := rd arg18 harg18 x17 (Rect.unit ![0, 768] S4096x256.size inb_S4096x1024_S4096x256_0_768)
  fg := rd arg19 harg19 x18 (Rect.unit ![0, 0] S1x1024.size inb_S1x1024_S1x1024_0_0)
  lt := arg21.view.readCov [⟨Rect.unit ![0, 0, 0] S8x8x512.size inb_S8x8x512_S8x8x512_0_0_0, k0_pay2 (F := Ideal)⟩] (Rect.unit ![0, 0, 0] S8x8x512.size inb_S8x8x512_S8x8x512_0_0_0 : Rect S8x8x512).toLoadRect
  ct := arg22.view.readCov [⟨Rect.unit ![0, 0, 0] S8x8x512.size inb_S8x8x512_S8x8x512_0_0_0, k0_pay3 (F := Ideal)⟩] (Rect.unit ![0, 0, 0] S8x8x512.size inb_S8x8x512_S8x8x512_0_0_0 : Rect S8x8x512).toLoadRect
  s0 := arg23.view.readCov [⟨Rect.unit ![0, 0] S8x512.size inb_S8x512_S8x512_0_0, k0_pay4 (F := Ideal)⟩] (Rect.unit ![0, 0] S8x128.size inb_S8x512_S8x128_0_0 : Rect S8x512).toLoadRect
  s1 := arg23.view.readCov [⟨Rect.unit ![0, 0] S8x512.size inb_S8x512_S8x512_0_0, k0_pay4 (F := Ideal)⟩] (Rect.unit ![0, 128] S8x128.size inb_S8x512_S8x128_0_128 : Rect S8x512).toLoadRect
  s2 := arg23.view.readCov [⟨Rect.unit ![0, 0] S8x512.size inb_S8x512_S8x512_0_0, k0_pay4 (F := Ideal)⟩] (Rect.unit ![0, 256] S8x128.size inb_S8x512_S8x128_0_256 : Rect S8x512).toLoadRect
  s3 := arg23.view.readCov [⟨Rect.unit ![0, 0] S8x512.size inb_S8x512_S8x512_0_0, k0_pay4 (F := Ideal)⟩] (Rect.unit ![0, 384] S8x128.size inb_S8x512_S8x128_0_384 : Rect S8x512).toLoadRect
  xp := arg27.view.readCov [⟨Rect.unit ![0, 0, 0] S8x64x1024.size inb_S8x64x1024_S8x64x1024_0_0_0, k0_pay5 (F := Ideal)⟩] (Rect.unit ![0, 0, 0] S8x64x1024.size inb_S8x64x1024_S8x64x1024_0_0_0 : Rect S8x64x1024).toLoadRect
  hp := arg29.view.readCov [⟨Rect.unit ![0, 0] S512x4096.size inb_S512x4096_S512x4096_0_0, k0_pay6 (F := Ideal)⟩] (Rect.unit ![0, 0] S512x4096.size inb_S512x4096_S512x4096_0_0 : Rect S512x4096).toLoadRect

/-- What case A stores is the body's arrays. -/
theorem out_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).1
    = [⟨Rect.unit ![0, 0, 0] S8x64x1024.size inb_S8x64x1024_S8x64x1024_0_0_0, out (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩] := by sl_kernel_rfl

theorem lt_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.1
    = ⟨Rect.unit ![0, 0, 0] S8x8x512.size inb_S8x8x512_S8x8x512_0_0_0, lt' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: [⟨Rect.unit ![0, 0, 0] S8x8x512.size inb_S8x8x512_S8x8x512_0_0_0, k0_pay2 (F := Ideal)⟩] := by sl_kernel_rfl

theorem ct_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.1
    = ⟨Rect.unit ![0, 0, 0] S8x8x512.size inb_S8x8x512_S8x8x512_0_0_0, ct' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: [⟨Rect.unit ![0, 0, 0] S8x8x512.size inb_S8x8x512_S8x8x512_0_0_0, k0_pay3 (F := Ideal)⟩] := by sl_kernel_rfl

theorem st_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.1
    = ⟨Rect.unit ![0, 384] S8x128.size inb_S8x512_S8x128_0_384, s3' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 256] S8x128.size inb_S8x512_S8x128_0_256, s2' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 128] S8x128.size inb_S8x512_S8x128_0_128, s1' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 0] S8x128.size inb_S8x512_S8x128_0_0, s0' (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: [⟨Rect.unit ![0, 0] S8x512.size inb_S8x512_S8x512_0_0, k0_pay4 (F := Ideal)⟩] := by sl_kernel_rfl

theorem x1_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.1
    = ⟨Rect.unit ![0, 0, 0] S8x64x1024.size inb_S8x64x1024_S8x64x1024_0_0_0, Body.x1 (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: [⟨Rect.unit ![0, 0, 0] S8x64x1024.size inb_S8x64x1024_S8x64x1024_0_0_0, k0_pay5 (F := Ideal)⟩] := by sl_kernel_rfl

theorem hid_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18).2.2.2.2.2.1
    = ⟨Rect.unit ![0, 3072] S512x1024.size inb_S512x4096_S512x1024_0_3072, hid3 (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 2048] S512x1024.size inb_S512x4096_S512x1024_0_2048, hid2 (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 1024] S512x1024.size inb_S512x4096_S512x1024_0_1024, hid1 (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: ⟨Rect.unit ![0, 0] S512x1024.size inb_S512x4096_S512x1024_0_0, hid0 (vs arg24 arg25 arg26 arg28 arg30 arg31 arg32 arg33 arg34) (rdA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 arg22 arg23 arg27 arg29 x0 x1 x2 x3 x4 x5 x6 x7 x8 x9 x10 x11 x12 x13 x14 x15 x16 x17 x18)⟩ :: [⟨Rect.unit ![0, 0] S512x4096.size inb_S512x4096_S512x4096_0_0, k0_pay6 (F := Ideal)⟩] := by sl_kernel_rfl

end

end Cert.Proof.Body
-- ==== Proof.SameB.lean ====
/-
  What a point's run stores is what `Body` names.
-/
module

public import proofs.«01_k».proof.Proof.Body
public import proofs.«01_k».proof.Proof.Gen.KernelIdeal.Frame.RunB

@[expose] public section

set_option maxRecDepth 65536

noncomputable section

namespace Cert.Proof.Body

open Idealize.ShloMosaic Idealize.ShloMosaic.Tactic Cert.KernelIdeal Cert.KernelIdeal.Gen

section
variable (c : Dev nD) (i : grid0.Coords) (arg1 : Memref sig .tc .vmem S8x64x1024 .f32)
  (harg1 : arg1.IsWhole) (arg2 : Memref sig .tc .vmem S6x8x1x1024 .f32)
  (harg2 : arg2.IsWhole) (arg3 : Memref sig .tc .vmem S1x1024 .f32)
  (harg3 : arg3.IsWhole) (arg4 : Memref sig .tc .vmem S1024x2560 .bf16)
  (harg4 : arg4.IsWhole) (arg5 : Memref sig .tc .vmem S4x512 .f32)
  (harg5 : arg5.IsWhole) (arg6 : Memref sig .tc .vmem S1x512 .f32)
  (harg6 : arg6.IsWhole) (arg7 : Memref sig .tc .vmem S2x256x512 .bf16)
  (harg7 : arg7.IsWhole) (arg8 : Memref sig .tc .vmem S1x512 .f32)
  (harg8 : arg8.IsWhole) (arg9 : Memref sig .tc .vmem S1x512 .f32)
  (harg9 : arg9.IsWhole) (arg10 : Memref sig .tc .vmem S1x512 .f32)
  (harg10 : arg10.IsWhole) (arg11 : Memref sig .tc .vmem S3x512 .f32)
  (harg11 : arg11.IsWhole) (arg12 : Memref sig .tc .vmem S1x512 .f32)
  (harg12 : arg12.IsWhole) (arg13 : Memref sig .tc .vmem S1x512 .f32)
  (harg13 : arg13.IsWhole) (arg14 : Memref sig .tc .vmem S256x256 .bf16)
  (harg14 : arg14.IsWhole) (arg15 : Memref sig .tc .vmem S1024x1024 .bf16)
  (harg15 : arg15.IsWhole) (arg16 : Memref sig .tc .vmem S1x1024 .f32)
  (harg16 : arg16.IsWhole) (arg17 : Memref sig .tc .vmem S1024x4096 .bf16)
  (harg17 : arg17.IsWhole) (arg18 : Memref sig .tc .vmem S4096x1024 .bf16)
  (harg18 : arg18.IsWhole) (arg19 : Memref sig .tc .vmem S1x1024 .f32)
  (harg19 : arg19.IsWhole) (arg20 : Memref sig .tc .vmem S8x64x1024 .f32)
  (harg20 : arg20.IsWhole) (arg21 : Memref sig .tc .vmem S8x8x512 .f32)
  (harg21 : arg21.IsWhole) (arg22 : Memref sig .tc .vmem S8x8x512 .f32)
  (harg22 : arg22.IsWhole) (arg23 : Memref sig .tc .vmem S8x512 .f32)
  (harg23 : arg23.IsWhole) (arg24 : Memref sig .tc .vmem S4x576x128 .f32)
  (harg24 : arg24.IsWhole) (arg25 : Memref sig .tc .vmem S4x576x128 .f32)
  (harg25 : arg25.IsWhole) (arg26 : Memref sig .tc .vmem S512x1024 .bf16)
  (harg26 : arg26.IsWhole) (arg27 : Memref sig .tc .vmem S8x64x1024 .f32)
  (harg27 : arg27.IsWhole) (arg28 : Memref sig .tc .vmem S512x1024 .bf16)
  (harg28 : arg28.IsWhole) (arg29 : Memref sig .tc .vmem S512x4096 .bf16)
  (harg29 : arg29.IsWhole) (arg30 : Memref sig .tc .vmem S512x1024 .f32)
  (harg30 : arg30.IsWhole) (arg31 : Memref sig .tc .vmem S512x512 .bf16)
  (harg31 : arg31.IsWhole) (arg32 : Memref sig .tc .vmem S512x512 .bf16)
  (harg32 : arg32.IsWhole) (arg33 : Memref sig .tc .vmem S512x512 .bf16)
  (harg33 : arg33.IsWhole) (arg34 : Memref sig .tc .vmem S512x1024 .bf16)
  (harg34 : arg34.IsWhole)
  (hc0 : ¬cond0_0 i)
  (x0 : Vec Ideal S8x64x1024 .f32) (x1 : Vec Ideal S6x8x1x1024 .f32) (x2 : Vec Ideal S1x1024 .f32) (x3 : Vec Ideal S1024x2560 .bf16) (x4 : Vec Ideal S4x512 .f32) (x5 : Vec Ideal S1x512 .f32) (x6 : Vec Ideal S2x256x512 .bf16) (x7 : Vec Ideal S1x512 .f32) (x8 : Vec Ideal S1x512 .f32) (x9 : Vec Ideal S1x512 .f32) (x10 : Vec Ideal S3x512 .f32) (x11 : Vec Ideal S1x512 .f32) (x12 : Vec Ideal S1x512 .f32) (x13 : Vec Ideal S256x256 .bf16) (x14 : Vec Ideal S1024x1024 .bf16) (x15 : Vec Ideal S1x1024 .f32) (x16 : Vec Ideal S1024x4096 .bf16) (x17 : Vec Ideal S4096x1024 .bf16) (x18 : Vec Ideal S1x1024 .f32)
  (xs0 : Vec Ideal S8x8x512 .f32) (xs1 : Vec Ideal S8x8x512 .f32) (xs2 : Vec Ideal S8x512 .f32) (xs6 : Vec Ideal S8x64x1024 .f32) (xs8 : Vec Ideal S512x4096 .bf16)

/-- What the body reads in case B. -/
def rdB : Rd where
  i0 := BitVec.ofNat 32 (i 0)
  x := rd arg1 harg1 x0 (Rect.unit ![0, 0, 0] S8x64x1024.size inb_S8x64x1024_S8x64x1024_0_0_0)
  m0 := rd arg2 harg2 x1 (Rect.unit ![0, 0, 0, 0] S1x8x1x1024.size inb_S6x8x1x1024_S1x8x1x1024_0_0_0_0)
  m1 := rd arg2 harg2 x1 (Rect.unit ![1, 0, 0, 0] S1x8x1x1024.size inb_S6x8x1x1024_S1x8x1x1024_1_0_0_0)
  m2 := rd arg2 harg2 x1 (Rect.unit ![2, 0, 0, 0] S1x8x1x1024.size inb_S6x8x1x1024_S1x8x1x1024_2_0_0_0)
  m3 := rd arg2 harg2 x1 (Rect.unit ![3, 0, 0, 0] S1x8x1x1024.size inb_S6x8x1x1024_S1x8x1x1024_3_0_0_0)
  m4 := rd arg2 harg2 x1 (Rect.unit ![4, 0, 0, 0] S1x8x1x1024.size inb_S6x8x1x1024_S1x8x1x1024_4_0_0_0)
  m5 := rd arg2 harg2 x1 (Rect.unit ![5, 0, 0, 0] S1x8x1x1024.size inb_S6x8x1x1024_S1x8x1x1024_5_0_0_0)
  n1g := rd arg3 harg3 x2 (Rect.unit ![0, 0] S1x1024.size inb_S1x1024_S1x1024_0_0)
  wlx := rd arg4 harg4 x3 (Rect.unit ![0, 0] S1024x512.size inb_S1024x2560_S1024x512_0_0)
  wly := rd arg4 harg4 x3 (Rect.unit ![0, 512] S1024x512.size inb_S1024x2560_S1024x512_0_512)
  wb := rd arg4 harg4 x3 (Rect.unit ![0, 1024] S1024x512.size inb_S1024x2560_S1024x512_0_1024)
  wc := rd arg4 harg4 x3 (Rect.unit ![0, 1536] S1024x512.size inb_S1024x2560_S1024x512_0_1536)
  wv := rd arg4 harg4 x3 (Rect.unit ![0, 2048] S1024x512.size inb_S1024x2560_S1024x512_0_2048)
  lcw := rd arg5 harg5 x4 (Rect.unit ![0, 0] S4x512.size inb_S4x512_S4x512_0_0)
  lcb := rd arg6 harg6 x5 (Rect.unit ![0, 0] S1x512.size inb_S1x512_S1x512_0_0)
  g0 := rd arg7 harg7 x6 (Rect.unit ![0, 0, 0] S1x256x512.size inb_S2x256x512_S1x256x512_0_0_0)
  g1 := rd arg7 harg7 x6 (Rect.unit ![1, 0, 0] S1x256x512.size inb_S2x256x512_S1x256x512_1_0_0)
  gab := rd arg8 harg8 x7 (Rect.unit ![0, 0] S1x512.size inb_S1x512_S1x512_0_0)
  gxb := rd arg9 harg9 x8 (Rect.unit ![0, 0] S1x512.size inb_S1x512_S1x512_0_0)
  ap := rd arg10 harg10 x9 (Rect.unit ![0, 0] S1x512.size inb_S1x512_S1x512_0_0)
  scw := rd arg11 harg11 x10 (Rect.unit ![0, 0] S3x512.size inb_S3x512_S3x512_0_0)
  lg := rd arg12 harg12 x11 (Rect.unit ![0, 0] S1x512.size inb_S1x512_S1x512_0_0)
  cg := rd arg13 harg13 x12 (Rect.unit ![0, 0] S1x512.size inb_S1x512_S1x512_0_0)
  pool := rd arg14 harg14 x13 (Rect.unit ![0, 0] S256x256.size inb_S256x256_S256x256_0_0)
  wo := rd arg15 harg15 x14 (Rect.unit ![0, 0] S1024x1024.size inb_S1024x1024_S1024x1024_0_0)
  n2g := rd arg16 harg16 x15 (Rect.unit ![0, 0] S1x1024.size inb_S1x1024_S1x1024_0_0)
  p0 := rd arg17 harg17 x16 (Rect.unit ![0, 0] S1024x1024.size inb_S1024x4096_S1024x1024_0_0)
  p1 := rd arg17 harg17 x16 (Rect.unit ![0, 1024] S1024x1024.size inb_S1024x4096_S1024x1024_0_1024)
  p2 := rd arg17 harg17 x16 (Rect.unit ![0, 2048] S1024x1024.size inb_S1024x4096_S1024x1024_0_2048)
  p3 := rd arg17 harg17 x16 (Rect.unit ![0, 3072] S1024x1024.size inb_S1024x4096_S1024x1024_0_3072)
  q0 := rd arg18 harg18 x17 (Rect.unit ![0, 0] S4096x256.size inb_S4096x1024_S4096x256_0_0)
  q1 := rd arg18 harg18 x17 (Rect.unit ![0, 256] S4096x256.size inb_S4096x1024_S4096x256_0_256)
  q2 := rd arg18 harg18 x17 (Rect.unit ![0, 512] S4096x256.size inb_S4096x1024_S4096x256_0_512)
  q3 := rd arg18 harg18 x17 (Rect.unit ![0, 768] S4096x256.size inb_S4096x1024_S4096x256_0_768)
  fg := rd arg19 harg19 x18 (Rect.unit ![0, 0] S1x1024.size inb_S1x1024_S1x1024_0_0)
  lt := rd arg21 harg21 xs0 (Rect.unit ![0, 0, 0] S8x8x512.size inb_S8x8x512_S8x8x512_0_0_0)
  ct := rd arg22 harg22 xs1 (Rect.unit ![0, 0, 0] S8x8x512.size inb_S8x8x512_S8x8x512_0_0_0)
  s0 := rd arg23 harg23 xs2 (Rect.unit ![0, 0] S8x128.size inb_S8x512_S8x128_0_0)
  s1 := rd arg23 harg23 xs2 (Rect.unit ![0, 128] S8x128.size inb_S8x512_S8x128_0_128)
  s2 := rd arg23 harg23 xs2 (Rect.unit ![0, 256] S8x128.size inb_S8x512_S8x128_0_256)
  s3 := rd arg23 harg23 xs2 (Rect.unit ![0, 384] S8x128.size inb_S8x512_S8x128_0_384)
  xp := rd arg27 harg27 xs6 (Rect.unit ![0, 0, 0] S8x64x1024.size inb_S8x64x1024_S8x64x1024_0_0_0)
  hp := rd arg29 harg29 xs8 (Rect.unit ![0, 0] S512x4096.size inb_S512x4096_S512x4096_0_0)

/-- What case B stores is the body's arrays. -/
theorem out_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).1
    = [⟨Rect.unit ![0, 0, 0] S8x64x1024.size inb_S8x64x1024_S8x64x1024_0_0_0, out (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩] := by sl_kernel_rfl

theorem lt_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.1
    = ⟨Rect.unit ![0, 0, 0] S8x8x512.size inb_S8x8x512_S8x8x512_0_0_0, lt' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: [] := by sl_kernel_rfl

theorem ct_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.1
    = ⟨Rect.unit ![0, 0, 0] S8x8x512.size inb_S8x8x512_S8x8x512_0_0_0, ct' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: [] := by sl_kernel_rfl

theorem st_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.1
    = ⟨Rect.unit ![0, 384] S8x128.size inb_S8x512_S8x128_0_384, s3' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 256] S8x128.size inb_S8x512_S8x128_0_256, s2' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 128] S8x128.size inb_S8x512_S8x128_0_128, s1' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 0] S8x128.size inb_S8x512_S8x128_0_0, s0' (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: [] := by sl_kernel_rfl

theorem x1_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.1
    = ⟨Rect.unit ![0, 0, 0] S8x64x1024.size inb_S8x64x1024_S8x64x1024_0_0_0, Body.x1 (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: [] := by sl_kernel_rfl

theorem hid_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 xs0 xs1 xs2 xs6 xs8).2.2.2.2.2.1
    = ⟨Rect.unit ![0, 3072] S512x1024.size inb_S512x4096_S512x1024_0_3072, hid3 (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 2048] S512x1024.size inb_S512x4096_S512x1024_0_2048, hid2 (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 1024] S512x1024.size inb_S512x4096_S512x1024_0_1024, hid1 (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: ⟨Rect.unit ![0, 0] S512x1024.size inb_S512x4096_S512x1024_0_0, hid0 (vs arg24 arg25 arg26 arg28 arg30 arg31 arg32 arg33 arg34) (rdB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 harg21 arg22 harg22 arg23 harg23 arg27 harg27 arg29 harg29 x0 x1 x2 x3 x4 x5 x6 x7 x8 x9 x10 x11 x12 x13 x14 x15 x16 x17 x18 xs0 xs1 xs2 xs6 xs8)⟩ :: [] := by sl_kernel_rfl

end

end Cert.Proof.Body
-- ==== Proof.Host.lean ====
/-
  The arrays the region finds: what the host's operations before it leave in each, from the arguments.
-/
module

public import proofs.«01_k».proof.Proof.Val1
public import proofs.«01_k».proof.Proof.Gen.KernelIdeal.Frame.Runs
public import Idealize.ShloMosaic.Lib.StableHlo.RunRead
public import Idealize.ShloMosaic.Lib.Pipeline.ValueKit

@[expose] public section

set_option maxRecDepth 65536
set_option backward.isDefEq.respectTransparency false

noncomputable section

namespace Cert.Proof.Host

open Idealize.ShloMosaic Idealize.ShloMosaic.TcCoe Idealize.ShloMosaic.Tactic Cert.KernelIdeal Cert.KernelIdeal.Gen

/-- The modulation by its six parts. -/
def modA (x : FVec Ideal S8x6144 .f32) : FVec Ideal S6x8x1x1024 .f32 :=
  transpose S6x8x1x1024 [1, 0, 2, 3] (shapeCast S8x6x1x1024 x shapeCasts_S8x6144_S8x6x1x1024) transposes_S8x6x1x1024_S6x8x1x1024_1_0_2_3

/-- Whether two of four blocks are the same. -/
def eqA : IVec S4x4 1 :=
  cmpi .eq (addi (iotaInDim S4x4 32 0) (broadcastInDim S4x4 ![] bcast_S_S4x4 (constantI S_ 32 0#32))) (iotaInDim S4x4 32 1)

/-- The pooling matrix. -/
def poolA : FVec Ideal S256x256 .bf16 :=
  shapeCast S256x256 (mulf
    (broadcastInDim S4x64x4x64 ![0, 1, 2, 3] bcast_S4x1x4x1_S4x64x4x64_0_1_2_3
      (broadcastInDim S4x1x4x1 ![0, 2] bcast_S4x4_S4x1x4x1_0_2 (uitofp (F := Ideal) .bf16 eqA)))
    (broadcastInDim S4x64x4x64 ![0, 1, 2, 3] bcast_S4x64x1x64_S4x64x4x64_0_1_2_3
      (broadcastInDim S4x64x1x64 ![0, 1, 3] bcast_S4x64x64_S4x64x1x64_0_1_3
        (broadcastInDim S4x64x64 ![] bcast_S_S4x64x64 (constant (F := Ideal) S_ .bf16 0x3C80#16))))) shapeCasts_S4x64x4x64_S256x256

/-- Four blocks down the diagonal. -/
def diag (w : FVec Ideal S4x64x64 .f32) : FVec Ideal S256x256 .f32 :=
  shapeCast S256x256 (mulf
    (broadcastInDim S4x64x4x64 ![0, 1, 2, 3] bcast_S4x1x4x1_S4x64x4x64_0_1_2_3
      (broadcastInDim S4x1x4x1 ![0, 2] bcast_S4x4_S4x1x4x1_0_2 (uitofp (F := Ideal) .f32 eqA)))
    (broadcastInDim S4x64x4x64 ![0, 1, 2, 3] bcast_S4x64x1x64_S4x64x4x64_0_1_2_3
      (broadcastInDim S4x64x1x64 ![0, 1, 3] bcast_S4x64x64_S4x64x1x64_0_1_3 w))) shapeCasts_S4x64x4x64_S256x256

/-- Both gates' blocks, by halves of the heads. -/
def gatesA (p q : FVec Ideal S1x8x64x64 .f32) : FVec Ideal S2x256x512 .bf16 :=
  truncf .bf16 (concatenate S2x256x512 0
    [⟨S1x256x512, broadcastInDim S1x256x512 ![1, 2] bcast_S256x512_S1x256x512_1_2 (concatenate S256x512 1
      [⟨S256x256, diag (extractStridedSlice S4x64x64 ![0, 0, 0] (shapeCast S8x64x64 p shapeCasts_S1x8x64x64_S8x64x64) slices_S8x64x64_S4x64x64_0_0_0)⟩,
       ⟨S256x256, diag (extractStridedSlice S4x64x64 ![0, 0, 0] (shapeCast S8x64x64 q shapeCasts_S1x8x64x64_S8x64x64) slices_S8x64x64_S4x64x64_0_0_0)⟩]
      concatenates_S256x256_S256x256_S256x512_d1)⟩,
     ⟨S1x256x512, broadcastInDim S1x256x512 ![1, 2] bcast_S256x512_S1x256x512_1_2 (concatenate S256x512 1
      [⟨S256x256, diag (extractStridedSlice S4x64x64 ![4, 0, 0] (shapeCast S8x64x64 p shapeCasts_S1x8x64x64_S8x64x64) slices_S8x64x64_S4x64x64_4_0_0)⟩,
       ⟨S256x256, diag (extractStridedSlice S4x64x64 ![4, 0, 0] (shapeCast S8x64x64 q shapeCasts_S1x8x64x64_S8x64x64) slices_S8x64x64_S4x64x64_4_0_0)⟩]
      concatenates_S256x256_S256x256_S256x512_d1)⟩] concatenates_S1x256x512_S1x256x512_S2x256x512_d0) bitsLt_bf16_f32

section
variable (m : (ℓ : Loc nD τ sig) → Buf (Elt Ideal) ℓ) (c : Dev nD)

theorem V_mod : V m c main_call0_v1 = modA (m ((c : Thread nD τ).loc main_arg1)) := by
  show StableHlo.after hostOps0 (fun b => m (c, b)) (Proc.devRef .tc main_call0_v1) = _
  after_reads_simp
  rfl

theorem V_n1g : V m c main_call0_v16 = m ((c : Thread nD τ).loc main_arg2) := by
  show StableHlo.after hostOps0 (fun b => m (c, b)) (Proc.devRef .tc main_call0_v16) = _
  after_reads_simp
  exact shapeCast_shapeCast _ _ _

theorem V_lcb : V m c main_call0_v21 = m ((c : Thread nD τ).loc main_arg5) := by
  show StableHlo.after hostOps0 (fun b => m (c, b)) (Proc.devRef .tc main_call0_v21) = _
  after_reads_simp
  exact shapeCast_shapeCast _ _ _

theorem V_gab : V m c main_call0_v83 = m ((c : Thread nD τ).loc main_arg7) := by
  show StableHlo.after hostOps0 (fun b => m (c, b)) (Proc.devRef .tc main_call0_v83) = _
  after_reads_simp
  exact shapeCast_shapeCast _ _ _

theorem V_gxb : V m c main_call0_v85 = m ((c : Thread nD τ).loc main_arg9) := by
  show StableHlo.after hostOps0 (fun b => m (c, b)) (Proc.devRef .tc main_call0_v85) = _
  after_reads_simp
  exact shapeCast_shapeCast _ _ _

theorem V_ap : V m c main_call0_v87 = m ((c : Thread nD τ).loc main_arg10) := by
  show StableHlo.after hostOps0 (fun b => m (c, b)) (Proc.devRef .tc main_call0_v87) = _
  after_reads_simp
  exact shapeCast_shapeCast _ _ _

theorem V_lg : V m c main_call0_v90 = m ((c : Thread nD τ).loc main_arg12) := by
  show StableHlo.after hostOps0 (fun b => m (c, b)) (Proc.devRef .tc main_call0_v90) = _
  after_reads_simp
  exact shapeCast_shapeCast _ _ _

theorem V_cg : V m c main_call0_v92 = m ((c : Thread nD τ).loc main_arg13) := by
  show StableHlo.after hostOps0 (fun b => m (c, b)) (Proc.devRef .tc main_call0_v92) = _
  after_reads_simp
  exact shapeCast_shapeCast _ _ _

theorem V_n2g : V m c main_call0_v96 = m ((c : Thread nD τ).loc main_arg15) := by
  show StableHlo.after hostOps0 (fun b => m (c, b)) (Proc.devRef .tc main_call0_v96) = _
  after_reads_simp
  exact shapeCast_shapeCast _ _ _

theorem V_win : V m c main_call0_v18 = truncf .bf16 (shapeCast S1024x2560 (m ((c : Thread nD τ).loc main_arg3)) shapeCasts_S1x1024x2560_S1024x2560 : FVec Ideal S1024x2560 .f32) bitsLt_bf16_f32 := by
  show StableHlo.after hostOps0 (fun b => m (c, b)) (Proc.devRef .tc main_call0_v18) = _
  after_reads_simp
  rfl

theorem V_wout : V m c main_call0_v94 = truncf .bf16 (shapeCast S1024x1024 (m ((c : Thread nD τ).loc main_arg14)) shapeCasts_S1x1024x1024_S1024x1024 : FVec Ideal S1024x1024 .f32) bitsLt_bf16_f32 := by
  show StableHlo.after hostOps0 (fun b => m (c, b)) (Proc.devRef .tc main_call0_v94) = _
  after_reads_simp
  rfl

theorem V_w1 : V m c main_call0_v98 = truncf .bf16 (shapeCast S1024x4096 (m ((c : Thread nD τ).loc main_arg16)) shapeCasts_S1x1024x4096_S1024x4096 : FVec Ideal S1024x4096 .f32) bitsLt_bf16_f32 := by
  show StableHlo.after hostOps0 (fun b => m (c, b)) (Proc.devRef .tc main_call0_v98) = _
  after_reads_simp
  rfl

theorem V_w2 : V m c main_call0_v100 = truncf .bf16 (shapeCast S4096x1024 (m ((c : Thread nD τ).loc main_arg17)) shapeCasts_S1x4096x1024_S4096x1024 : FVec Ideal S4096x1024 .f32) bitsLt_bf16_f32 := by
  show StableHlo.after hostOps0 (fun b => m (c, b)) (Proc.devRef .tc main_call0_v100) = _
  after_reads_simp
  rfl

theorem V_lcw : V m c main_call0_v19 = shapeCast S4x512 (m ((c : Thread nD τ).loc main_arg4)) shapeCasts_S1x4x512_S4x512 := by
  show StableHlo.after hostOps0 (fun b => m (c, b)) (Proc.devRef .tc main_call0_v19) = _
  after_reads_simp
  rfl

theorem V_scw : V m c main_call0_v88 = shapeCast S3x512 (m ((c : Thread nD τ).loc main_arg11)) shapeCasts_S1x3x512_S3x512 := by
  show StableHlo.after hostOps0 (fun b => m (c, b)) (Proc.devRef .tc main_call0_v88) = _
  after_reads_simp
  rfl

theorem V_fg : V m c main_call0_v101 = shapeCast S1x1024 (m ((c : Thread nD τ).loc main_arg18)) shapeCasts_S1024_S1x1024 := by
  show StableHlo.after hostOps0 (fun b => m (c, b)) (Proc.devRef .tc main_call0_v101) = _
  after_reads_simp
  rfl

theorem V_pool : V m c main_call0_v14 = poolA := by
  show StableHlo.after hostOps0 (fun b => m (c, b)) (Proc.devRef .tc main_call0_v14) = _
  after_reads_simp
  rfl

set_option maxHeartbeats 1600000 in
theorem V_gates : V m c main_call0_v81 = gatesA (m ((c : Thread nD τ).loc main_arg6)) (m ((c : Thread nD τ).loc main_arg8)) := by
  show StableHlo.after hostOps0 (fun b => m (c, b)) (Proc.devRef .tc main_call0_v81) = _
  after_reads_simp
  rfl

end

/-! ## The same at an index -/

theorem modA_at (x : FVec Ideal S8x6144 .f32) (k : Fin 6) (b : Fin 8) (d : Fin 1024) :
    modA x (ix4 k b 0 d) = x (ix2 b ⟨k.val * 1024 + d.val, by omega⟩) := by
  pointwise [modA]

theorem eq4 : ∀ i j : Fin 4, IntOp.cmpi .eq (IntOp.addi (BitVec.ofNat 32 i) 0#32) (BitVec.ofNat 32 j) = if i.val = j.val then 1#1 else 0#1 := by decide

theorem one_bit {ty : FTy} (a b : ℕ) (ha : a < 4) (hb : b < 4) (w : EReal) :
    (FloatOps.uitofp (F := Ideal) ty (IntOp.cmpi .eq (IntOp.addi (BitVec.ofNat 32 a) 0#32) (BitVec.ofNat 32 b)) : EReal) * w = if a = b then w else 0 := by
  rw [eq4 ⟨a, ha⟩ ⟨b, hb⟩]
  show (if a = b then _ else _ : BitVec 1) |> fun z => (FloatOps.uitofp (F := Ideal) ty z : EReal) * w = _
  by_cases h : a = b
  · rw [if_pos h, if_pos h]
    show (((1#1 : BitVec 1).toNat : ℝ) : EReal) * w = w
    simp
  · rw [if_neg h, if_neg h]
    show (((0#1 : BitVec 1).toNat : ℝ) : EReal) * w = 0
    simp

theorem diag_at (w : FVec Ideal S4x64x64 .f32) (x y : Fin 256) : diag w (ix2 x y)
    = if x.val / 64 = y.val / 64 then w (ix3 ⟨x.val / 64, by omega⟩ ⟨x.val % 64, by omega⟩ ⟨y.val % 64, by omega⟩) else 0 := by
  pointwise [diag, eqA]
  exact one_bit _ _ (by omega) (by omega) _

theorem pool_at (x y : Fin 256) : poolA (ix2 x y) = if x.val / 64 = y.val / 64 then Ideal.ofBits .bf16 0x3C80#16 else 0 := by
  pointwise [poolA, eqA]
  exact one_bit _ _ (by omega) (by omega) _

theorem part0 (p : FVec Ideal S1x8x64x64 .f32) (h : Fin 4) (x y : Fin 64) :
    extractStridedSlice S4x64x64 ![0, 0, 0] (shapeCast S8x64x64 p shapeCasts_S1x8x64x64_S8x64x64) slices_S8x64x64_S4x64x64_0_0_0 (ix3 h x y)
      = p (ix4 0 ⟨h.val, by omega⟩ x y) := by
  pointwise []

theorem part4 (p : FVec Ideal S1x8x64x64 .f32) (h : Fin 4) (x y : Fin 64) :
    extractStridedSlice S4x64x64 ![4, 0, 0] (shapeCast S8x64x64 p shapeCasts_S1x8x64x64_S8x64x64) slices_S8x64x64_S4x64x64_4_0_0 (ix3 h x y)
      = p (ix4 0 ⟨4 + h.val, by omega⟩ x y) := by
  pointwise []

theorem g0a_at (p q : FVec Ideal S1x8x64x64 .f32) (x c : Fin 256) : gatesA p q (ix3 0 x ⟨c.val, by omega⟩)
    = if x.val / 64 = c.val / 64 then p (ix4 0 ⟨c / 64, by omega⟩ ⟨x % 64, by omega⟩ ⟨c % 64, by omega⟩) else 0 := by
  pointwise [gatesA]
  simp only [c.isLt, ↓reduceDIte, Fin.eta, diag_at, part0]
  by_cases h : x.val / 64 = c.val / 64
  · simp only [h]
  · rw [if_neg h, if_neg h]

theorem g0x_at (p q : FVec Ideal S1x8x64x64 .f32) (x c : Fin 256) : gatesA p q (ix3 0 x ⟨256 + c.val, by omega⟩)
    = if x.val / 64 = c.val / 64 then q (ix4 0 ⟨c / 64, by omega⟩ ⟨x % 64, by omega⟩ ⟨c % 64, by omega⟩) else 0 := by
  pointwise [gatesA]
  simp only [show ¬ 256 + c.val < 256 by omega, ↓reduceDIte, Nat.add_sub_cancel_left, Fin.eta, diag_at, part0]
  by_cases h : x.val / 64 = c.val / 64
  · simp only [h]
  · rw [if_neg h, if_neg h]

theorem g1a_at (p q : FVec Ideal S1x8x64x64 .f32) (x c : Fin 256) : gatesA p q (ix3 1 x ⟨c.val, by omega⟩)
    = if x.val / 64 = c.val / 64 then p (ix4 0 ⟨4 + c / 64, by omega⟩ ⟨x % 64, by omega⟩ ⟨c % 64, by omega⟩) else 0 := by
  pointwise [gatesA]
  simp only [c.isLt, ↓reduceDIte, Fin.eta, diag_at, part4]
  by_cases h : x.val / 64 = c.val / 64
  · simp only [h]
  · rw [if_neg h, if_neg h]

theorem g1x_at (p q : FVec Ideal S1x8x64x64 .f32) (x c : Fin 256) : gatesA p q (ix3 1 x ⟨256 + c.val, by omega⟩)
    = if x.val / 64 = c.val / 64 then q (ix4 0 ⟨4 + c / 64, by omega⟩ ⟨x % 64, by omega⟩ ⟨c % 64, by omega⟩) else 0 := by
  pointwise [gatesA]
  simp only [show ¬ 256 + c.val < 256 by omega, ↓reduceDIte, Nat.add_sub_cancel_left, Fin.eta, diag_at, part4]
  by_cases h : x.val / 64 = c.val / 64
  · simp only [h]
  · rw [if_neg h, if_neg h]

end Cert.Proof.Host
-- ==== Proof.Blocks.lean ====
/-
  What the body finds in its staging buffers: the blocks of the arrays the region finds, read at an index.
-/
module

public import proofs.«01_k».proof.Proof.Host

@[expose] public section

set_option maxRecDepth 65536
set_option backward.isDefEq.respectTransparency false

noncomputable section

namespace Cert.Proof.Host

open Idealize.ShloMosaic Idealize.ShloMosaic.TcCoe Idealize.ShloMosaic.Tactic Cert.KernelIdeal Cert.KernelIdeal.Gen

section
variable (m : (ℓ : Loc nD τ sig) → Buf (Elt Ideal) ℓ) (c : Dev nD) (t : Fin cfg0.N)

/-- The layer's arrays as a start memory holds them. -/
def inp : Inp where
  x := m ((c : Thread nD τ).loc main_arg0)
  md := m ((c : Thread nD τ).loc main_arg1)
  n1g := m ((c : Thread nD τ).loc main_arg2)
  win := m ((c : Thread nD τ).loc main_arg3)
  lcw := m ((c : Thread nD τ).loc main_arg4)
  lcb := m ((c : Thread nD τ).loc main_arg5)
  gaw := m ((c : Thread nD τ).loc main_arg6)
  gab := m ((c : Thread nD τ).loc main_arg7)
  gxw := m ((c : Thread nD τ).loc main_arg8)
  gxb := m ((c : Thread nD τ).loc main_arg9)
  ap := m ((c : Thread nD τ).loc main_arg10)
  scw := m ((c : Thread nD τ).loc main_arg11)
  lg := m ((c : Thread nD τ).loc main_arg12)
  cg := m ((c : Thread nD τ).loc main_arg13)
  wout := m ((c : Thread nD τ).loc main_arg14)
  n2g := m ((c : Thread nD τ).loc main_arg15)
  w1 := m ((c : Thread nD τ).loc main_arg16)
  w2 := m ((c : Thread nD τ).loc main_arg17)
  fg := m ((c : Thread nD τ).loc main_arg18)

theorem idx0 : ∀ t : Fin cfg0.N, win0_0.index t = ![0, min t.val 31, 0] :=
  (by decide +kernel : ∀ t : Fin grid0.N, _)

theorem rd0 (X : Vec Ideal S8x2048x1024 .f32) (ht : t.val < 32) (b : Fin 8) (j : Fin 64) (d : Fin 1024) :
    (((cfg0.win 0).blk t).view.read (Elt Ideal) X : Vec Ideal S8x64x1024 .f32) (ix3 b j d) = X (ix3 b (Body.tm ⟨t.val, ht⟩ j) d) := by
  refine congrArg X (funext fun a => Fin.ext ?_)
  have e := idx0 t
  match a with
  | ⟨0, _⟩ => blk_simp [e]
  | ⟨1, _⟩ => blk_simp [e]; show min t.val 31 * 64 + j.val = t.val * 64 + j.val; omega
  | ⟨2, _⟩ => blk_simp [e]

/-- The first window's block at a point below the last is a chunk of the layer's input. -/
theorem blk0 (ht : t.val < 32) (b : Fin 8) (j : Fin 64) (d : Fin 1024) :
    (iblk m c 0 t : Vec Ideal S8x64x1024 .f32) (ix3 b j d) = (inp m c).x (ix3 b (Body.tm ⟨t.val, ht⟩ j) d) :=
  (rd0 t (V m c main_arg0) ht b j d).trans (congrFun (V_main_arg0 m c) _)

/-- A block at the start of its array sits where it is. -/
theorem emb_zero {G : Pipeline.Grid} {sig : RefSig} (w : Pipeline.Window sig G) (hk : w.kind = .blocked) (t : Fin G.N)
    (h : ∀ a, w.index t a = 0) (y : (w.rect t).shape.Idx) (a) : ((w.rect t).emb y a : ℕ) = y a := by
  show w.kind.off (w.index t a) (w.size a) + 1 * (y a).val = y a
  rw [hk, h]
  show 0 * _ + 1 * _ = _
  omega

/-! The windows that never move hold their arrays whole. -/

theorem rd1 (X : Vec Ideal S6x8x1x1024 .f32) : (((cfg0.win 1).blk t).view.read (Elt Ideal) X : Vec Ideal S6x8x1x1024 .f32) = X :=
  funext fun y => congrArg X (funext fun a => Fin.ext (emb_zero win0_1 rfl t (fun a => by fin_cases a <;> rfl) y a))

theorem rd2 (X : Vec Ideal S1x1024 .f32) : (((cfg0.win 2).blk t).view.read (Elt Ideal) X : Vec Ideal S1x1024 .f32) = X :=
  funext fun y => congrArg X (funext fun a => Fin.ext (emb_zero win0_2 rfl t (fun a => by fin_cases a <;> rfl) y a))

theorem rd3 (X : Vec Ideal S1024x2560 .bf16) : (((cfg0.win 3).blk t).view.read (Elt Ideal) X : Vec Ideal S1024x2560 .bf16) = X :=
  funext fun y => congrArg X (funext fun a => Fin.ext (emb_zero win0_3 rfl t (fun a => by fin_cases a <;> rfl) y a))

theorem rd4 (X : Vec Ideal S4x512 .f32) : (((cfg0.win 4).blk t).view.read (Elt Ideal) X : Vec Ideal S4x512 .f32) = X :=
  funext fun y => congrArg X (funext fun a => Fin.ext (emb_zero win0_4 rfl t (fun a => by fin_cases a <;> rfl) y a))

theorem rd5 (X : Vec Ideal S1x512 .f32) : (((cfg0.win 5).blk t).view.read (Elt Ideal) X : Vec Ideal S1x512 .f32) = X :=
  funext fun y => congrArg X (funext fun a => Fin.ext (emb_zero win0_5 rfl t (fun a => by fin_cases a <;> rfl) y a))

theorem rd6 (X : Vec Ideal S2x256x512 .bf16) : (((cfg0.win 6).blk t).view.read (Elt Ideal) X : Vec Ideal S2x256x512 .bf16) = X :=
  funext fun y => congrArg X (funext fun a => Fin.ext (emb_zero win0_6 rfl t (fun a => by fin_cases a <;> rfl) y a))

theorem rd7 (X : Vec Ideal S1x512 .f32) : (((cfg0.win 7).blk t).view.read (Elt Ideal) X : Vec Ideal S1x512 .f32) = X :=
  funext fun y => congrArg X (funext fun a => Fin.ext (emb_zero win0_7 rfl t (fun a => by fin_cases a <;> rfl) y a))

theorem rd8 (X : Vec Ideal S1x512 .f32) : (((cfg0.win 8).blk t).view.read (Elt Ideal) X : Vec Ideal S1x512 .f32) = X :=
  funext fun y => congrArg X (funext fun a => Fin.ext (emb_zero win0_8 rfl t (fun a => by fin_cases a <;> rfl) y a))

theorem rd9 (X : Vec Ideal S1x512 .f32) : (((cfg0.win 9).blk t).view.read (Elt Ideal) X : Vec Ideal S1x512 .f32) = X :=
  funext fun y => congrArg X (funext fun a => Fin.ext (emb_zero win0_9 rfl t (fun a => by fin_cases a <;> rfl) y a))

theorem rd10 (X : Vec Ideal S3x512 .f32) : (((cfg0.win 10).blk t).view.read (Elt Ideal) X : Vec Ideal S3x512 .f32) = X :=
  funext fun y => congrArg X (funext fun a => Fin.ext (emb_zero win0_10 rfl t (fun a => by fin_cases a <;> rfl) y a))

theorem rd11 (X : Vec Ideal S1x512 .f32) : (((cfg0.win 11).blk t).view.read (Elt Ideal) X : Vec Ideal S1x512 .f32) = X :=
  funext fun y => congrArg X (funext fun a => Fin.ext (emb_zero win0_11 rfl t (fun a => by fin_cases a <;> rfl) y a))

theorem rd12 (X : Vec Ideal S1x512 .f32) : (((cfg0.win 12).blk t).view.read (Elt Ideal) X : Vec Ideal S1x512 .f32) = X :=
  funext fun y => congrArg X (funext fun a => Fin.ext (emb_zero win0_12 rfl t (fun a => by fin_cases a <;> rfl) y a))

theorem rd13 (X : Vec Ideal S256x256 .bf16) : (((cfg0.win 13).blk t).view.read (Elt Ideal) X : Vec Ideal S256x256 .bf16) = X :=
  funext fun y => congrArg X (funext fun a => Fin.ext (emb_zero win0_13 rfl t (fun a => by fin_cases a <;> rfl) y a))

theorem rd14 (X : Vec Ideal S1024x1024 .bf16) : (((cfg0.win 14).blk t).view.read (Elt Ideal) X : Vec Ideal S1024x1024 .bf16) = X :=
  funext fun y => congrArg X (funext fun a => Fin.ext (emb_zero win0_14 rfl t (fun a => by fin_cases a <;> rfl) y a))

theorem rd15 (X : Vec Ideal S1x1024 .f32) : (((cfg0.win 15).blk t).view.read (Elt Ideal) X : Vec Ideal S1x1024 .f32) = X :=
  funext fun y => congrArg X (funext fun a => Fin.ext (emb_zero win0_15 rfl t (fun a => by fin_cases a <;> rfl) y a))

theorem rd16 (X : Vec Ideal S1024x4096 .bf16) : (((cfg0.win 16).blk t).view.read (Elt Ideal) X : Vec Ideal S1024x4096 .bf16) = X :=
  funext fun y => congrArg X (funext fun a => Fin.ext (emb_zero win0_16 rfl t (fun a => by fin_cases a <;> rfl) y a))

theorem rd17 (X : Vec Ideal S4096x1024 .bf16) : (((cfg0.win 17).blk t).view.read (Elt Ideal) X : Vec Ideal S4096x1024 .bf16) = X :=
  funext fun y => congrArg X (funext fun a => Fin.ext (emb_zero win0_17 rfl t (fun a => by fin_cases a <;> rfl) y a))

theorem rd18 (X : Vec Ideal S1x1024 .f32) : (((cfg0.win 18).blk t).view.read (Elt Ideal) X : Vec Ideal S1x1024 .f32) = X :=
  funext fun y => congrArg X (funext fun a => Fin.ext (emb_zero win0_18 rfl t (fun a => by fin_cases a <;> rfl) y a))

theorem blks :
    (iblk m c 1 t : Vec Ideal S6x8x1x1024 _) = V m c main_call0_v1
    ∧ (iblk m c 2 t : Vec Ideal S1x1024 _) = V m c main_call0_v16
    ∧ (iblk m c 3 t : Vec Ideal S1024x2560 _) = V m c main_call0_v18
    ∧ (iblk m c 4 t : Vec Ideal S4x512 _) = V m c main_call0_v19
    ∧ (iblk m c 5 t : Vec Ideal S1x512 _) = V m c main_call0_v21
    ∧ (iblk m c 6 t : Vec Ideal S2x256x512 _) = V m c main_call0_v81
    ∧ (iblk m c 7 t : Vec Ideal S1x512 _) = V m c main_call0_v83
    ∧ (iblk m c 8 t : Vec Ideal S1x512 _) = V m c main_call0_v85
    ∧ (iblk m c 9 t : Vec Ideal S1x512 _) = V m c main_call0_v87
    ∧ (iblk m c 10 t : Vec Ideal S3x512 _) = V m c main_call0_v88
    ∧ (iblk m c 11 t : Vec Ideal S1x512 _) = V m c main_call0_v90
    ∧ (iblk m c 12 t : Vec Ideal S1x512 _) = V m c main_call0_v92
    ∧ (iblk m c 13 t : Vec Ideal S256x256 _) = V m c main_call0_v14
    ∧ (iblk m c 14 t : Vec Ideal S1024x1024 _) = V m c main_call0_v94
    ∧ (iblk m c 15 t : Vec Ideal S1x1024 _) = V m c main_call0_v96
    ∧ (iblk m c 16 t : Vec Ideal S1024x4096 _) = V m c main_call0_v98
    ∧ (iblk m c 17 t : Vec Ideal S4096x1024 _) = V m c main_call0_v100
    ∧ (iblk m c 18 t : Vec Ideal S1x1024 _) = V m c main_call0_v101 :=
  ⟨rd1 t (V m c main_call0_v1), rd2 t (V m c main_call0_v16), rd3 t (V m c main_call0_v18), rd4 t (V m c main_call0_v19), rd5 t (V m c main_call0_v21), rd6 t (V m c main_call0_v81), rd7 t (V m c main_call0_v83), rd8 t (V m c main_call0_v85), rd9 t (V m c main_call0_v87), rd10 t (V m c main_call0_v88), rd11 t (V m c main_call0_v90), rd12 t (V m c main_call0_v92), rd13 t (V m c main_call0_v14), rd14 t (V m c main_call0_v94), rd15 t (V m c main_call0_v96), rd16 t (V m c main_call0_v98), rd17 t (V m c main_call0_v100), rd18 t (V m c main_call0_v101)⟩
end

theorem win_flat (w : FVec Ideal S1x1024x2560 .f32) (k : Fin 1024) (d : Fin 2560) :
    (truncf .bf16 (shapeCast S1024x2560 w shapeCasts_S1x1024x2560_S1024x2560 : FVec Ideal S1024x2560 .f32) bitsLt_bf16_f32 : FVec Ideal S1024x2560 .bf16) (ix2 k d) = w (ix3 0 k d) := by
  pointwise []

theorem wout_flat (w : FVec Ideal S1x1024x1024 .f32) (k : Fin 1024) (d : Fin 1024) :
    (truncf .bf16 (shapeCast S1024x1024 w shapeCasts_S1x1024x1024_S1024x1024 : FVec Ideal S1024x1024 .f32) bitsLt_bf16_f32 : FVec Ideal S1024x1024 .bf16) (ix2 k d) = w (ix3 0 k d) := by
  pointwise []

theorem w1_flat (w : FVec Ideal S1x1024x4096 .f32) (k : Fin 1024) (d : Fin 4096) :
    (truncf .bf16 (shapeCast S1024x4096 w shapeCasts_S1x1024x4096_S1024x4096 : FVec Ideal S1024x4096 .f32) bitsLt_bf16_f32 : FVec Ideal S1024x4096 .bf16) (ix2 k d) = w (ix3 0 k d) := by
  pointwise []

theorem w2_flat (w : FVec Ideal S1x4096x1024 .f32) (k : Fin 4096) (d : Fin 1024) :
    (truncf .bf16 (shapeCast S4096x1024 w shapeCasts_S1x4096x1024_S4096x1024 : FVec Ideal S4096x1024 .f32) bitsLt_bf16_f32 : FVec Ideal S4096x1024 .bf16) (ix2 k d) = w (ix3 0 k d) := by
  pointwise []

theorem lcw_flat (w : FVec Ideal S1x4x512 .f32) (k : Fin 4) (d : Fin 512) :
    shapeCast S4x512 w shapeCasts_S1x4x512_S4x512 (ix2 k d) = w (ix3 0 k d) := by
  pointwise []

theorem scw_flat (w : FVec Ideal S1x3x512 .f32) (k : Fin 3) (d : Fin 512) :
    shapeCast S3x512 w shapeCasts_S1x3x512_S3x512 (ix2 k d) = w (ix3 0 k d) := by
  pointwise []

theorem fg_flat (w : FVec Ideal S1024 .f32) (d : Fin 1024) : shapeCast S1x1024 w shapeCasts_S1024_S1x1024 (ix2 0 d) = w (ix1 d) := by
  pointwise []

end Cert.Proof.Host
-- ==== Proof.Steps.lean ====
/-
  One point of the grid: what the body reads there and what it leaves.
-/
module

public import proofs.«01_k».proof.Proof.Val4
public import proofs.«01_k».proof.Proof.SameA
public import proofs.«01_k».proof.Proof.SameB
public import proofs.«01_k».proof.Proof.Cells
public import proofs.«01_k».proof.Proof.Blocks

@[expose] public section

set_option maxRecDepth 65536
set_option backward.isDefEq.respectTransparency false

noncomputable section

namespace Cert.Proof.Host

open Idealize.ShloMosaic Idealize.ShloMosaic.TcCoe Cert.KernelIdeal Cert.KernelIdeal.Gen Cert.Proof.Run
open Cert.Proof.Body (Rd Vs Wt Pt Pv vs rdA rdB tm)

variable (m : (ℓ : Loc nD τ sig) → Buf (Elt Ideal) ℓ) (c : Dev nD) (t : Fin cfg0.N)

/-- The scratch the body's arrays name. -/
def scr : Vs := vs scM0_3 scM0_4 scM0_5 scM0_7 scM0_9 scM0_10 scM0_11 scM0_12 scM0_13

/-- What the body leaves at the point before. -/
abbrev prev := outsAt0 m c (t.val - 1) (Nat.lt_of_le_of_lt (Nat.sub_le _ _) t.isLt)

/-- What the body reads at the first point, and at a later one. -/
def rA : Rd := rdA (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 scM0_2 scM0_6 scM0_8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

def rB : Rd := rdB (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_6 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
  (prev m c t).2.1 (prev m c t).2.2.1 (prev m c t).2.2.2.1 (prev m c t).2.2.2.2.1 (prev m c t).2.2.2.2.2

/-- A load from a buffer that holds `x`, at an index. -/
theorem rd_at {S : Shape} {dt : EltTy} (M : Memref sig .tc .vmem S dt) (hM : M.IsWhole) (x : Vec Ideal S dt)
    {off size : Fin S.rank → ℕ} {inb : ∀ a, off a + size a ≤ S.size a} (j : (Rect.unit off size inb).shape.Idx) (k : S.Idx)
    (h : ∀ a, (k a : ℕ) = off a + j a := by intro a; fin_cases a <;> first | exact (Nat.zero_add _).symm | rfl) :
    Body.rd M hM x (Rect.unit off size inb) j = x k := by
  rw [Body.rd_eq]
  exact View.ld_unit_apply_of x off size inb j k h

attribute [local irreducible] Body.rd View.readCov

/-! ## The weights -/

theorem wt_B : Wt (inp m c) (rB m c t) := by
  obtain ⟨h1, h2, h3, h4, h5, h6, h7, h8, h9, h10, h11, h12, h13, h14, h15, h16, h17, h18⟩ := blks m c t
  exact {
    m0 := fun b d => Eq.trans (rd_at (S := S6x8x1x1024) _ _ _ _ (ix4 0 b 0 d)) ((congrFun (h1.trans (V_mod m c)) _).trans (modA_at _ 0 b d))
    m1 := fun b d => Eq.trans (rd_at (S := S6x8x1x1024) _ _ _ _ (ix4 1 b 0 d)) ((congrFun (h1.trans (V_mod m c)) _).trans (modA_at _ 1 b d))
    m2 := fun b d => Eq.trans (rd_at (S := S6x8x1x1024) _ _ _ _ (ix4 2 b 0 d)) ((congrFun (h1.trans (V_mod m c)) _).trans (modA_at _ 2 b d))
    m3 := fun b d => Eq.trans (rd_at (S := S6x8x1x1024) _ _ _ _ (ix4 3 b 0 d)) ((congrFun (h1.trans (V_mod m c)) _).trans (modA_at _ 3 b d))
    m4 := fun b d => Eq.trans (rd_at (S := S6x8x1x1024) _ _ _ _ (ix4 4 b 0 d)) ((congrFun (h1.trans (V_mod m c)) _).trans (modA_at _ 4 b d))
    m5 := fun b d => Eq.trans (rd_at (S := S6x8x1x1024) _ _ _ _ (ix4 5 b 0 d)) ((congrFun (h1.trans (V_mod m c)) _).trans (modA_at _ 5 b d))
    n1g := fun d => Eq.trans (rd_at (S := S1x1024) _ _ _ _ (ix2 0 d)) (congrFun (h2.trans (V_n1g m c)) _)
    wlx := fun k d => Eq.trans (rd_at (S := S1024x2560) _ _ _ _ (ix2 k ⟨d.val, by omega⟩)) ((congrFun (h3.trans (V_win m c)) _).trans (win_flat _ _ _))
    wly := fun k d => Eq.trans (rd_at (S := S1024x2560) _ _ _ _ (ix2 k ⟨512 + d.val, by omega⟩)) ((congrFun (h3.trans (V_win m c)) _).trans (win_flat _ _ _))
    wb := fun k d => Eq.trans (rd_at (S := S1024x2560) _ _ _ _ (ix2 k ⟨1024 + d.val, by omega⟩)) ((congrFun (h3.trans (V_win m c)) _).trans (win_flat _ _ _))
    wc := fun k d => Eq.trans (rd_at (S := S1024x2560) _ _ _ _ (ix2 k ⟨1536 + d.val, by omega⟩)) ((congrFun (h3.trans (V_win m c)) _).trans (win_flat _ _ _))
    wv := fun k d => Eq.trans (rd_at (S := S1024x2560) _ _ _ _ (ix2 k ⟨2048 + d.val, by omega⟩)) ((congrFun (h3.trans (V_win m c)) _).trans (win_flat _ _ _))
    lcw := fun k d => Eq.trans (rd_at (S := S4x512) _ _ _ _ (ix2 k d)) ((congrFun (h4.trans (V_lcw m c)) _).trans (lcw_flat _ _ _))
    lcb := fun d => Eq.trans (rd_at (S := S1x512) _ _ _ _ (ix2 0 d)) (congrFun (h5.trans (V_lcb m c)) _)
    g0a := fun x d => Eq.trans (rd_at (S := S2x256x512) _ _ _ _ (ix3 0 x ⟨d.val, by omega⟩)) ((congrFun (h6.trans (V_gates m c)) _).trans (g0a_at _ _ x d))
    g0x := fun x d => Eq.trans (rd_at (S := S2x256x512) _ _ _ _ (ix3 0 x ⟨256 + d.val, by omega⟩)) ((congrFun (h6.trans (V_gates m c)) _).trans (g0x_at _ _ x d))
    g1a := fun x d => Eq.trans (rd_at (S := S2x256x512) _ _ _ _ (ix3 1 x ⟨d.val, by omega⟩)) ((congrFun (h6.trans (V_gates m c)) _).trans (g1a_at _ _ x d))
    g1x := fun x d => Eq.trans (rd_at (S := S2x256x512) _ _ _ _ (ix3 1 x ⟨256 + d.val, by omega⟩)) ((congrFun (h6.trans (V_gates m c)) _).trans (g1x_at _ _ x d))
    gab := fun d => Eq.trans (rd_at (S := S1x512) _ _ _ _ (ix2 0 d)) (congrFun (h7.trans (V_gab m c)) _)
    gxb := fun d => Eq.trans (rd_at (S := S1x512) _ _ _ _ (ix2 0 d)) (congrFun (h8.trans (V_gxb m c)) _)
    ap := fun d => Eq.trans (rd_at (S := S1x512) _ _ _ _ (ix2 0 d)) (congrFun (h9.trans (V_ap m c)) _)
    scw := fun k d => Eq.trans (rd_at (S := S3x512) _ _ _ _ (ix2 k d)) ((congrFun (h10.trans (V_scw m c)) _).trans (scw_flat _ _ _))
    lg := fun d => Eq.trans (rd_at (S := S1x512) _ _ _ _ (ix2 0 d)) (congrFun (h11.trans (V_lg m c)) _)
    cg := fun d => Eq.trans (rd_at (S := S1x512) _ _ _ _ (ix2 0 d)) (congrFun (h12.trans (V_cg m c)) _)
    pool := fun x d => Eq.trans (rd_at (S := S256x256) _ _ _ _ (ix2 x d)) ((congrFun (h13.trans (V_pool m c)) _).trans (pool_at x d))
    wo := fun k d => Eq.trans (rd_at (S := S1024x1024) _ _ _ _ (ix2 k d)) ((congrFun (h14.trans (V_wout m c)) _).trans (wout_flat _ _ _))
    n2g := fun d => Eq.trans (rd_at (S := S1x1024) _ _ _ _ (ix2 0 d)) (congrFun (h15.trans (V_n2g m c)) _)
    p0 := fun k d => Eq.trans (rd_at (S := S1024x4096) _ _ _ _ (ix2 k ⟨d.val, by omega⟩)) ((congrFun (h16.trans (V_w1 m c)) _).trans (w1_flat _ _ _))
    p1 := fun k d => Eq.trans (rd_at (S := S1024x4096) _ _ _ _ (ix2 k ⟨1024 + d.val, by omega⟩)) ((congrFun (h16.trans (V_w1 m c)) _).trans (w1_flat _ _ _))
    p2 := fun k d => Eq.trans (rd_at (S := S1024x4096) _ _ _ _ (ix2 k ⟨2048 + d.val, by omega⟩)) ((congrFun (h16.trans (V_w1 m c)) _).trans (w1_flat _ _ _))
    p3 := fun k d => Eq.trans (rd_at (S := S1024x4096) _ _ _ _ (ix2 k ⟨3072 + d.val, by omega⟩)) ((congrFun (h16.trans (V_w1 m c)) _).trans (w1_flat _ _ _))
    q0 := fun k d => Eq.trans (rd_at (S := S4096x1024) _ _ _ _ (ix2 k ⟨d.val, by omega⟩)) ((congrFun (h17.trans (V_w2 m c)) _).trans (w2_flat _ _ _))
    q1 := fun k d => Eq.trans (rd_at (S := S4096x1024) _ _ _ _ (ix2 k ⟨256 + d.val, by omega⟩)) ((congrFun (h17.trans (V_w2 m c)) _).trans (w2_flat _ _ _))
    q2 := fun k d => Eq.trans (rd_at (S := S4096x1024) _ _ _ _ (ix2 k ⟨512 + d.val, by omega⟩)) ((congrFun (h17.trans (V_w2 m c)) _).trans (w2_flat _ _ _))
    q3 := fun k d => Eq.trans (rd_at (S := S4096x1024) _ _ _ _ (ix2 k ⟨768 + d.val, by omega⟩)) ((congrFun (h17.trans (V_w2 m c)) _).trans (w2_flat _ _ _))
    fg := fun d => Eq.trans (rd_at (S := S1x1024) _ _ _ _ (ix2 0 d)) ((congrFun (h18.trans (V_fg m c)) _).trans (fg_flat _ _)) }

/-- The first point reads the same weights. -/
theorem wt_A : Wt (inp m c) (rA m c t) :=
  have h := wt_B m c t
  ⟨h.m0, h.m1, h.m2, h.m3, h.m4, h.m5, h.n1g, h.wlx, h.wly, h.wb, h.wc, h.wv, h.lcw, h.lcb, h.g0a, h.g0x, h.g1a, h.g1x, h.gab, h.gxb, h.ap, h.scw, h.lg, h.cg, h.pool, h.wo, h.n2g, h.p0, h.p1, h.p2, h.p3, h.q0, h.q1, h.q2, h.q3, h.fg⟩

/-! ## The chunk -/

theorem coord : ∀ t : Fin cfg0.N, (grid0.coords t 0 : ℕ) = t.val := (by decide +kernel : ∀ t : Fin grid0.N, _)

theorem i0_B : (rB m c t).i0 = BitVec.ofNat 32 t.val := congrArg (BitVec.ofNat 32) (coord t)
theorem i0_A : (rA m c t).i0 = BitVec.ofNat 32 t.val := congrArg (BitVec.ofNat 32) (coord t)

theorem x_B (ht : t.val < 32) (b : Fin 8) (j : Fin 64) (d : Fin 1024) :
    (rB m c t).x (ix3 b j d) = (inp m c).x (ix3 b (tm ⟨t.val, ht⟩ j) d) :=
  Eq.trans (rd_at (S := S8x64x1024) _ _ _ _ (ix3 b j d)) (blk0 m c t ht b j d)
theorem x_A (ht : t.val < 32) (b : Fin 8) (j : Fin 64) (d : Fin 1024) :
    (rA m c t).x (ix3 b j d) = (inp m c).x (ix3 b (tm ⟨t.val, ht⟩ j) d) := x_B m c t ht b j d

/-! ## The scratch the point finds -/

theorem lt_B' (b : Fin 8) (k : Fin 8) (d : Fin 512) : (rB m c t).lt (ix3 b k d) = (prev m c t).2.1 (ix3 b k d) :=
  rd_at (S := S8x8x512) _ _ _ _ (ix3 b k d)
theorem ct_B' (b : Fin 8) (k : Fin 8) (d : Fin 512) : (rB m c t).ct (ix3 b k d) = (prev m c t).2.2.1 (ix3 b k d) :=
  rd_at (S := S8x8x512) _ _ _ _ (ix3 b k d)
theorem s0_B (b : Fin 8) (l : Fin 128) : (rB m c t).s0 (ix2 b l) = (prev m c t).2.2.2.1 (ix2 b ⟨l.val, by omega⟩) :=
  rd_at (S := S8x512) _ _ _ _ (ix2 b ⟨l.val, by omega⟩)
theorem s1_B (b : Fin 8) (l : Fin 128) : (rB m c t).s1 (ix2 b l) = (prev m c t).2.2.2.1 (ix2 b ⟨128 + l.val, by omega⟩) :=
  rd_at (S := S8x512) _ _ _ _ (ix2 b ⟨128 + l.val, by omega⟩)
theorem s2_B (b : Fin 8) (l : Fin 128) : (rB m c t).s2 (ix2 b l) = (prev m c t).2.2.2.1 (ix2 b ⟨256 + l.val, by omega⟩) :=
  rd_at (S := S8x512) _ _ _ _ (ix2 b ⟨256 + l.val, by omega⟩)
theorem s3_B (b : Fin 8) (l : Fin 128) : (rB m c t).s3 (ix2 b l) = (prev m c t).2.2.2.1 (ix2 b ⟨384 + l.val, by omega⟩) :=
  rd_at (S := S8x512) _ _ _ _ (ix2 b ⟨384 + l.val, by omega⟩)
theorem xp_B (b : Fin 8) (j : Fin 64) (d : Fin 1024) : (rB m c t).xp (ix3 b j d) = (prev m c t).2.2.2.2.1 (ix3 b j d) :=
  rd_at (S := S8x64x1024) _ _ _ _ (ix3 b j d)
theorem hp_B (r : Fin 512) (d : Fin 4096) : (rB m c t).hp (ix2 r d) = (prev m c t).2.2.2.2.2 (ix2 r d) :=
  rd_at (S := S512x4096) _ _ _ _ (ix2 r d)

theorem hz3 : (![0, 0, 0] : Fin 3 → ℕ) = fun _ => 0 := funext fun a => by fin_cases a <;> rfl
theorem hz2 : (![0, 0] : Fin 2 → ℕ) = fun _ => 0 := funext fun a => by fin_cases a <;> rfl

theorem pay2_at (b k : Fin 8) (d : Fin 512) : k0_pay2 (F := Ideal) (ix3 b k d) = 0 := by
  pointwise [k0_pay2]
theorem pay3_at (b k : Fin 8) (d : Fin 512) : k0_pay3 (F := Ideal) (ix3 b k d) = 0 := by
  pointwise [k0_pay3]
theorem pay4_at (b : Fin 8) (d : Fin 512) : k0_pay4 (F := Ideal) (ix2 b d) = 0 := by
  pointwise [k0_pay4]

theorem lt_A' (b : Fin 8) (k : Fin 8) (d : Fin 512) : (rA m c t).lt (ix3 b k d) = 0 :=
  Eq.trans (congrFun (View.readCov_cons_toLoadRect _ _ _ []) _) (pay2_at b k d)
theorem ct_A' (b : Fin 8) (k : Fin 8) (d : Fin 512) : (rA m c t).ct (ix3 b k d) = 0 :=
  Eq.trans (congrFun (View.readCov_cons_toLoadRect _ _ _ []) _) (pay3_at b k d)

/-- A part of the cleared state reads zero. -/
theorem st_zero (v : View sig .tc .vmem S8x512 .f32) (o : ℕ) (inb : ∀ a, (![0, o] : Fin 2 → ℕ) a + S8x128.size a ≤ S8x512.size a) (ho : o + 128 ≤ 512) (b : Fin 8) (l : Fin 128) :
    v.readCov [(⟨Rect.unit ![0, 0] S8x512.size inb_S8x512_S8x512_0_0, k0_pay4 (F := Ideal)⟩ : View.Piece (Elt Ideal) S8x512 .f32)] (Rect.unit ![0, o] S8x128.size inb : Rect S8x512).toLoadRect (ix2 b l) = 0 := by
  rw [View.readCov_eq_canon', View.canon_unit_zero hz2]
  refine Eq.trans (congrArg (k0_pay4 (F := Ideal)) (funext fun a => ?_)) (pay4_at b ⟨o + l.val, by omega⟩)
  match a with
  | ⟨0, _⟩ => exact Fin.ext (show 0 + 1 * b.val = b.val by omega)
  | ⟨1, _⟩ => exact Fin.ext (show o + 1 * l.val = o + l.val by omega)

/-! ## What the point leaves -/

/-- The arrays a point leaves are the body's arrays over `R`. -/
structure Out (O : Vec Ideal S8x64x1024 .f32 × Vec Ideal S8x8x512 .f32 × Vec Ideal S8x8x512 .f32 × Vec Ideal S8x512 .f32 × Vec Ideal S8x64x1024 .f32 × Vec Ideal S512x4096 .bf16)
    (R : Rd) : Prop where
  out : O.1 = Body.out scr R
  lt : O.2.1 = Body.lt' scr R
  ct : O.2.2.1 = Body.ct' scr R
  s0 : ∀ (b : Fin 8) (l : Fin 128), O.2.2.2.1 (ix2 b ⟨l.val, by omega⟩) = Body.s0' scr R (ix2 b l)
  s1 : ∀ (b : Fin 8) (l : Fin 128), O.2.2.2.1 (ix2 b ⟨128 + l.val, by omega⟩) = Body.s1' scr R (ix2 b l)
  s2 : ∀ (b : Fin 8) (l : Fin 128), O.2.2.2.1 (ix2 b ⟨256 + l.val, by omega⟩) = Body.s2' scr R (ix2 b l)
  s3 : ∀ (b : Fin 8) (l : Fin 128), O.2.2.2.1 (ix2 b ⟨384 + l.val, by omega⟩) = Body.s3' scr R (ix2 b l)
  x1 : O.2.2.2.2.1 = Body.x1 scr R
  h0 : ∀ (r : Fin 512) (d : Fin 1024), O.2.2.2.2.2 (ix2 r ⟨d.val, by omega⟩) = Body.hid0 scr R (ix2 r d)
  h1 : ∀ (r : Fin 512) (d : Fin 1024), O.2.2.2.2.2 (ix2 r ⟨1024 + d.val, by omega⟩) = Body.hid1 scr R (ix2 r d)
  h2 : ∀ (r : Fin 512) (d : Fin 1024), O.2.2.2.2.2 (ix2 r ⟨2048 + d.val, by omega⟩) = Body.hid2 scr R (ix2 r d)
  h3 : ∀ (r : Fin 512) (d : Fin 1024), O.2.2.2.2.2 (ix2 r ⟨3072 + d.val, by omega⟩) = Body.hid3 scr R (ix2 r d)

/-- Four pieces side by side, read back. -/
theorem four {e : EltTy} {n M w : ℕ} (hM : M = 4 * w) {i0 i1 i2 i3}
    (p0 : (Rect.unit (s := ⟨2, ![n, M]⟩) ![0, 0] ![n, w] i0).shape.Idx → Elt Ideal e) (p1 : (Rect.unit (s := ⟨2, ![n, M]⟩) ![0, w] ![n, w] i1).shape.Idx → Elt Ideal e)
    (p2 : (Rect.unit (s := ⟨2, ![n, M]⟩) ![0, 2 * w] ![n, w] i2).shape.Idx → Elt Ideal e) (p3 : (Rect.unit (s := ⟨2, ![n, M]⟩) ![0, 3 * w] ![n, w] i3).shape.Idx → Elt Ideal e)
    (L : List (View.Piece (Elt Ideal) ⟨2, ![n, M]⟩ e)) (K : Vec Ideal ⟨2, ![n, M]⟩ e)
    (hK : K = View.canon (⟨_, p3⟩ :: ⟨_, p2⟩ :: ⟨_, p1⟩ :: ⟨_, p0⟩ :: L)) (r : Fin n) (k : Fin w) :
    K (ix2 r ⟨k.val, by omega⟩) = p0 (ix2 r k) ∧ K (ix2 r ⟨w + k.val, by omega⟩) = p1 (ix2 r k)
      ∧ K (ix2 r ⟨2 * w + k.val, by omega⟩) = p2 (ix2 r k) ∧ K (ix2 r ⟨3 * w + k.val, by omega⟩) = p3 (ix2 r k) := by
  have h := k.isLt
  subst hK
  refine ⟨?_, ?_, ?_, ?_⟩
  · rw [Body.canon_out i3 p3 _ r ⟨k.val, by omega⟩ (Or.inl (show k.val < 3 * w by omega)), Body.canon_out i2 p2 _ r ⟨k.val, by omega⟩ (Or.inl (show k.val < 2 * w by omega)),
      Body.canon_out i1 p1 _ r ⟨k.val, by omega⟩ (Or.inl (show k.val < w by omega))]
    exact Body.canon_in i0 p0 L r ⟨k.val, by omega⟩ k (show k.val = 0 + k.val by omega)
  · rw [Body.canon_out i3 p3 _ r ⟨w + k.val, by omega⟩ (Or.inl (show w + k.val < 3 * w by omega)), Body.canon_out i2 p2 _ r ⟨w + k.val, by omega⟩ (Or.inl (show w + k.val < 2 * w by omega))]
    exact Body.canon_in i1 p1 _ r ⟨w + k.val, by omega⟩ k rfl
  · rw [Body.canon_out i3 p3 _ r ⟨2 * w + k.val, by omega⟩ (Or.inl (show 2 * w + k.val < 3 * w by omega))]
    exact Body.canon_in i2 p2 _ r ⟨2 * w + k.val, by omega⟩ k rfl
  · exact Body.canon_in i3 p3 _ r ⟨3 * w + k.val, by omega⟩ k rfl

theorem out_of_A (h : t.val % 33 = 0) : Out (outsAt0 m c t.val t.isLt) (rA m c t) := by
  have e := outsAt0_A m c t h
  have es : (outsAt0 m c t.val t.isLt).2.2.2.1 = View.canon _ := (congrArg (·.2.2.2.1) e).trans (by
    dsimp only; unfold sout0_A_2; rw [Body.st_A, View.read_writes_junk_eq_canon])
  have eh : (outsAt0 m c t.val t.isLt).2.2.2.2.2 = View.canon _ := (congrArg (·.2.2.2.2.2) e).trans (by
    dsimp only; unfold sout0_A_8; rw [Body.hid_A, View.read_writes_junk_eq_canon])
  have fs := four (n := 8) (M := 512) (w := 128) rfl _ _ _ _ _ _ es
  have fh := four (n := 512) (M := 4096) (w := 1024) rfl _ _ _ _ _ _ eh
  exact {
    out := (congrArg (·.1) e).trans (by dsimp only; unfold out0_A_19; rw [Body.out_A, View.read_writes_junk_eq_canon, View.canon_cons_unit_zero hz3]; rfl)
    lt := (congrArg (·.2.1) e).trans (by dsimp only; unfold sout0_A_0; rw [Body.lt_A, View.read_writes_junk_eq_canon, View.canon_cons_unit_zero hz3]; rfl)
    ct := (congrArg (·.2.2.1) e).trans (by dsimp only; unfold sout0_A_1; rw [Body.ct_A, View.read_writes_junk_eq_canon, View.canon_cons_unit_zero hz3]; rfl)
    s0 := fun b l => (fs b l).1
    s1 := fun b l => (fs b l).2.1
    s2 := fun b l => (fs b l).2.2.1
    s3 := fun b l => (fs b l).2.2.2
    x1 := (congrArg (·.2.2.2.2.1) e).trans (by dsimp only; unfold sout0_A_6; rw [Body.x1_A, View.read_writes_junk_eq_canon, View.canon_cons_unit_zero hz3]; rfl)
    h0 := fun b l => (fh b l).1
    h1 := fun b l => (fh b l).2.1
    h2 := fun b l => (fh b l).2.2.1
    h3 := fun b l => (fh b l).2.2.2 }

theorem out_of_B (h : ¬t.val % 33 = 0) : Out (outsAt0 m c t.val t.isLt) (rB m c t) := by
  have e := outsAt0_B m c t h
  have es : (outsAt0 m c t.val t.isLt).2.2.2.1 = View.canon _ := (congrArg (·.2.2.2.1) e).trans (by
    dsimp only; unfold sout0_B_2; rw [Body.st_B, View.read_writes_junk_eq_canon])
  have eh : (outsAt0 m c t.val t.isLt).2.2.2.2.2 = View.canon _ := (congrArg (·.2.2.2.2.2) e).trans (by
    dsimp only; unfold sout0_B_8; rw [Body.hid_B, View.read_writes_junk_eq_canon])
  have fs := four (n := 8) (M := 512) (w := 128) rfl _ _ _ _ _ _ es
  have fh := four (n := 512) (M := 4096) (w := 1024) rfl _ _ _ _ _ _ eh
  exact {
    out := (congrArg (·.1) e).trans (by dsimp only; unfold out0_B_19; rw [Body.out_B, View.read_writes_junk_eq_canon, View.canon_cons_unit_zero hz3]; rfl)
    lt := (congrArg (·.2.1) e).trans (by dsimp only; unfold sout0_B_0; rw [Body.lt_B, View.read_writes_junk_eq_canon, View.canon_cons_unit_zero hz3]; rfl)
    ct := (congrArg (·.2.2.1) e).trans (by dsimp only; unfold sout0_B_1; rw [Body.ct_B, View.read_writes_junk_eq_canon, View.canon_cons_unit_zero hz3]; rfl)
    s0 := fun b l => (fs b l).1
    s1 := fun b l => (fs b l).2.1
    s2 := fun b l => (fs b l).2.2.1
    s3 := fun b l => (fs b l).2.2.2
    x1 := (congrArg (·.2.2.2.2.1) e).trans (by dsimp only; unfold sout0_B_6; rw [Body.x1_B, View.read_writes_junk_eq_canon, View.canon_cons_unit_zero hz3]; rfl)
    h0 := fun b l => (fh b l).1
    h1 := fun b l => (fh b l).2.1
    h2 := fun b l => (fh b l).2.2.1
    h3 := fun b l => (fh b l).2.2.2 }

end Cert.Proof.Host
-- ==== Proof.Ind.lean ====
/-
  The points in order: what each leaves for the next, and what the last arrays hold.
-/
module

public import proofs.«01_k».proof.Proof.Steps

@[expose] public section

set_option maxRecDepth 65536
set_option backward.isDefEq.respectTransparency false

noncomputable section

namespace Cert.Proof.Host

open Idealize.ShloMosaic Idealize.ShloMosaic.TcCoe Idealize.ShloMosaic.Tactic Cert.KernelIdeal Cert.KernelIdeal.Gen Cert.Proof.Run
open Cert.Proof.Body (Rd Vs Wt Pt Pv vs rdA rdB tm rb rj)

/-- What the point of chunk `n` leaves for the next: the tails of both convolutions, the state, the chunk after its first
    half, and the feed-forward's hidden layer. -/
structure Carry (I : Inp) (n : Fin 32) (O : Vec Ideal S8x64x1024 .f32 × Vec Ideal S8x8x512 .f32 × Vec Ideal S8x8x512 .f32 × Vec Ideal S8x512 .f32 × Vec Ideal S8x64x1024 .f32 × Vec Ideal S512x4096 .bf16) : Prop where
  lt : ∀ (h : n.val + 1 < 32) (b : Fin 8) (d : Fin 512) (k : ℕ) (_ : 1 ≤ k) (_ : k ≤ 3),
    O.2.1 (ix3 b ⟨8 - k, by omega⟩ d) = Inp.back (fun s => I.ulx b s d) (tm ⟨n.val + 1, h⟩ 0) k
  ct : ∀ (h : n.val + 1 < 32) (b : Fin 8) (d : Fin 512) (k : ℕ) (_ : 1 ≤ k) (_ : k ≤ 3),
    O.2.2.1 (ix3 b ⟨8 - k, by omega⟩ d) = Inp.back (fun s => I.cv b s d) (tm ⟨n.val + 1, h⟩ 0) k
  st : ∀ (b : Fin 8) (d : Fin 512), O.2.2.2.1 (ix2 b d) = I.hs b d ((n.val + 1) * 64)
  x1 : ∀ (b : Fin 8) (j : Fin 64) (d : Fin 1024), O.2.2.2.2.1 (ix3 b j d) = I.x1 b (tm n j) d
  hid : ∀ (r : Fin 512) (f : Fin 4096), O.2.2.2.2.2 (ix2 r f) = I.hid (rb r) (tm n (rj r)) f

theorem carry_of {I : Inp} {n : Fin 32} {R : Rd} {O} (hO : Out O R) (hW : Wt I R) (hP : Pt I n R) : Carry I n O where
  lt h b d k h1 h3 := by rw [hO.lt]; exact Body.lt_at hW hP ⟨n.val + 1, h⟩ rfl b d k h1 h3
  ct h b d k h1 h3 := by rw [hO.ct]; exact Body.ct_at hW hP ⟨n.val + 1, h⟩ rfl b d k h1 h3
  st b d := by
    rw [show (n.val + 1) * 64 = n.val * 64 + 64 by omega]
    by_cases e1 : d.val < 128
    · exact (hO.s0 b ⟨d.val, e1⟩).trans ((Body.s0_at hW hP b ⟨d.val, e1⟩).trans
        (congrArg (I.hs b · _) (Fin.ext (by first | rfl | (dsimp only; omega)))))
    by_cases e2 : d.val < 256
    · obtain ⟨l, hl⟩ : ∃ l : Fin 128, d.val = 128 + l.val := ⟨⟨d.val - 128, by omega⟩, show d.val = 128 + (d.val - 128) by omega⟩
      rw [show d = ⟨128 + l.val, by omega⟩ from Fin.ext hl]
      exact (hO.s1 b l).trans ((Body.s1_at hW hP b l).trans (congrArg (I.hs b · _) (Fin.ext (by first | rfl | (dsimp only; omega)))))
    by_cases e3 : d.val < 384
    · obtain ⟨l, hl⟩ : ∃ l : Fin 128, d.val = 256 + l.val := ⟨⟨d.val - 256, by omega⟩, show d.val = 256 + (d.val - 256) by omega⟩
      rw [show d = ⟨256 + l.val, by omega⟩ from Fin.ext hl]
      exact (hO.s2 b l).trans ((Body.s2_at hW hP b l).trans (congrArg (I.hs b · _) (Fin.ext (by first | rfl | (dsimp only; omega)))))
    · obtain ⟨l, hl⟩ : ∃ l : Fin 128, d.val = 384 + l.val := ⟨⟨d.val - 384, by omega⟩, show d.val = 384 + (d.val - 384) by omega⟩
      rw [show d = ⟨384 + l.val, by omega⟩ from Fin.ext hl]
      exact (hO.s3 b l).trans ((Body.s3_at hW hP b l).trans (congrArg (I.hs b · _) (Fin.ext (by first | rfl | (dsimp only; omega)))))
  x1 b j d := by rw [hO.x1]; exact Body.x1_at hW hP b j d
  hid r d := by
    by_cases e1 : d.val < 1024
    · exact (hO.h0 r ⟨d.val, e1⟩).trans ((Body.hid0_at hW hP r ⟨d.val, e1⟩).trans
        (congrArg (I.hid _ _) (Fin.ext (by first | rfl | (dsimp only; omega)))))
    by_cases e2 : d.val < 2048
    · obtain ⟨l, hl⟩ : ∃ l : Fin 1024, d.val = 1024 + l.val := ⟨⟨d.val - 1024, by omega⟩, show d.val = 1024 + (d.val - 1024) by omega⟩
      rw [show d = ⟨1024 + l.val, by omega⟩ from Fin.ext hl]
      exact (hO.h1 r l).trans ((Body.hid1_at hW hP r l).trans (congrArg (I.hid _ _) (Fin.ext (by first | rfl | (dsimp only; omega)))))
    by_cases e3 : d.val < 3072
    · obtain ⟨l, hl⟩ : ∃ l : Fin 1024, d.val = 2048 + l.val := ⟨⟨d.val - 2048, by omega⟩, show d.val = 2048 + (d.val - 2048) by omega⟩
      rw [show d = ⟨2048 + l.val, by omega⟩ from Fin.ext hl]
      exact (hO.h2 r l).trans ((Body.hid2_at hW hP r l).trans (congrArg (I.hid _ _) (Fin.ext (by first | rfl | (dsimp only; omega)))))
    · obtain ⟨l, hl⟩ : ∃ l : Fin 1024, d.val = 3072 + l.val := ⟨⟨d.val - 3072, by omega⟩, show d.val = 3072 + (d.val - 3072) by omega⟩
      rw [show d = ⟨3072 + l.val, by omega⟩ from Fin.ext hl]
      exact (hO.h3 r l).trans ((Body.hid3_at hW hP r l).trans (congrArg (I.hid _ _) (Fin.ext (by first | rfl | (dsimp only; omega)))))

variable (m : (ℓ : Loc nD τ sig) → Buf (Elt Ideal) ℓ) (c : Dev nD)

attribute [local irreducible] View.readCov

theorem hs_start (I : Inp) (b : Fin 8) (d : Fin 512) : I.hs b d (0 * 64) = 0 := by
  rw [Nat.zero_mul]
  rfl

/-- The first point finds everything cleared. -/
theorem pt_A (t : Fin cfg0.N) (ht : t.val = 0) : Pt (inp m c) ⟨0, by omega⟩ (rA m c t) where
  i0 := (i0_A m c t).trans (by rw [ht])
  x b j d := (x_A m c t (by omega) b j d).trans (by simp only [ht])
  lt b d k h1 h3 := (lt_A' m c t b _ d).trans (if_neg (show ¬ k ≤ 0 * 64 + 0 by omega)).symm
  ct b d k h1 h3 := (ct_A' m c t b _ d).trans (if_neg (show ¬ k ≤ 0 * 64 + 0 by omega)).symm
  s0 b l := Eq.trans (st_zero _ 0 _ (by omega) b l) (hs_start _ _ _).symm
  s1 b l := Eq.trans (st_zero _ 128 _ (by omega) b l) (hs_start _ _ _).symm
  s2 b l := Eq.trans (st_zero _ 256 _ (by omega) b l) (hs_start _ _ _).symm
  s3 b l := Eq.trans (st_zero _ 384 _ (by omega) b l) (hs_start _ _ _).symm

/-- A later point finds what the point before left. -/
theorem pt_B (n : ℕ) (hn : n + 1 < cfg0.N) (h : n + 1 < 32) (hC : Carry (inp m c) ⟨n, by omega⟩ (outsAt0 m c n (by omega))) :
    Pt (inp m c) ⟨n + 1, h⟩ (rB m c ⟨n + 1, hn⟩) where
  i0 := i0_B m c ⟨n + 1, hn⟩
  x b j d := x_B m c ⟨n + 1, hn⟩ h b j d
  lt b d k h1 h3 := (lt_B' m c ⟨n + 1, hn⟩ b _ d).trans (hC.lt h b d k h1 h3)
  ct b d k h1 h3 := (ct_B' m c ⟨n + 1, hn⟩ b _ d).trans (hC.ct h b d k h1 h3)
  s0 b l := (s0_B m c ⟨n + 1, hn⟩ b l).trans ((hC.st b _).trans (congrArg ((inp m c).hs b · _) (Fin.ext (show l.val = 0 * 128 + l.val by omega))))
  s1 b l := (s1_B m c ⟨n + 1, hn⟩ b l).trans ((hC.st b _).trans (congrArg ((inp m c).hs b · _) (Fin.ext (show 128 + l.val = 1 * 128 + l.val by omega))))
  s2 b l := (s2_B m c ⟨n + 1, hn⟩ b l).trans ((hC.st b _).trans (congrArg ((inp m c).hs b · _) (Fin.ext (show 256 + l.val = 2 * 128 + l.val by omega))))
  s3 b l := (s3_B m c ⟨n + 1, hn⟩ b l).trans ((hC.st b _).trans (congrArg ((inp m c).hs b · _) (Fin.ext (show 384 + l.val = 3 * 128 + l.val by omega))))

/-- So every chunk's point leaves what the next needs. -/
theorem carry : ∀ (n : ℕ) (hn : n < cfg0.N) (h : n < 32), Carry (inp m c) ⟨n, h⟩ (outsAt0 m c n hn)
  | 0, hn, h => carry_of (out_of_A m c ⟨0, hn⟩ rfl) (wt_A m c ⟨0, hn⟩) (pt_A m c ⟨0, hn⟩ rfl)
  | n + 1, hn, h => carry_of (out_of_B m c ⟨n + 1, hn⟩ (show ¬ (n + 1) % 33 = 0 by omega)) (wt_B m c ⟨n + 1, hn⟩)
      (pt_B m c n hn h (carry n (by omega) (by omega)))

/-- And from the second point on, each point's output block is the chunk before it. -/
theorem block (n : ℕ) (hn : n + 1 < cfg0.N) (h : n < 32) (b : Fin 8) (j : Fin 64) (d : Fin 1024) :
    (outsAt0 m c (n + 1) hn).1 (ix3 b j d) = (inp m c).out b (tm ⟨n, h⟩ j) d := by
  have hC := carry m c n (by omega) h
  have hV : Pv (inp m c) ⟨n, h⟩ (rB m c ⟨n + 1, hn⟩) :=
    ⟨fun b j d => (xp_B m c ⟨n + 1, hn⟩ b j d).trans (hC.x1 b j d), fun r f => (hp_B m c ⟨n + 1, hn⟩ r f).trans (hC.hid r f)⟩
  rw [(out_of_B m c ⟨n + 1, hn⟩ (show ¬ (n + 1) % 33 = 0 by omega)).out]
  exact Body.out_at (wt_B m c ⟨n + 1, hn⟩) hV b j d

/-- The layer's output. -/
def result (I : Inp) : Vec Ideal S8x2048x1024 .f32 := fun i => I.out (i 0) (i 1) (i 2)

theorem idx19 : ∀ t : Fin cfg0.N, win0_19.index t = ![0, t.val - 1, 0] :=
  (by decide +kernel : ∀ t : Fin grid0.N, _)
theorem flush19 : ∀ t : Fin cfg0.N, (cfg0.win 19).flush t = true → 1 ≤ t.val :=
  (by decide +kernel : ∀ t : Fin grid0.N, _)

/-- The result array after the run. -/
theorem final : (dats m 0 c).arrAt 19 cfg0.N = result (inp m c) := by
  refine (dats m 0 c).arrAt_eq_of_covers 19 _ (by decide +kernel) fun t hf y => ?_
  have h1 := flush19 t hf
  have hN : cfg0.N = 33 := N_0
  have hlt : t.val < 33 := by have := t.isLt; omega
  have e := idx19 t
  obtain ⟨n, hn⟩ := t
  obtain ⟨n, rfl⟩ : ∃ k, n = k + 1 := ⟨n - 1, by have : 1 ≤ n := h1; omega⟩
  have h : n < 32 := by have : n + 1 < 33 := hlt; omega
  show (dats m 0 c).after 19 ⟨n + 1, hn⟩ (y : S8x64x1024.Idx) = _
  rw [after0_19]
  obtain ⟨b, j, d, rfl⟩ : ∃ (b : Fin 8) (j : Fin 64) (d : Fin 1024), (y : S8x64x1024.Idx) = ix3 b j d :=
    ⟨y 0, y 1, y 2, funext fun a => by fin_cases a <;> rfl⟩
  refine (block m c n hn h b j d).trans ?_
  show _ = result (inp m c) (((cfg0.win 19).blk ⟨n + 1, hn⟩).view.emb (ix3 b j d))
  have ei : ((cfg0.win 19).blk ⟨n + 1, hn⟩).view.emb (ix3 b j d) = (ix3 b (tm ⟨n, h⟩ j) d : S8x2048x1024.Idx) := by
    refine funext fun a => Fin.ext ?_
    match a with
    | ⟨0, _⟩ => blk_simp [e]
    | ⟨1, _⟩ => blk_simp [e]; show (n + 1 - 1) * 64 + j.val = n * 64 + j.val; omega
    | ⟨2, _⟩ => blk_simp [e]
  rw [ei]
  rfl

end Cert.Proof.Host
-- ==== Proof.RefLoop.lean ====
/-
  The reference's loop runs through the states of `Step.step`: every value of a trip is the one of that name there, so the
  run ends with the result made of the state after the last trip.
-/

module

public import proofs.«01_k».proof.Proof.Gen.ReferenceIdeal.Run
public import proofs.«01_k».proof.Proof.Gen.ReferenceIdeal.Step

@[expose] public section

noncomputable section

namespace Cert.Proof.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_17 : V0 (Proc.devRef .tc main_v149_17) = s.main_v149_17
  f_18 : V0 (Proc.devRef .tc main_v149_18) = s.main_v149_18
  f_0 : V0 (Proc.devRef .tc main_v149_0) = s.main_v149_0
  f_1 : V0 (Proc.devRef .tc main_v149_1) = s.main_v149_1
  f_2 : V0 (Proc.devRef .tc main_v149_2) = s.main_v149_2
  f_3 : V0 (Proc.devRef .tc main_v149_3) = s.main_v149_3
  f_4 : V0 (Proc.devRef .tc main_v149_4) = s.main_v149_4
  f_5 : V0 (Proc.devRef .tc main_v149_5) = s.main_v149_5
  f_6 : V0 (Proc.devRef .tc main_v149_6) = s.main_v149_6
  f_7 : V0 (Proc.devRef .tc main_v149_7) = s.main_v149_7
  f_8 : V0 (Proc.devRef .tc main_v149_8) = s.main_v149_8
  f_9 : V0 (Proc.devRef .tc main_v149_9) = s.main_v149_9
  f_10 : V0 (Proc.devRef .tc main_v149_10) = s.main_v149_10
  f_11 : V0 (Proc.devRef .tc main_v149_11) = s.main_v149_11
  f_12 : V0 (Proc.devRef .tc main_v149_12) = s.main_v149_12
  f_13 : V0 (Proc.devRef .tc main_v149_13) = s.main_v149_13
  f_14 : V0 (Proc.devRef .tc main_v149_14) = s.main_v149_14
  f_15 : V0 (Proc.devRef .tc main_v149_15) = s.main_v149_15
  n_16 : V0 (Proc.devRef .tc main_v149_16) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x512 (V0 (Proc.devRef .tc main_v149_0)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call4_v0 : DevRef τ sig).ty.Contents (Elt F)) = Cert.ReferenceIdeal.Step.b2 j s := by
  unfold Cert.ReferenceIdeal.Step.b2
  rw [← al_0 h, ← al_1 h, h.f_0, h.n_16]
  try rfl
set_option maxRecDepth 8192 in
theorem al_3 (h : Holds V0 s j) : (shapeCast S8x512 (Host.dynamicSlice S1x8x512 (V0 (Proc.devRef .tc main_v149_0)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512 : (Proc.devRef .tc main_while0b_v151 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call5_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call5_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x512 (V0 (Proc.devRef .tc main_v149_1)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call5_v0 : DevRef τ sig).ty.Contents (Elt F)) = Cert.ReferenceIdeal.Step.b6 j s := by
  unfold Cert.ReferenceIdeal.Step.b6
  rw [← al_4 h, ← al_5 h, h.f_1, h.n_16]
  try rfl
set_option maxRecDepth 8192 in
theorem al_7 (h : Holds V0 s j) : (shapeCast S8x512 (Host.dynamicSlice S1x8x512 (V0 (Proc.devRef .tc main_v149_1)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512 : (Proc.devRef .tc main_while0b_v152 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call6_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x512 (V0 (Proc.devRef .tc main_v149_2)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call6_v0 : DevRef τ sig).ty.Contents (Elt F)) = Cert.ReferenceIdeal.Step.b10 j s := by
  unfold Cert.ReferenceIdeal.Step.b10
  rw [← al_8 h, ← al_9 h, h.f_2, h.n_16]
  try rfl
set_option maxRecDepth 8192 in
theorem al_11 (h : Holds V0 s j) : (res_main_while0b_v153 V0 : (Proc.devRef .tc main_while0b_v153 : DevRef τ sig).ty.Contents (Elt F)) = Cert.ReferenceIdeal.Step.b11 j s := by
  unfold res_main_while0b_v153 Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x8x512 (V0 (Proc.devRef .tc main_v149_3)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call7_v0 : DevRef τ sig).ty.Contents (Elt F)) = Cert.ReferenceIdeal.Step.b14 j s := by
  unfold Cert.ReferenceIdeal.Step.b14
  rw [← al_12 h, ← al_13 h, h.f_3, h.n_16]
  try rfl
set_option maxRecDepth 8192 in
theorem al_15 (h : Holds V0 s j) : (shapeCast S8x512 (Host.dynamicSlice S1x8x512 (V0 (Proc.devRef .tc main_v149_3)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512 : (Proc.devRef .tc main_while0b_v154 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call8_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call8_c_0 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x1024 (V0 (Proc.devRef .tc main_v149_4)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call8_v0 : DevRef τ sig).ty.Contents (Elt F)) = Cert.ReferenceIdeal.Step.b18 j s := by
  unfold Cert.ReferenceIdeal.Step.b18
  rw [← al_16 h, ← al_17 h, h.f_4, h.n_16]
  try rfl
set_option maxRecDepth 8192 in
theorem al_19 (h : Holds V0 s j) : (shapeCast S8x1024 (Host.dynamicSlice S1x8x1024 (V0 (Proc.devRef .tc main_v149_4)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v155 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (mulf (shapeCast S8x512 (Host.dynamicSlice S1x8x512 (V0 (Proc.devRef .tc main_v149_0)) (fun k => (((![V0 (Proc.devRef .tc main_v149_16), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512) (V0 (Proc.devRef .tc main_v149_17)) : (Proc.devRef .tc main_while0b_v156 : DevRef τ sig).ty.Contents (Elt F)) = Cert.ReferenceIdeal.Step.b20 j s := by
  unfold Cert.ReferenceIdeal.Step.b20
  rw [← al_3 h, h.f_17]
  try rfl
set_option maxRecDepth 8192 in
theorem al_21 (h : Holds V0 s j) : (res_main_while0b_v157 V0 : (Proc.devRef .tc main_while0b_v157 : DevRef τ sig).ty.Contents (Elt F)) = Cert.ReferenceIdeal.Step.b21 j s := by
  unfold res_main_while0b_v157 Cert.ReferenceIdeal.Step.b21
  rw [← al_20 h, ← al_7 h]
  try rfl
set_option maxRecDepth 8192 in
theorem al_22 (h : Holds V0 s j) : (mulf (res_main_while0b_v153 V0) (res_main_while0b_v153 V0) : (Proc.devRef .tc main_while0b_v158 : DevRef τ sig).ty.Contents (Elt F)) = Cert.ReferenceIdeal.Step.b22 j s := by
  unfold Cert.ReferenceIdeal.Step.b22
  rw [← al_11 h]
  try rfl
set_option maxRecDepth 8192 in
theorem al_23 (h : Holds V0 s j) : (mulf (mulf (res_main_while0b_v153 V0) (res_main_while0b_v153 V0)) (res_main_while0b_v153 V0) : (Proc.devRef .tc main_while0b_v159 : DevRef τ sig).ty.Contents (Elt F)) = Cert.ReferenceIdeal.Step.b23 j s := by
  unfold Cert.ReferenceIdeal.Step.b23
  rw [← al_22 h, ← al_11 h]
  try rfl
set_option maxRecDepth 8192 in
theorem al_24 (h : Holds V0 s j) : (constant S_ .f32 0x3D372713#32 : (Proc.devRef .tc main_while0b_cst_33 : DevRef τ sig).ty.Contents (Elt F)) = Cert.ReferenceIdeal.Step.b24 j s := by
  unfold Cert.ReferenceIdeal.Step.b24
  rfl
set_option maxRecDepth 8192 in
theorem al_25 (h : Holds V0 s j) : (broadcastInDim S8x512 ![] bcast_S_S8x512 (constant S_ .f32 0x3D372713#32) : (Proc.devRef .tc main_while0b_v160 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (broadcastInDim S8x512 ![] bcast_S_S8x512 (constant S_ .f32 0x3D372713#32)) (mulf (mulf (res_main_while0b_v153 V0) (res_main_while0b_v153 V0)) (res_main_while0b_v153 V0)) : (Proc.devRef .tc main_while0b_v161 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (addf (res_main_while0b_v153 V0) (mulf (broadcastInDim S8x512 ![] bcast_S_S8x512 (constant S_ .f32 0x3D372713#32)) (mulf (mulf (res_main_while0b_v153 V0) (res_main_while0b_v153 V0)) (res_main_while0b_v153 V0))) : (Proc.devRef .tc main_while0b_v162 : DevRef τ sig).ty.Contents (Elt F)) = Cert.ReferenceIdeal.Step.b27 j s := by
  unfold Cert.ReferenceIdeal.Step.b27
  rw [← al_11 h, ← al_26 h]
  try rfl
set_option maxRecDepth 8192 in
theorem al_28 (h : Holds V0 s j) : (constant S_ .f32 0x3F4C422A#32 : (Proc.devRef .tc main_while0b_cst_34 : DevRef τ sig).ty.Contents (Elt F)) = Cert.ReferenceIdeal.Step.b28 j s := by
  unfold Cert.ReferenceIdeal.Step.b28
  rfl
set_option maxRecDepth 8192 in
theorem al_29 (h : Holds V0 s j) : (broadcastInDim S8x512 ![] bcast_S_S8x512 (constant S_ .f32 0x3F4C422A#32) : (Proc.devRef .tc main_while0b_v163 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0)))) : (Proc.devRef .tc main_while0b_v164 : DevRef τ sig).ty.Contents (Elt F)) = Cert.ReferenceIdeal.Step.b30 j s := by
  unfold Cert.ReferenceIdeal.Step.b30
  rw [← al_29 h, ← al_27 h]
  try rfl
set_option maxRecDepth 8192 in
theorem al_31 (h : Holds V0 s j) : (Host.tanh (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0))))) : (Proc.devRef .tc main_while0b_v165 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constant S_ .f32 0x3F800000#32 : (Proc.devRef .tc main_while0b_cst_35 : DevRef τ sig).ty.Contents (Elt F)) = Cert.ReferenceIdeal.Step.b32 j s := by
  unfold Cert.ReferenceIdeal.Step.b32
  rfl
set_option maxRecDepth 8192 in
theorem al_33 (h : Holds V0 s j) : (broadcastInDim S8x512 ![] bcast_S_S8x512 (constant S_ .f32 0x3F800000#32) : (Proc.devRef .tc main_while0b_v166 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (addf (broadcastInDim S8x512 ![] bcast_S_S8x512 (constant S_ .f32 0x3F800000#32)) (Host.tanh (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0)))))) : (Proc.devRef .tc main_while0b_v167 : DevRef τ sig).ty.Contents (Elt F)) = Cert.ReferenceIdeal.Step.b34 j s := by
  unfold Cert.ReferenceIdeal.Step.b34
  rw [← al_33 h, ← al_31 h]
  try rfl
set_option maxRecDepth 8192 in
theorem al_35 (h : Holds V0 s j) : (constant S_ .f32 0x3F000000#32 : (Proc.devRef .tc main_while0b_cst_36 : DevRef τ sig).ty.Contents (Elt F)) = Cert.ReferenceIdeal.Step.b35 j s := by
  unfold Cert.ReferenceIdeal.Step.b35
  rfl
set_option maxRecDepth 8192 in
theorem al_36 (h : Holds V0 s j) : (broadcastInDim S8x512 ![] bcast_S_S8x512 (constant S_ .f32 0x3F000000#32) : (Proc.devRef .tc main_while0b_v168 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (mulf (broadcastInDim S8x512 ![] bcast_S_S8x512 (constant S_ .f32 0x3F000000#32)) (addf (broadcastInDim S8x512 ![] bcast_S_S8x512 (constant S_ .f32 0x3F800000#32)) (Host.tanh (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0))))))) : (Proc.devRef .tc main_while0b_v169 : DevRef τ sig).ty.Contents (Elt F)) = Cert.ReferenceIdeal.Step.b37 j s := by
  unfold Cert.ReferenceIdeal.Step.b37
  rw [← al_36 h, ← al_34 h]
  try rfl
set_option maxRecDepth 8192 in
theorem al_38 (h : Holds V0 s j) : (mulf (res_main_while0b_v153 V0) (mulf (broadcastInDim S8x512 ![] bcast_S_S8x512 (constant S_ .f32 0x3F000000#32)) (addf (broadcastInDim S8x512 ![] bcast_S_S8x512 (constant S_ .f32 0x3F800000#32)) (Host.tanh (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0)))))))) : (Proc.devRef .tc main_while0b_v170 : DevRef τ sig).ty.Contents (Elt F)) = Cert.ReferenceIdeal.Step.b38 j s := by
  unfold Cert.ReferenceIdeal.Step.b38
  rw [← al_11 h, ← al_37 h]
  try rfl
set_option maxRecDepth 8192 in
theorem al_39 (h : Holds V0 s j) : (mulf (mulf (res_main_while0b_v153 V0) (mulf (broadcastInDim S8x512 ![] bcast_S_S8x512 (constant S_ .f32 0x3F000000#32)) (addf (broadcastInDim S8x512 ![] bcast_S_S8x512 (constant S_ .f32 0x3F800000#32)) (Host.tanh (mulf (broadcastInDim S8x512 ![] bcast_S_S8x512 (constant S_ .f32 0x3F4C422A#32)) (addf (res_main_while0b_v153 V0) (mulf (broadcastInDim S8x512 ![] bcast_S_S8x512 (constant S_ .f32 0x3D372713#32)) (mulf (mulf (res_main_while0b_v153 V0) (res_main_while0b_v153 V0)) (res_main_while0b_v153 V0))))))))) (res_main_while0b_v157 V0) : (Proc.devRef .tc main_while0b_v171 : DevRef τ sig).ty.Contents (Elt F)) = Cert.ReferenceIdeal.Step.b39 j s := by
  unfold Cert.ReferenceIdeal.Step.b39
  rw [← al_38 h, ← al_21 h]
  try rfl
set_option maxRecDepth 8192 in
theorem al_40 (h : Holds V0 s j) : (shapeCast S512 (V0 (Proc.devRef .tc main_v149_5)) shapeCasts_S1x512_S512 : (Proc.devRef .tc main_while0b_v172 : DevRef τ sig).ty.Contents (Elt F)) = Cert.ReferenceIdeal.Step.b40 j s := by
  unfold Cert.ReferenceIdeal.Step.b40
  rw [h.f_5]
  try rfl
set_option maxRecDepth 8192 in
theorem al_41 (h : Holds V0 s j) : (res_main_while0b_v173 V0 : (Proc.devRef .tc main_while0b_v173 : DevRef τ sig).ty.Contents (Elt F)) = Cert.ReferenceIdeal.Step.b41 j s := by
  unfold res_main_while0b_v173 Cert.ReferenceIdeal.Step.b41
  rw [← al_39 h]
  try rfl
set_option maxRecDepth 8192 in
theorem al_42 (h : Holds V0 s j) : (mulf (res_main_while0b_v173 V0) (res_main_while0b_v173 V0) : (Proc.devRef .tc main_while0b_v174 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (constant S_ .f32 0x00000000#32 : (Proc.devRef .tc main_while0b_cst_37 : DevRef τ sig).ty.Contents (Elt F)) = Cert.ReferenceIdeal.Step.b43 j s := by
  unfold Cert.ReferenceIdeal.Step.b43
  rfl
set_option maxRecDepth 8192 in
theorem al_44 (h : Holds V0 s j) : (Host.reduceAdd (mulf (res_main_while0b_v173 V0) (res_main_while0b_v173 V0)) (constant S_ .f32 0x00000000#32) reducesTo_S8x8x64_S8x8_d2 h_S_ : (Proc.devRef .tc main_while0b_v175 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_) : (Proc.devRef .tc main_while0b_v176 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (constant S_ .f32 0x42800000#32 : (Proc.devRef .tc main_while0b_cst_38 : DevRef τ sig).ty.Contents (Elt F)) = Cert.ReferenceIdeal.Step.b46 j s := by
  unfold Cert.ReferenceIdeal.Step.b46
  rfl
set_option maxRecDepth 8192 in
theorem al_47 (h : Holds V0 s j) : (broadcastInDim S8x8x1 ![] bcast_S_S8x8x1 (constant S_ .f32 0x42800000#32) : (Proc.devRef .tc main_while0b_v177 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32)) : (Proc.devRef .tc main_while0b_v178 : DevRef τ sig).ty.Contents (Elt F)) = Cert.ReferenceIdeal.Step.b48 j s := by
  unfold Cert.ReferenceIdeal.Step.b48
  rw [← al_45 h, ← al_47 h]
  try rfl
set_option maxRecDepth 8192 in
theorem al_49 (h : Holds V0 s j) : (constant S_ .f32 0x358637BD#32 : (Proc.devRef .tc main_while0b_cst_39 : DevRef τ sig).ty.Contents (Elt F)) = Cert.ReferenceIdeal.Step.b49 j s := by
  unfold Cert.ReferenceIdeal.Step.b49
  rfl
set_option maxRecDepth 8192 in
theorem al_50 (h : Holds V0 s j) : (broadcastInDim S8x8x1 ![] bcast_S_S8x8x1 (constant S_ .f32 0x358637BD#32) : (Proc.devRef .tc main_while0b_v179 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)) : (Proc.devRef .tc main_while0b_v180 : DevRef τ sig).ty.Contents (Elt F)) = Cert.ReferenceIdeal.Step.b51 j s := by
  unfold Cert.ReferenceIdeal.Step.b51
  rw [← al_48 h, ← al_50 h]
  try rfl
set_option maxRecDepth 8192 in
theorem al_52 (h : Holds V0 s j) : (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32))) : (Proc.devRef .tc main_while0b_v181 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))) : (Proc.devRef .tc main_while0b_v182 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32))))) : (Proc.devRef .tc main_while0b_v183 : DevRef τ sig).ty.Contents (Elt F)) = Cert.ReferenceIdeal.Step.b54 j s := by
  unfold Cert.ReferenceIdeal.Step.b54
  rw [← al_41 h, ← al_53 h]
  try rfl
set_option maxRecDepth 8192 in
theorem al_55 (h : Holds V0 s j) : (shapeCast S8x512 (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512 : (Proc.devRef .tc main_while0b_v184 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S1x512 ![1] bcast_S512_S1x512_1 (shapeCast S512 (V0 (Proc.devRef .tc main_v149_5)) shapeCasts_S1x512_S512) : (Proc.devRef .tc main_while0b_v185 : DevRef τ sig).ty.Contents (Elt F)) = Cert.ReferenceIdeal.Step.b56 j s := by
  unfold Cert.ReferenceIdeal.Step.b56
  rw [← al_40 h]
  try rfl
set_option maxRecDepth 8192 in
theorem al_57 (h : Holds V0 s j) : (broadcastInDim S8x512 ![0, 1] bcast_S1x512_S8x512_0_1 (broadcastInDim S1x512 ![1] bcast_S512_S1x512_1 (shapeCast S512 (V0 (Proc.devRef .tc main_v149_5)) shapeCasts_S1x512_S512)) : (Proc.devRef .tc main_while0b_v186 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (shapeCast S8x512 (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_5)) shapeCasts_S1x512_S512))) : (Proc.devRef .tc main_while0b_v187 : DevRef τ sig).ty.Contents (Elt F)) = Cert.ReferenceIdeal.Step.b58 j s := by
  unfold Cert.ReferenceIdeal.Step.b58
  rw [← al_55 h, ← al_57 h]
  try rfl
set_option maxRecDepth 8192 in
theorem al_59 (h : Holds V0 s j) : (shapeCast S512 (V0 (Proc.devRef .tc main_v149_6)) shapeCasts_S1x512_S512 : (Proc.devRef .tc main_while0b_v188 : DevRef τ sig).ty.Contents (Elt F)) = Cert.ReferenceIdeal.Step.b59 j s := by
  unfold Cert.ReferenceIdeal.Step.b59
  rw [h.f_6]
  try rfl
set_option maxRecDepth 8192 in
theorem al_60 (h : Holds V0 s j) : (res_main_while0b_v189 V0 : (Proc.devRef .tc main_while0b_v189 : DevRef τ sig).ty.Contents (Elt F)) = Cert.ReferenceIdeal.Step.b60 j s := by
  unfold res_main_while0b_v189 Cert.ReferenceIdeal.Step.b60
  rw [← al_15 h]
  try rfl
set_option maxRecDepth 8192 in
theorem al_61 (h : Holds V0 s j) : (mulf (res_main_while0b_v189 V0) (res_main_while0b_v189 V0) : (Proc.devRef .tc main_while0b_v190 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (constant S_ .f32 0x00000000#32 : (Proc.devRef .tc main_while0b_cst_40 : DevRef τ sig).ty.Contents (Elt F)) = Cert.ReferenceIdeal.Step.b62 j s := by
  unfold Cert.ReferenceIdeal.Step.b62
  rfl
set_option maxRecDepth 8192 in
theorem al_63 (h : Holds V0 s j) : (Host.reduceAdd (mulf (res_main_while0b_v189 V0) (res_main_while0b_v189 V0)) (constant S_ .f32 0x00000000#32) reducesTo_S8x8x64_S8x8_d2 h_S_ : (Proc.devRef .tc main_while0b_v191 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_) : (Proc.devRef .tc main_while0b_v192 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (constant S_ .f32 0x42800000#32 : (Proc.devRef .tc main_while0b_cst_41 : DevRef τ sig).ty.Contents (Elt F)) = Cert.ReferenceIdeal.Step.b65 j s := by
  unfold Cert.ReferenceIdeal.Step.b65
  rfl
set_option maxRecDepth 8192 in
theorem al_66 (h : Holds V0 s j) : (broadcastInDim S8x8x1 ![] bcast_S_S8x8x1 (constant S_ .f32 0x42800000#32) : (Proc.devRef .tc main_while0b_v193 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32)) : (Proc.devRef .tc main_while0b_v194 : DevRef τ sig).ty.Contents (Elt F)) = Cert.ReferenceIdeal.Step.b67 j s := by
  unfold Cert.ReferenceIdeal.Step.b67
  rw [← al_64 h, ← al_66 h]
  try rfl
set_option maxRecDepth 8192 in
theorem al_68 (h : Holds V0 s j) : (constant S_ .f32 0x358637BD#32 : (Proc.devRef .tc main_while0b_cst_42 : DevRef τ sig).ty.Contents (Elt F)) = Cert.ReferenceIdeal.Step.b68 j s := by
  unfold Cert.ReferenceIdeal.Step.b68
  rfl
set_option maxRecDepth 8192 in
theorem al_69 (h : Holds V0 s j) : (broadcastInDim S8x8x1 ![] bcast_S_S8x8x1 (constant S_ .f32 0x358637BD#32) : (Proc.devRef .tc main_while0b_v195 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)) : (Proc.devRef .tc main_while0b_v196 : DevRef τ sig).ty.Contents (Elt F)) = Cert.ReferenceIdeal.Step.b70 j s := by
  unfold Cert.ReferenceIdeal.Step.b70
  rw [← al_67 h, ← al_69 h]
  try rfl
set_option maxRecDepth 8192 in
theorem al_71 (h : Holds V0 s j) : (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32))) : (Proc.devRef .tc main_while0b_v197 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))) : (Proc.devRef .tc main_while0b_v198 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32))))) : (Proc.devRef .tc main_while0b_v199 : DevRef τ sig).ty.Contents (Elt F)) = Cert.ReferenceIdeal.Step.b73 j s := by
  unfold Cert.ReferenceIdeal.Step.b73
  rw [← al_60 h, ← al_72 h]
  try rfl
set_option maxRecDepth 8192 in
theorem al_74 (h : Holds V0 s j) : (shapeCast S8x512 (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512 : (Proc.devRef .tc main_while0b_v200 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (broadcastInDim S1x512 ![1] bcast_S512_S1x512_1 (shapeCast S512 (V0 (Proc.devRef .tc main_v149_6)) shapeCasts_S1x512_S512) : (Proc.devRef .tc main_while0b_v201 : DevRef τ sig).ty.Contents (Elt F)) = Cert.ReferenceIdeal.Step.b75 j s := by
  unfold Cert.ReferenceIdeal.Step.b75
  rw [← al_59 h]
  try rfl
set_option maxRecDepth 8192 in
theorem al_76 (h : Holds V0 s j) : (broadcastInDim S8x512 ![0, 1] bcast_S1x512_S8x512_0_1 (broadcastInDim S1x512 ![1] bcast_S512_S1x512_1 (shapeCast S512 (V0 (Proc.devRef .tc main_v149_6)) shapeCasts_S1x512_S512)) : (Proc.devRef .tc main_while0b_v202 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (mulf (shapeCast S8x512 (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_6)) shapeCasts_S1x512_S512))) : (Proc.devRef .tc main_while0b_v203 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (concatenate S8x1024 1 [⟨S8x512, (mulf (shapeCast S8x512 (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_5)) shapeCasts_S1x512_S512))))⟩, ⟨S8x512, (mulf (shapeCast S8x512 (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_6)) shapeCasts_S1x512_S512))))⟩] concatenates_S8x512_S8x512_S8x1024_d1 : (Proc.devRef .tc main_while0b_v204 : DevRef τ sig).ty.Contents (Elt F)) = Cert.ReferenceIdeal.Step.b78 j s := by
  unfold Cert.ReferenceIdeal.Step.b78
  rw [← al_58 h, ← al_77 h]
  try rfl
set_option maxRecDepth 8192 in
theorem al_79 (h : Holds V0 s j) : (shapeCast S1024x1024 (V0 (Proc.devRef .tc main_v149_7)) shapeCasts_S1x1024x1024_S1024x1024 : (Proc.devRef .tc main_while0b_v205 : DevRef τ sig).ty.Contents (Elt F)) = Cert.ReferenceIdeal.Step.b79 j s := by
  unfold Cert.ReferenceIdeal.Step.b79
  rw [h.f_7]
  try rfl
set_option maxRecDepth 8192 in
theorem al_80 (h : Holds V0 s j) : (Host.dotGeneral dot_S8x1024_S1024x1024_S8x1024_1_0_0_1_n_n none (concatenate S8x1024 1 [⟨S8x512, (mulf (shapeCast S8x512 (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_5)) shapeCasts_S1x512_S512))))⟩, ⟨S8x512, (mulf (shapeCast S8x512 (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_6)) shapeCasts_S1x512_S512))))⟩] concatenates_S8x512_S8x512_S8x1024_d1) (shapeCast S1024x1024 (V0 (Proc.devRef .tc main_v149_7)) shapeCasts_S1x1024x1024_S1024x1024) : (Proc.devRef .tc main_while0b_v206 : DevRef τ sig).ty.Contents (Elt F)) = Cert.ReferenceIdeal.Step.b80 j s := by
  unfold Cert.ReferenceIdeal.Step.b80
  rw [← al_78 h, ← al_79 h]
  try rfl
set_option maxRecDepth 8192 in
theorem al_81 (h : Holds V0 s j) : (mulf (V0 (Proc.devRef .tc main_v149_8)) (Host.dotGeneral dot_S8x1024_S1024x1024_S8x1024_1_0_0_1_n_n none (concatenate S8x1024 1 [⟨S8x512, (mulf (shapeCast S8x512 (mulf (res_main_while0b_v173 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v173 V0) (res_main_while0b_v173 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_5)) shapeCasts_S1x512_S512))))⟩, ⟨S8x512, (mulf (shapeCast S8x512 (mulf (res_main_while0b_v189 V0) (broadcastInDim S8x8x64 ![0, 1, 2] bcast_S8x8x1_S8x8x64_0_1_2 (Host.rsqrt (addf (Host.divf (broadcastInDim S8x8x1 ![0, 1] bcast_S8x8_S8x8x1_0_1 (Host.reduceAdd (mulf (res_main_while0b_v189 V0) (res_main_while0b_v189 V0)) (constant S_ .f32 0x00000000#32) reducesTo_S8x8x64_S8x8_d2 h_S_)) (broadcastInDim S8x8x1 ![] bcast_S_S8x8x1 (constant S_ .f32 0x42800000#32))) (broadcastInDim S8x8x1 ![] bcast_S_S8x8x1 (constant S_ .f32 0x358637BD#32)))))) shapeCasts_S8x8x64_S8x512) (broadcastInDim S8x512 ![0, 1] bcast_S1x512_S8x512_0_1 (broadcastInDim S1x512 ![1] bcast_S512_S1x512_1 (shapeCast S512 (V0 (Proc.devRef .tc main_v149_6)) shapeCasts_S1x512_S512))))⟩] concatenates_S8x512_S8x512_S8x1024_d1) (shapeCast S1024x1024 (V0 (Proc.devRef .tc main_v149_7)) shapeCasts_S1x1024x1024_S1024x1024)) : (Proc.devRef .tc main_while0b_v207 : DevRef τ sig).ty.Contents (Elt F)) = Cert.ReferenceIdeal.Step.b81 j s := by
  unfold Cert.ReferenceIdeal.Step.b81
  rw [← al_80 h, h.f_8]
  try rfl
set_option maxRecDepth 8192 in
theorem al_82 (h : Holds V0 s j) : (res_main_while0b_v208 V0 : (Proc.devRef .tc main_while0b_v208 : DevRef τ sig).ty.Contents (Elt F)) = Cert.ReferenceIdeal.Step.b82 j s := by
  unfold res_main_while0b_v208 Cert.ReferenceIdeal.Step.b82
  rw [← al_19 h, ← al_81 h]
  try rfl
set_option maxRecDepth 8192 in
theorem al_83 (h : Holds V0 s j) : (shapeCast S1024 (V0 (Proc.devRef .tc main_v149_9)) shapeCasts_S1x1024_S1024 : (Proc.devRef .tc main_while0b_v209 : DevRef τ sig).ty.Contents (Elt F)) = Cert.ReferenceIdeal.Step.b83 j s := by
  unfold Cert.ReferenceIdeal.Step.b83
  rw [h.f_9]
  try rfl
set_option maxRecDepth 8192 in
theorem al_84 (h : Holds V0 s j) : (mulf (res_main_while0b_v208 V0) (res_main_while0b_v208 V0) : (Proc.devRef .tc main_while0b_v210 : DevRef τ sig).ty.Contents (Elt F)) = Cert.ReferenceIdeal.Step.b84 j s := by
  unfold Cert.ReferenceIdeal.Step.b84
  rw [← al_82 h]
  try rfl
set_option maxRecDepth 8192 in
theorem al_85 (h : Holds V0 s j) : (constant S_ .f32 0x00000000#32 : (Proc.devRef .tc main_while0b_cst_43 : DevRef τ sig).ty.Contents (Elt F)) = Cert.ReferenceIdeal.Step.b85 j s := by
  unfold Cert.ReferenceIdeal.Step.b85
  rfl
set_option maxRecDepth 8192 in
theorem al_86 (h : Holds V0 s j) : (Host.reduceAdd (mulf (res_main_while0b_v208 V0) (res_main_while0b_v208 V0)) (constant S_ .f32 0x00000000#32) reducesTo_S8x1024_S8_d1 h_S_ : (Proc.devRef .tc main_while0b_v211 : DevRef τ sig).ty.Contents (Elt F)) = Cert.ReferenceIdeal.Step.b86 j s := by
  unfold Cert.ReferenceIdeal.Step.b86
  rw [← al_84 h, ← al_85 h]
  try rfl
set_option maxRecDepth 8192 in
theorem al_87 (h : Holds V0 s j) : (broadcastInDim S8x1 ![0] bcast_S8_S8x1_0 (Host.reduceAdd (mulf (res_main_while0b_v208 V0) (res_main_while0b_v208 V0)) (constant S_ .f32 0x00000000#32) reducesTo_S8x1024_S8_d1 h_S_) : (Proc.devRef .tc main_while0b_v212 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (constant S_ .f32 0x44800000#32 : (Proc.devRef .tc main_while0b_cst_44 : DevRef τ sig).ty.Contents (Elt F)) = Cert.ReferenceIdeal.Step.b88 j s := by
  unfold Cert.ReferenceIdeal.Step.b88
  rfl
set_option maxRecDepth 8192 in
theorem al_89 (h : Holds V0 s j) : (broadcastInDim S8x1 ![] bcast_S_S8x1 (constant S_ .f32 0x44800000#32) : (Proc.devRef .tc main_while0b_v213 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32)) : (Proc.devRef .tc main_while0b_v214 : DevRef τ sig).ty.Contents (Elt F)) = Cert.ReferenceIdeal.Step.b90 j s := by
  unfold Cert.ReferenceIdeal.Step.b90
  rw [← al_87 h, ← al_89 h]
  try rfl
set_option maxRecDepth 8192 in
theorem al_91 (h : Holds V0 s j) : (constant S_ .f32 0x358637BD#32 : (Proc.devRef .tc main_while0b_cst_45 : DevRef τ sig).ty.Contents (Elt F)) = Cert.ReferenceIdeal.Step.b91 j s := by
  unfold Cert.ReferenceIdeal.Step.b91
  rfl
set_option maxRecDepth 8192 in
theorem al_92 (h : Holds V0 s j) : (broadcastInDim S8x1 ![] bcast_S_S8x1 (constant S_ .f32 0x358637BD#32) : (Proc.devRef .tc main_while0b_v215 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : (Proc.devRef .tc main_while0b_v216 : DevRef τ sig).ty.Contents (Elt F)) = Cert.ReferenceIdeal.Step.b93 j s := by
  unfold Cert.ReferenceIdeal.Step.b93
  rw [← al_90 h, ← al_92 h]
  try rfl
set_option maxRecDepth 8192 in
theorem al_94 (h : Holds V0 s j) : (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : (Proc.devRef .tc main_while0b_v217 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : (Proc.devRef .tc main_while0b_v218 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (mulf (res_main_while0b_v208 V0) (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : (Proc.devRef .tc main_while0b_v219 : DevRef τ sig).ty.Contents (Elt F)) = Cert.ReferenceIdeal.Step.b96 j s := by
  unfold Cert.ReferenceIdeal.Step.b96
  rw [← al_82 h, ← al_95 h]
  try rfl
set_option maxRecDepth 8192 in
theorem al_97 (h : Holds V0 s j) : (broadcastInDim S1x1024 ![1] bcast_S1024_S1x1024_1 (shapeCast S1024 (V0 (Proc.devRef .tc main_v149_9)) shapeCasts_S1x1024_S1024) : (Proc.devRef .tc main_while0b_v220 : DevRef τ sig).ty.Contents (Elt F)) = Cert.ReferenceIdeal.Step.b97 j s := by
  unfold Cert.ReferenceIdeal.Step.b97
  rw [← al_83 h]
  try rfl
set_option maxRecDepth 8192 in
theorem al_98 (h : Holds V0 s j) : (broadcastInDim S8x1024 ![0, 1] bcast_S1x1024_S8x1024_0_1 (broadcastInDim S1x1024 ![1] bcast_S1024_S1x1024_1 (shapeCast S1024 (V0 (Proc.devRef .tc main_v149_9)) shapeCasts_S1x1024_S1024)) : (Proc.devRef .tc main_while0b_v221 : DevRef τ sig).ty.Contents (Elt F)) = Cert.ReferenceIdeal.Step.b98 j s := by
  unfold Cert.ReferenceIdeal.Step.b98
  rw [← al_97 h]
  try rfl
set_option maxRecDepth 8192 in
theorem al_99 (h : Holds V0 s j) : (mulf (mulf (res_main_while0b_v208 V0) (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v149_9)) shapeCasts_S1x1024_S1024))) : (Proc.devRef .tc main_while0b_v222 : DevRef τ sig).ty.Contents (Elt F)) = Cert.ReferenceIdeal.Step.b99 j s := by
  unfold Cert.ReferenceIdeal.Step.b99
  rw [← al_96 h, ← al_98 h]
  try rfl
set_option maxRecDepth 8192 in
theorem al_100 (h : Holds V0 s j) : (constant S_ .f32 0x3F800000#32 : (Proc.devRef .tc main_while0b_cst_46 : DevRef τ sig).ty.Contents (Elt F)) = Cert.ReferenceIdeal.Step.b100 j s := by
  unfold Cert.ReferenceIdeal.Step.b100
  rfl
set_option maxRecDepth 8192 in
theorem al_101 (h : Holds V0 s j) : (broadcastInDim S8x1024 ![] bcast_S_S8x1024 (constant S_ .f32 0x3F800000#32) : (Proc.devRef .tc main_while0b_v223 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (addf (broadcastInDim S8x1024 ![] bcast_S_S8x1024 (constant S_ .f32 0x3F800000#32)) (V0 (Proc.devRef .tc main_v149_10)) : (Proc.devRef .tc main_while0b_v224 : DevRef τ sig).ty.Contents (Elt F)) = Cert.ReferenceIdeal.Step.b102 j s := by
  unfold Cert.ReferenceIdeal.Step.b102
  rw [← al_101 h, h.f_10]
  try rfl
set_option maxRecDepth 8192 in
theorem al_103 (h : Holds V0 s j) : (mulf (mulf (mulf (res_main_while0b_v208 V0) (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v149_9)) shapeCasts_S1x1024_S1024)))) (addf (broadcastInDim S8x1024 ![] bcast_S_S8x1024 (constant S_ .f32 0x3F800000#32)) (V0 (Proc.devRef .tc main_v149_10))) : (Proc.devRef .tc main_while0b_v225 : DevRef τ sig).ty.Contents (Elt F)) = Cert.ReferenceIdeal.Step.b103 j s := by
  unfold Cert.ReferenceIdeal.Step.b103
  rw [← al_99 h, ← al_102 h]
  try rfl
set_option maxRecDepth 8192 in
theorem al_104 (h : Holds V0 s j) : (addf (mulf (mulf (mulf (res_main_while0b_v208 V0) (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v149_9)) shapeCasts_S1x1024_S1024)))) (addf (broadcastInDim S8x1024 ![] bcast_S_S8x1024 (constant S_ .f32 0x3F800000#32)) (V0 (Proc.devRef .tc main_v149_10)))) (V0 (Proc.devRef .tc main_v149_11)) : (Proc.devRef .tc main_while0b_v226 : DevRef τ sig).ty.Contents (Elt F)) = Cert.ReferenceIdeal.Step.b104 j s := by
  unfold Cert.ReferenceIdeal.Step.b104
  rw [← al_103 h, h.f_11]
  try rfl
set_option maxRecDepth 8192 in
theorem al_105 (h : Holds V0 s j) : (shapeCast S1024x4096 (V0 (Proc.devRef .tc main_v149_12)) shapeCasts_S1x1024x4096_S1024x4096 : (Proc.devRef .tc main_while0b_v227 : DevRef τ sig).ty.Contents (Elt F)) = Cert.ReferenceIdeal.Step.b105 j s := by
  unfold Cert.ReferenceIdeal.Step.b105
  rw [h.f_12]
  try rfl
set_option maxRecDepth 8192 in
theorem al_106 (h : Holds V0 s j) : (Host.dotGeneral dot_S8x1024_S1024x4096_S8x4096_1_0_0_1_n_n none (addf (mulf (mulf (mulf (res_main_while0b_v208 V0) (broadcastInDim S8x1024 ![0, 1] bcast_S8x1_S8x1024_0_1 (Host.rsqrt (addf (Host.divf (broadcastInDim S8x1 ![0] bcast_S8_S8x1_0 (Host.reduceAdd (mulf (res_main_while0b_v208 V0) (res_main_while0b_v208 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v149_9)) shapeCasts_S1x1024_S1024)))) (addf (broadcastInDim S8x1024 ![] bcast_S_S8x1024 (constant S_ .f32 0x3F800000#32)) (V0 (Proc.devRef .tc main_v149_10)))) (V0 (Proc.devRef .tc main_v149_11))) (shapeCast S1024x4096 (V0 (Proc.devRef .tc main_v149_12)) shapeCasts_S1x1024x4096_S1024x4096) : (Proc.devRef .tc main_while0b_v228 : DevRef τ sig).ty.Contents (Elt F)) = Cert.ReferenceIdeal.Step.b106 j s := by
  unfold Cert.ReferenceIdeal.Step.b106
  rw [← al_104 h, ← al_105 h]
  try rfl
set_option maxRecDepth 8192 in
theorem al_107 (h : Holds V0 s j) : (constant S_ .f32 0x00000000#32 : (Proc.devRef .tc main_while0b_call9_cst : DevRef τ sig).ty.Contents (Elt F)) = Cert.ReferenceIdeal.Step.b107 j s := by
  unfold Cert.ReferenceIdeal.Step.b107
  rfl
set_option maxRecDepth 8192 in
theorem al_108 (h : Holds V0 s j) : (broadcastInDim S8x4096 ![] bcast_S_S8x4096 (constant S_ .f32 0x00000000#32) : (Proc.devRef .tc main_while0b_call9_v0 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (res_main_while0b_v229 V0 : (Proc.devRef .tc main_while0b_v229 : DevRef τ sig).ty.Contents (Elt F)) = Cert.ReferenceIdeal.Step.b109 j s := by
  unfold res_main_while0b_v229 Cert.ReferenceIdeal.Step.b109
  rw [← al_106 h, ← al_108 h]
  try rfl
set_option maxRecDepth 8192 in
theorem al_110 (h : Holds V0 s j) : (mulf (res_main_while0b_v229 V0) (res_main_while0b_v229 V0) : (Proc.devRef .tc main_while0b_v230 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (shapeCast S4096x1024 (V0 (Proc.devRef .tc main_v149_13)) shapeCasts_S1x4096x1024_S4096x1024 : (Proc.devRef .tc main_while0b_v231 : DevRef τ sig).ty.Contents (Elt F)) = Cert.ReferenceIdeal.Step.b111 j s := by
  unfold Cert.ReferenceIdeal.Step.b111
  rw [h.f_13]
  try rfl
set_option maxRecDepth 8192 in
theorem al_112 (h : Holds V0 s j) : (Host.dotGeneral dot_S8x4096_S4096x1024_S8x1024_1_0_0_1_n_n none (mulf (res_main_while0b_v229 V0) (res_main_while0b_v229 V0)) (shapeCast S4096x1024 (V0 (Proc.devRef .tc main_v149_13)) shapeCasts_S1x4096x1024_S4096x1024) : (Proc.devRef .tc main_while0b_v232 : DevRef τ sig).ty.Contents (Elt F)) = Cert.ReferenceIdeal.Step.b112 j s := by
  unfold Cert.ReferenceIdeal.Step.b112
  rw [← al_110 h, ← al_111 h]
  try rfl
set_option maxRecDepth 8192 in
theorem al_113 (h : Holds V0 s j) : (mulf (V0 (Proc.devRef .tc main_v149_14)) (Host.dotGeneral dot_S8x4096_S4096x1024_S8x1024_1_0_0_1_n_n none (mulf (res_main_while0b_v229 V0) (res_main_while0b_v229 V0)) (shapeCast S4096x1024 (V0 (Proc.devRef .tc main_v149_13)) shapeCasts_S1x4096x1024_S4096x1024)) : (Proc.devRef .tc main_while0b_v233 : DevRef τ sig).ty.Contents (Elt F)) = Cert.ReferenceIdeal.Step.b113 j s := by
  unfold Cert.ReferenceIdeal.Step.b113
  rw [← al_112 h, h.f_14]
  try rfl
set_option maxRecDepth 8192 in
theorem al_114 (h : Holds V0 s j) : (res_main_while0b_v234 V0 : (Proc.devRef .tc main_while0b_v234 : DevRef τ sig).ty.Contents (Elt F)) = Cert.ReferenceIdeal.Step.b114 j s := by
  unfold res_main_while0b_v234 Cert.ReferenceIdeal.Step.b114
  rw [← al_82 h, ← al_113 h]
  try rfl
set_option maxRecDepth 8192 in
theorem al_115 (h : Holds V0 s j) : (mulf (res_main_while0b_v234 V0) (res_main_while0b_v234 V0) : (Proc.devRef .tc main_while0b_v235 : DevRef τ sig).ty.Contents (Elt F)) = Cert.ReferenceIdeal.Step.b115 j s := by
  unfold Cert.ReferenceIdeal.Step.b115
  rw [← al_114 h]
  try rfl
set_option maxRecDepth 8192 in
theorem al_116 (h : Holds V0 s j) : (constant S_ .f32 0x00000000#32 : (Proc.devRef .tc main_while0b_cst_47 : DevRef τ sig).ty.Contents (Elt F)) = Cert.ReferenceIdeal.Step.b116 j s := by
  unfold Cert.ReferenceIdeal.Step.b116
  rfl
set_option maxRecDepth 8192 in
theorem al_117 (h : Holds V0 s j) : (Host.reduceAdd (mulf (res_main_while0b_v234 V0) (res_main_while0b_v234 V0)) (constant S_ .f32 0x00000000#32) reducesTo_S8x1024_S8_d1 h_S_ : (Proc.devRef .tc main_while0b_v236 : DevRef τ sig).ty.Contents (Elt F)) = Cert.ReferenceIdeal.Step.b117 j s := by
  unfold Cert.ReferenceIdeal.Step.b117
  rw [← al_115 h, ← al_116 h]
  try rfl
set_option maxRecDepth 8192 in
theorem al_118 (h : Holds V0 s j) : (broadcastInDim S8x1 ![0] bcast_S8_S8x1_0 (Host.reduceAdd (mulf (res_main_while0b_v234 V0) (res_main_while0b_v234 V0)) (constant S_ .f32 0x00000000#32) reducesTo_S8x1024_S8_d1 h_S_) : (Proc.devRef .tc main_while0b_v237 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (constant S_ .f32 0x44800000#32 : (Proc.devRef .tc main_while0b_cst_48 : DevRef τ sig).ty.Contents (Elt F)) = Cert.ReferenceIdeal.Step.b119 j s := by
  unfold Cert.ReferenceIdeal.Step.b119
  rfl
set_option maxRecDepth 8192 in
theorem al_120 (h : Holds V0 s j) : (broadcastInDim S8x1 ![] bcast_S_S8x1 (constant S_ .f32 0x44800000#32) : (Proc.devRef .tc main_while0b_v238 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32)) : (Proc.devRef .tc main_while0b_v239 : DevRef τ sig).ty.Contents (Elt F)) = Cert.ReferenceIdeal.Step.b121 j s := by
  unfold Cert.ReferenceIdeal.Step.b121
  rw [← al_118 h, ← al_120 h]
  try rfl
set_option maxRecDepth 8192 in
theorem al_122 (h : Holds V0 s j) : (constant S_ .f32 0x358637BD#32 : (Proc.devRef .tc main_while0b_cst_49 : DevRef τ sig).ty.Contents (Elt F)) = Cert.ReferenceIdeal.Step.b122 j s := by
  unfold Cert.ReferenceIdeal.Step.b122
  rfl
set_option maxRecDepth 8192 in
theorem al_123 (h : Holds V0 s j) : (broadcastInDim S8x1 ![] bcast_S_S8x1 (constant S_ .f32 0x358637BD#32) : (Proc.devRef .tc main_while0b_v240 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : (Proc.devRef .tc main_while0b_v241 : DevRef τ sig).ty.Contents (Elt F)) = Cert.ReferenceIdeal.Step.b124 j s := by
  unfold Cert.ReferenceIdeal.Step.b124
  rw [← al_121 h, ← al_123 h]
  try rfl
set_option maxRecDepth 8192 in
theorem al_125 (h : Holds V0 s j) : (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : (Proc.devRef .tc main_while0b_v242 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : (Proc.devRef .tc main_while0b_v243 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (mulf (res_main_while0b_v234 V0) (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : (Proc.devRef .tc main_while0b_v244 : DevRef τ sig).ty.Contents (Elt F)) = Cert.ReferenceIdeal.Step.b127 j s := by
  unfold Cert.ReferenceIdeal.Step.b127
  rw [← al_114 h, ← al_126 h]
  try rfl
set_option maxRecDepth 8192 in
theorem al_128 (h : Holds V0 s j) : (broadcastInDim S1x1024 ![1] bcast_S1024_S1x1024_1 (V0 (Proc.devRef .tc main_v149_15)) : (Proc.devRef .tc main_while0b_v245 : DevRef τ sig).ty.Contents (Elt F)) = Cert.ReferenceIdeal.Step.b128 j s := by
  unfold Cert.ReferenceIdeal.Step.b128
  rw [h.f_15]
  try rfl
set_option maxRecDepth 8192 in
theorem al_129 (h : Holds V0 s j) : (broadcastInDim S8x1024 ![0, 1] bcast_S1x1024_S8x1024_0_1 (broadcastInDim S1x1024 ![1] bcast_S1024_S1x1024_1 (V0 (Proc.devRef .tc main_v149_15))) : (Proc.devRef .tc main_while0b_v246 : DevRef τ sig).ty.Contents (Elt F)) = Cert.ReferenceIdeal.Step.b129 j s := by
  unfold Cert.ReferenceIdeal.Step.b129
  rw [← al_128 h]
  try rfl
set_option maxRecDepth 8192 in
theorem al_130 (h : Holds V0 s j) : (mulf (mulf (res_main_while0b_v234 V0) (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (V0 (Proc.devRef .tc main_v149_15)))) : (Proc.devRef .tc main_while0b_v247 : DevRef τ sig).ty.Contents (Elt F)) = Cert.ReferenceIdeal.Step.b130 j s := by
  unfold Cert.ReferenceIdeal.Step.b130
  rw [← al_127 h, ← al_129 h]
  try rfl
set_option maxRecDepth 8192 in
theorem al_131 (h : Holds V0 s j) : (broadcastInDim S1x8x1024 ![1, 2] bcast_S8x1024_S1x8x1024_1_2 (mulf (mulf (res_main_while0b_v234 V0) (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (V0 (Proc.devRef .tc main_v149_15))))) : (Proc.devRef .tc main_while0b_call10_v0 : DevRef τ sig).ty.Contents (Elt F)) = Cert.ReferenceIdeal.Step.b131 j s := by
  unfold Cert.ReferenceIdeal.Step.b131
  rw [← al_130 h]
  try rfl
set_option maxRecDepth 8192 in
theorem al_132 (h : Holds V0 s j) : (constantI S_ 32 0#32 : (Proc.devRef .tc main_while0b_call10_c : DevRef τ sig).ty.Contents (Elt F)) = Cert.ReferenceIdeal.Step.b132 j s := by
  unfold Cert.ReferenceIdeal.Step.b132
  rfl
set_option maxRecDepth 8192 in
theorem al_133 (h : Holds V0 s j) : (constantI S_ 32 0#32 : (Proc.devRef .tc main_while0b_call10_c_0 : DevRef τ sig).ty.Contents (Elt F)) = Cert.ReferenceIdeal.Step.b133 j s := by
  unfold Cert.ReferenceIdeal.Step.b133
  rfl
set_option maxRecDepth 8192 in
theorem al_134 (h : Holds V0 s j) : (Host.dynamicUpdateSlice (V0 (Proc.devRef .tc main_v149_18)) (broadcastInDim S1x8x1024 ![1, 2] bcast_S8x1024_S1x8x1024_1_2 (mulf (mulf (res_main_while0b_v234 V0) (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (V0 (Proc.devRef .tc main_v149_15)))))) (fun k => (((![V0 (Proc.devRef .tc main_v149_16), constantI S_ 32 0#32, constantI S_ 32 0#32] : Fin 3 → (⟨S_, .i32⟩ : BufTy).Contents (Elt F))) k (Shape.Idx.first h_S_)).toInt) updateFits_S2048x8x1024_S1x8x1024 : (Proc.devRef .tc main_while0b_v248 : DevRef τ sig).ty.Contents (Elt F)) = Cert.ReferenceIdeal.Step.b134 j s := by
  unfold Cert.ReferenceIdeal.Step.b134
  rw [← al_131 h, ← al_132 h, ← al_133 h, h.f_18, h.n_16]
  try rfl

/-! One trip's step of the carried values is `step`, field by field; a counter steps to the next number. -/

theorem step_17 (h : Holds V0 s j) : step_main_v149_17 V0 = (step j s).main_v149_17 := by
  unfold step_main_v149_17 Cert.ReferenceIdeal.Step.step
  show id (res_main_while0b_v157 V0) = _
  rw [al_21 h]
  try rfl
theorem step_18 (h : Holds V0 s j) : step_main_v149_18 V0 = (step j s).main_v149_18 := by
  unfold step_main_v149_18 Cert.ReferenceIdeal.Step.step
  show id (Host.dynamicUpdateSlice (V0 (Proc.devRef .tc main_v149_18)) (broadcastInDim S1x8x1024 ![1, 2] bcast_S8x1024_S1x8x1024_1_2 (mulf (mulf (res_main_while0b_v234 V0) (broadcastInDim S8x1024 ![0, 1] bcast_S8x1_S8x1024_0_1 (Host.rsqrt (addf (Host.divf (broadcastInDim S8x1 ![0] bcast_S8_S8x1_0 (Host.reduceAdd (mulf (res_main_while0b_v234 V0) (res_main_while0b_v234 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (V0 (Proc.devRef .tc main_v149_15)))))) (fun k => (((![V0 (Proc.devRef .tc main_v149_16), constantI S_ 32 0#32, constantI S_ 32 0#32] : Fin 3 → (⟨S_, .i32⟩ : BufTy).Contents (Elt F))) k (Shape.Idx.first h_S_)).toInt) updateFits_S2048x8x1024_S1x8x1024) = _
  refine Eq.trans (al_134 h) ?_
  try rfl
theorem step_16 (h : Holds V0 s j) : step_main_v149_16 V0 = constantI S_ 32 (BitVec.ofNat 32 (j + 1)) := by
  unfold step_main_v149_16
  rw [h.n_16]
  funext i
  show BitVec.ofNat 32 j + 1#32 = BitVec.ofNat 32 (j + 1)
  simp only [BitVec.ofNat_add]

set_option maxRecDepth 8192 in
theorem out_main_v150_holds (h : Holds V0 s j) : out_main_v150 V0 = Cert.ReferenceIdeal.Step.R_main_v150 s := by
  unfold out_main_v150 Cert.ReferenceIdeal.Step.R_main_v150
  rw [h.f_18]
  try rfl

/-- One trip keeps the valuation holding: `step` of the state, the same set-up values, the next number. -/
theorem holds_step (h : Holds V0 s j) : Holds (STEP V0) (step j s) (j + 1) where
  f_17 := (STEP_main_v149_17 V0).trans (step_17 h)
  f_18 := (STEP_main_v149_18 V0).trans (step_18 h)
  n_16 := (STEP_main_v149_16 V0).trans (step_16 h)
  f_0 := (STEP_main_v149_0 V0).trans h.f_0
  f_1 := (STEP_main_v149_1 V0).trans h.f_1
  f_2 := (STEP_main_v149_2 V0).trans h.f_2
  f_3 := (STEP_main_v149_3 V0).trans h.f_3
  f_4 := (STEP_main_v149_4 V0).trans h.f_4
  f_5 := (STEP_main_v149_5 V0).trans h.f_5
  f_6 := (STEP_main_v149_6 V0).trans h.f_6
  f_7 := (STEP_main_v149_7 V0).trans h.f_7
  f_8 := (STEP_main_v149_8 V0).trans h.f_8
  f_9 := (STEP_main_v149_9 V0).trans h.f_9
  f_10 := (STEP_main_v149_10 V0).trans h.f_10
  f_11 := (STEP_main_v149_11 V0).trans h.f_11
  f_12 := (STEP_main_v149_12 V0).trans h.f_12
  f_13 := (STEP_main_v149_13 V0).trans h.f_13
  f_14 := (STEP_main_v149_14 V0).trans h.f_14
  f_15 := (STEP_main_v149_15 V0).trans h.f_15

/-- The state the first trip starts from, of the memory the run starts from. -/
abbrev initState (m : (ℓ : Loc nD τ sig) → Buf (Elt F) ℓ) (c : Dev nD) : State F :=
  init (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 1700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v150) = Cert.ReferenceIdeal.Step.R_main_v150 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    have hk := holds_iter m c (it c) (h0 c) (hs c) 2048
    ⟨(h c).1.trans (out_main_v150_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

end Cert.Proof.RefLoop

end
-- ==== Proof.Ref1.lean ====
/-
  What the reference computes before its loop, read at an index: the coefficients of the recurrence and the two branches are
  the layer's.
-/
module

public import proofs.«01_k».proof.Proof.Gen.ReferenceIdeal.Step
public import proofs.«01_k».proof.Proof.Spec

@[expose] public section

set_option maxRecDepth 16384

noncomputable section

namespace Cert.Proof.Ref

open Idealize.ShloMosaic Cert.ReferenceIdeal Cert.ReferenceIdeal.Step

variable (I : Inp) (b : Fin 8) (t : Fin 2048)

/-- The exponential of a doubled number is the square. -/
theorem exp_two (x : EReal) : Ideal.exp (Ideal.ofBits .f32 0x40000000#32 * x) = Ideal.exp x * Ideal.exp x := by
  have h2 : Ideal.ofBits .f32 0x40000000#32 = ((2 : ℝ) : EReal) := by
    simp [Ideal.ofBits, Ideal.ieee, -EReal.coe_mul]; norm_num
  rw [h2]
  induction x with
  | bot =>
    rw [EReal.coe_mul_bot_of_pos (by norm_num), show Ideal.exp ⊥ = 0 from rfl, mul_zero]
  | top =>
    rw [EReal.coe_mul_top_of_pos (by norm_num), show Ideal.exp ⊤ = ⊤ from rfl, EReal.top_mul_top]
  | coe r =>
    rw [← EReal.coe_mul, show ∀ q : ℝ, Ideal.exp (q : EReal) = ((Real.exp q : ℝ) : EReal) from fun _ => rfl,
      show Ideal.exp (r : EReal) = ((Real.exp r : ℝ) : EReal) from rfl, ← EReal.coe_mul, ← Real.exp_add, two_mul]

theorem neg_sub_one (e : EReal) : -(e - 1) = 1 - e := by
  induction e with
  | bot => rfl
  | top => rfl
  | coe r =>
    rw [← EReal.coe_one, ← EReal.coe_sub, ← EReal.coe_neg, ← EReal.coe_sub]
    congr 1; ring

theorem h_eq (d : Fin 1024) : A_main_v27 (F := Ideal) I.x I.md I.n1g I.win I.lcw I.lcb I.gaw I.gab I.gxw I.gxb I.ap I.scw (ix3 b t d) = I.h b t d := by
  pointwise [A_main_v27, A_main_v24, A_main_v19, A_main_v16, A_main_v15, A_main_v14, A_main_v13, A_main_v11, A_main_v9, A_main_v8, A_main_v7, A_main_v18, A_main_v17, A_main_v6, A_main_v23, A_main_v22, A_main_v20, A_main_v1, A_main_v26, A_main_v25, A_main_v0, K_main_v21, K_main_cst_2, K_main_v12, K_main_cst_1, K_main_v10, K_main_cst_0, K_main_cst]
  unfold Inp.h rms Inp.mod
  simp only [Fin.val_zero, Fin.val_one, zero_mul, one_mul, zero_add]

theorem u_eq (n : Fin 2560) : A_main_v29 (F := Ideal) I.x I.md I.n1g I.win I.lcw I.lcb I.gaw I.gab I.gxw I.gxb I.ap I.scw (ix3 b t n) = I.u b t n := by
  pointwise [A_main_v28, A_main_v29]
  simp only [h_eq]
  rfl

theorem ulx_eq (c : Fin 512) : A_main_v30 (F := Ideal) I.x I.md I.n1g I.win I.lcw I.lcb I.gaw I.gab I.gxw I.gxb I.ap I.scw (ix3 b t c) = I.ulx b t c := by
  pointwise [A_main_v30]
  simp only [u_eq]
  rfl

theorem uly_eq (c : Fin 512) : A_main_v31 (F := Ideal) I.x I.md I.n1g I.win I.lcw I.lcb I.gaw I.gab I.gxw I.gxb I.ap I.scw (ix3 b t c) = I.uly b t c := by
  pointwise [A_main_v31]
  simp only [u_eq]
  rfl

theorem ub_eq (c : Fin 512) : A_main_v32 (F := Ideal) I.x I.md I.n1g I.win I.lcw I.lcb I.gaw I.gab I.gxw I.gxb I.ap I.scw (ix3 b t c) = I.ub b t c := by
  pointwise [A_main_v32]
  simp only [u_eq]
  rfl

theorem cv_eq (c : Fin 512) : A_main_v118 (F := Ideal) I.x I.md I.n1g I.win I.lcw I.lcb I.gaw I.gab I.gxw I.gxb I.ap I.scw (ix3 b t c) = I.cv b t c := by
  pointwise [A_main_v118, A_main_v33, A_main_v34]
  simp only [u_eq]
  rfl

/-- A row over time padded with `j` zeros before its start, read `k` places on: the value `j - k` steps back. -/
theorem back_pad (f : Fin 2048 → EReal) (z : EReal) (hz : z = 0) (j k : ℕ) (hk : k ≤ j) :
    (if h : j ≤ k + t.val ∧ k + t.val - j < 2048 then f ⟨k + t.val - j, h.2⟩ else z) = Inp.back f t (j - k) := by
  unfold Inp.back
  by_cases h : j ≤ k + t.val
  · have h' : j - k ≤ t.val := by omega
    rw [dif_pos ⟨h, by omega⟩, if_pos h']
    congr 2; omega
  · rw [dif_neg (fun h' => h h'.1), if_neg (by omega), hz]

theorem back_pad0 (f : Fin 2048 → EReal) (z : EReal) (hz : z = 0) (j : ℕ) :
    (if h : j ≤ t.val ∧ t.val - j < 2048 then f ⟨t.val - j, h.2⟩ else z) = Inp.back f t j := by
  unfold Inp.back
  by_cases h : j ≤ t.val
  · rw [dif_pos ⟨h, by omega⟩, if_pos h]
  · rw [dif_neg (fun h' => h h'.1), if_neg h, hz]

theorem zpad : (FloatOps.sitofp .f32 (0#32) : Ideal .f32) = 0 := by
  show (((0#32 : BitVec 32).toInt : ℝ) : EReal) = 0
  simp

theorem xl_eq (c : Fin 512) : A_main_v67 (F := Ideal) I.x I.md I.n1g I.win I.lcw I.lcb I.gaw I.gab I.gxw I.gxb I.ap I.scw (ix3 b t c) = I.xl b t c := by
  pointwise [K_main_call0_v0, K_main_c, A_main_v35, A_main_v36, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67]
  simp only [ulx_eq]
  unfold Inp.xl
  rw [← back_pad0 t (fun s => I.ulx b s c) _ zpad 3, ← back_pad t (fun s => I.ulx b s c) _ zpad 3 1 (by omega),
    ← back_pad t (fun s => I.ulx b s c) _ zpad 3 2 (by omega)]

theorem r_eq (c : Fin 512) : A_main_v85 (F := Ideal) I.x I.md I.n1g I.win I.lcw I.lcb I.gaw I.gab I.gxw I.gxb I.ap I.scw (ix3 b t c) = I.gate I.gaw I.gab b t c := by
  pointwise [A_main_v68, A_main_v69, A_main_v70, A_main_v71, A_main_v72, A_main_v73, A_main_v74, A_main_v75, A_main_v76, A_main_v77, A_main_v78, A_main_v79, A_main_v80, A_main_v81, A_main_v83, A_main_v85, K_main_v82, K_main_cst_3, K_main_v84, K_main_cst_4]
  simp only [xl_eq]
  unfold Inp.gate sigm
  simp only [mul_comm (I.xl _ _ _)]
  rfl

theorem i_eq (c : Fin 512) : A_main_v97 (F := Ideal) I.x I.md I.n1g I.win I.lcw I.lcb I.gaw I.gab I.gxw I.gxb I.ap I.scw (ix3 b t c) = I.gate I.gxw I.gxb b t c := by
  pointwise [A_main_v70, A_main_v71, A_main_v73, A_main_v86, A_main_v87, A_main_v88, A_main_v89, A_main_v90, A_main_v91, A_main_v92, A_main_v93, A_main_v95, A_main_v97, K_main_v94, K_main_cst_5, K_main_v96, K_main_cst_6]
  simp only [xl_eq]
  unfold Inp.gate sigm
  simp only [mul_comm (I.xl _ _ _)]
  rfl

theorem la_eq (c : Fin 512) : A_main_v103 (F := Ideal) I.x I.md I.n1g I.win I.lcw I.lcb I.gaw I.gab I.gxw I.gxb I.ap I.scw (ix3 b t c) = I.la b t c := by
  pointwise [A_main_v99, A_main_call1_v1, A_main_call1_v3, A_main_call1_v4, A_main_call1_v6, A_main_call1_v7, A_main_call1_v8, A_main_call1_v9, A_main_call1_v10, A_main_call1_v11, A_main_v100, A_main_v101, A_main_v102, A_main_v103, A_main_v72, K_main_v98, K_main_cst_7, K_main_call1_v0, K_main_call1_v2, K_main_call1_v5, K_main_call1_cst]
  simp only [r_eq, ne_eq, not_true_eq_false, if_false]
  rfl

theorem a_eq (c : Fin 512) : A_main_v115 (F := Ideal) I.x I.md I.n1g I.win I.lcw I.lcb I.gaw I.gab I.gxw I.gxb I.ap I.scw (ix3 b t c) = I.a b t c := by
  pointwise [A_main_v115]
  rw [la_eq]
  rfl

/-- The flag of the first time step. -/
theorem first_flag (x y : EReal) :
    Scalar.select (IntOp.cmpi .eq (BitVec.ofNat 32 t.val) 0#32) x y = if t.val = 0 then x else y := by
  by_cases h : t.val = 0
  · simp [h, Scalar.select, IntOp.cmpi]
  · have h' : (BitVec.ofNat 32 t.val == 0#32) = false := by
      rw [beq_eq_false_iff_ne]
      intro e
      have := congrArg BitVec.toNat e
      simp at this
      omega
    simp [h, h', Scalar.select, IntOp.cmpi]

theorem bx_eq (c : Fin 512) : A_main_v117 (F := Ideal) I.x I.md I.n1g I.win I.lcw I.lcb I.gaw I.gab I.gxw I.gxb I.ap I.scw (ix3 b t c) = I.bx b t c := by
  pointwise [A_main_v105, A_main_v106, A_main_v107, A_main_v108, A_main_v114, A_main_v116, A_main_v117, K_main_v104, K_main_cst_8, K_main_v109, K_main_c_9, K_main_v110, K_main_v111, K_main_v112, K_main_cst_10, K_main_v113, K_main_call2_v0]
  rw [first_flag, neg_sub_one, exp_two, la_eq, xl_eq, i_eq]
  rfl

theorem yc_eq (c : Fin 512) : A_main_v141 (F := Ideal) I.x I.md I.n1g I.win I.lcw I.lcb I.gaw I.gab I.gxw I.gxb I.ap I.scw (ix3 b t c) = I.yc b t c := by
  pointwise [A_main_v119, A_main_v120, A_main_v121, A_main_v122, A_main_v123, A_main_v124, A_main_v125, A_main_v126, A_main_v127, A_main_v128, A_main_v129, A_main_v130, A_main_v131, A_main_v132, A_main_v133, A_main_v134, A_main_v135, A_main_v136, A_main_v137, A_main_v138, A_main_v139, A_main_v140, A_main_v141, K_main_call3_v0, K_main_c_11]
  simp only [cv_eq, ub_eq]
  unfold Inp.yc
  rw [← back_pad0 t (fun s => I.cv b s c) _ zpad 2, ← back_pad t (fun s => I.cv b s c) _ zpad 2 1 (by omega)]

theorem A143 (c : Fin 512) : A_main_v143 (F := Ideal) I.x I.md I.n1g I.win I.lcw I.lcb I.gaw I.gab I.gxw I.gxb I.ap I.scw (ix3 t b c) = I.a b t c := by
  pointwise [A_main_v143]
  exact a_eq I b t c

theorem A144 (c : Fin 512) : A_main_v144 (F := Ideal) I.x I.md I.n1g I.win I.lcw I.lcb I.gaw I.gab I.gxw I.gxb I.ap I.scw (ix3 t b c) = I.bx b t c := by
  pointwise [A_main_v144]
  exact bx_eq I b t c

theorem A145 (c : Fin 512) : A_main_v145 (F := Ideal) I.x I.md I.n1g I.win I.lcw I.lcb I.gaw I.gab I.gxw I.gxb I.ap I.scw (ix3 t b c) = I.uly b t c := by
  pointwise [A_main_v145]
  exact uly_eq I b t c

theorem A146 (c : Fin 512) : A_main_v146 (F := Ideal) I.x I.md I.n1g I.win I.lcw I.lcb I.gaw I.gab I.gxw I.gxb I.ap I.scw (ix3 t b c) = I.yc b t c := by
  pointwise [A_main_v146]
  exact yc_eq I b t c

theorem A147 (d : Fin 1024) : A_main_v147 (F := Ideal) I.x I.md I.n1g I.win I.lcw I.lcb I.gaw I.gab I.gxw I.gxb I.ap I.scw (ix3 t b d) = I.x (ix3 b t d) := by
  pointwise [A_main_v147]

end Cert.Proof.Ref

end
-- ==== Proof.Ref2.lean ====
/-
  One trip of the reference's loop, read at an index: with the coefficients in place and the state at the layer's, the trip
  stores the layer's result of its time step.
-/
module

public import proofs.«01_k».proof.Proof.Ref1

@[expose] public section

set_option maxRecDepth 16384

noncomputable section

namespace Cert.Proof.Ref

open Idealize.ShloMosaic Cert.ReferenceIdeal Cert.ReferenceIdeal.Step

/-- A trip's start along time is the trip's number. -/
theorem start_toInt (t : Fin 2048) : (BitVec.ofNat 32 t.val).toInt = (t.val : Int) := by
  have h := t.isLt
  rw [BitVec.toInt_eq_toNat_cond, BitVec.toNat_ofNat, Nat.mod_eq_of_lt (by omega), if_pos (by omega)]

theorem clamp5_0 (t : Fin 2048) (hr : S1x8x512.rank = S2048x8x512.rank) :
    Host.clampedStart S2048x8x512 S1x8x512 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 0 = t.val := by
  refine Host.clampedStart_of_le _ _ _ _ ?_ ?_
  · exact start_toInt t
  · show t.val + 1 ≤ 2048; omega

theorem clamp5_1 (t : Fin 2048) (hr : S1x8x512.rank = S2048x8x512.rank) :
    Host.clampedStart S2048x8x512 S1x8x512 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 1 = 0 := by
  refine Host.clampedStart_of_le _ _ _ _ ?_ ?_
  · rfl
  · exact Nat.le_refl _

theorem clamp5_2 (t : Fin 2048) (hr : S1x8x512.rank = S2048x8x512.rank) :
    Host.clampedStart S2048x8x512 S1x8x512 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 2 = 0 := by
  refine Host.clampedStart_of_le _ _ _ _ ?_ ?_
  · rfl
  · exact Nat.le_refl _

theorem clamp10_0 (t : Fin 2048) (hr : S1x8x1024.rank = S2048x8x1024.rank) :
    Host.clampedStart S2048x8x1024 S1x8x1024 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 0 = t.val := by
  refine Host.clampedStart_of_le _ _ _ _ ?_ ?_
  · exact start_toInt t
  · show t.val + 1 ≤ 2048; omega

theorem clamp10_1 (t : Fin 2048) (hr : S1x8x1024.rank = S2048x8x1024.rank) :
    Host.clampedStart S2048x8x1024 S1x8x1024 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 1 = 0 := by
  refine Host.clampedStart_of_le _ _ _ _ ?_ ?_
  · rfl
  · exact Nat.le_refl _

theorem clamp10_2 (t : Fin 2048) (hr : S1x8x1024.rank = S2048x8x1024.rank) :
    Host.clampedStart S2048x8x1024 S1x8x1024 hr (fun k => BitVec.toInt
      ((![constantI S_ 32 (BitVec.ofNat 32 t.val), constantI S_ 32 0#32, constantI S_ 32 0#32] : Fin 3 → (⟨S_, .i32⟩ : BufTy).Contents (Elt Ideal)) k
        (Shape.Idx.first Gen.h_S_))) 2 = 0 := by
  refine Host.clampedStart_of_le _ _ _ _ ?_ ?_
  · rfl
  · exact Nat.le_refl _

/-- A state whose constants are the layer's. -/
structure Consts (I : Inp) (s : State Ideal) : Prop where
  a : ∀ (t : Fin 2048) (b : Fin 8) (c : Fin 512), s.main_v149_0 (ix3 t b c) = I.a b t c
  bx : ∀ (t : Fin 2048) (b : Fin 8) (c : Fin 512), s.main_v149_1 (ix3 t b c) = I.bx b t c
  uly : ∀ (t : Fin 2048) (b : Fin 8) (c : Fin 512), s.main_v149_2 (ix3 t b c) = I.uly b t c
  yc : ∀ (t : Fin 2048) (b : Fin 8) (c : Fin 512), s.main_v149_3 (ix3 t b c) = I.yc b t c
  x : ∀ (t : Fin 2048) (b : Fin 8) (d : Fin 1024), s.main_v149_4 (ix3 t b d) = I.x (ix3 b t d)
  lg : s.main_v149_5 = I.lg
  cg : s.main_v149_6 = I.cg
  wout : s.main_v149_7 = I.wout
  gate1 : ∀ (b : Fin 8) (d : Fin 1024), s.main_v149_8 (ix2 b d) = I.mod 2 b d
  n2g : s.main_v149_9 = I.n2g
  scale2 : ∀ (b : Fin 8) (d : Fin 1024), s.main_v149_10 (ix2 b d) = I.mod 4 b d
  shift2 : ∀ (b : Fin 8) (d : Fin 1024), s.main_v149_11 (ix2 b d) = I.mod 3 b d
  w1 : s.main_v149_12 = I.w1
  w2 : s.main_v149_13 = I.w2
  gate2 : ∀ (b : Fin 8) (d : Fin 1024), s.main_v149_14 (ix2 b d) = I.mod 5 b d
  fg : s.main_v149_15 = I.fg

variable (I : Inp) (s : State Ideal) (C : Consts I s) (b : Fin 8) (t : Fin 2048)

include C

theorem b3_eq (c : Fin 512) : b3 t.val s (ix2 b c) = I.a b t c := by
  pointwise [b3, b2, b0, b1]
  simp only [clamp5_0, clamp5_1, clamp5_2, zero_add]
  exact C.a t b c

theorem b7_eq (c : Fin 512) : b7 t.val s (ix2 b c) = I.bx b t c := by
  pointwise [b7, b6, b4, b5]
  simp only [clamp5_0, clamp5_1, clamp5_2, zero_add]
  exact C.bx t b c

theorem b11_eq (c : Fin 512) : b11 t.val s (ix2 b c) = I.uly b t c := by
  pointwise [b11, b10, b8, b9]
  simp only [clamp5_0, clamp5_1, clamp5_2, zero_add]
  exact C.uly t b c

theorem b15_eq (c : Fin 512) : b15 t.val s (ix2 b c) = I.yc b t c := by
  pointwise [b15, b14, b12, b13]
  simp only [clamp5_0, clamp5_1, clamp5_2, zero_add]
  exact C.yc t b c

theorem b19_eq (d : Fin 1024) : b19 t.val s (ix2 b d) = I.x (ix3 b t d) := by
  pointwise [b19, b18, b16, b17]
  simp only [clamp10_0, clamp10_1, clamp10_2, zero_add]
  exact C.x t b d

variable (hst : ∀ (b : Fin 8) (c : Fin 512), s.main_v149_17 (ix2 b c) = I.hs b c t.val)

include hst

theorem b21_eq (c : Fin 512) : b21 t.val s (ix2 b c) = I.hs b c (t.val + 1) := by
  pointwise [b21, b20]
  rw [b3_eq I s C, b7_eq I s C, hst, Inp.hs, dif_pos t.isLt]

theorem b39_eq (c : Fin 512) : b39 t.val s (ix2 b c) = I.yl b t c := by
  pointwise [b22, b23, b24, b25, b26, b27, b28, b29, b30, b31, b32, b33, b34, b35, b36, b37, b38, b39]
  rw [b11_eq I s C, b21_eq I s C b t hst]
  rfl

theorem b78_eq (k : Fin 1024) : b78 t.val s (ix2 b k) = I.mix b t k := by
  pointwise [b40, b41, b42, b43, b44, b45, b46, b47, b48, b49, b50, b51, b52, b53, b54, b55, b56, b57, b58, b59, b60, b61, b62, b63, b64, b65, b66, b67, b68, b69, b70, b71, b72, b73, b74, b75, b76, b77, b78]
  simp only [b39_eq I s C b t hst, b15_eq I s C b t, C.lg, C.cg]
  unfold Inp.mix hrms lane
  simp only [Nat.div_add_mod']

theorem b82_eq (d : Fin 1024) : b82 t.val s (ix2 b d) = I.x1 b t d := by
  pointwise [b79, b80, b81, b82]
  simp only [b78_eq I s C b t hst, b19_eq I s C b t, C.gate1, C.wout]
  rfl

theorem b104_eq (d : Fin 1024) : b104 t.val s (ix2 b d) = I.h2 b t d := by
  pointwise [b83, b84, b85, b86, b87, b88, b89, b90, b91, b92, b93, b94, b95, b96, b97, b98, b99, b100, b101, b102, b103, b104]
  simp only [b82_eq I s C b t hst, C.n2g, C.scale2, C.shift2]
  rfl

theorem b110_eq (f : Fin 4096) : b110 t.val s (ix2 b f) = I.hid b t f := by
  pointwise [b105, b106, b107, b108, b109, b110]
  simp only [b104_eq I s C b t hst, C.w1]
  rfl

theorem b114_eq (d : Fin 1024) : b114 t.val s (ix2 b d) = I.x2 b t d := by
  pointwise [b111, b112, b113, b114]
  simp only [b110_eq I s C b t hst, b82_eq I s C b t hst, C.w2, C.gate2]
  rfl

theorem b130_eq (d : Fin 1024) : b130 t.val s (ix2 b d) = I.out b t d := by
  pointwise [b115, b116, b117, b118, b119, b120, b121, b122, b123, b124, b125, b126, b127, b128, b129, b130]
  simp only [b114_eq I s C b t hst, C.fg]
  rfl

/-- The trip stores its time step's row and leaves the others. -/
theorem b134_eq (r : Fin 2048) (d : Fin 1024) :
    b134 t.val s (ix3 r b d) = if r = t then I.out b t d else s.main_v149_18 (ix3 r b d) := by
  pointwise [b134, b131, b132, b133]
  simp only [clamp10_0, clamp10_1, clamp10_2, zero_le, and_true, Nat.sub_zero]
  by_cases h : r = t
  · subst h
    rw [dif_pos ⟨le_refl _, by omega⟩, if_pos rfl]
    exact b130_eq I s C b r hst d
  · rw [dif_neg (fun h' => h (Fin.ext (by omega))), if_neg h]

end Cert.Proof.Ref

end
-- ==== Proof.Ref3.lean ====
/-
  The reference's loop: after `n` trips the state holds the recurrence after `n` steps and the first `n` rows of the result,
  so the run ends with the layer's result.
-/
module

public import proofs.«01_k».proof.Proof.RefLoop
public import proofs.«01_k».proof.Proof.Ref2

@[expose] public section

set_option maxRecDepth 16384

noncomputable section

namespace Cert.Proof.Ref

open Idealize.ShloMosaic Idealize.ShloMosaic.TcCoe Idealize.SL.Sem
open Cert.ReferenceIdeal Cert.ReferenceIdeal.Step

/-- The states the loop goes through. -/
def iter (I : Inp) : ℕ → State Ideal
  | 0 => init (F := Ideal) I.lg I.cg I.wout I.n2g I.w1 I.w2 I.fg I.x I.md I.n1g I.win I.lcw I.lcb I.gaw I.gab I.gxw I.gxb I.ap I.scw
  | n + 1 => step n (iter I n)

variable (I : Inp)

theorem consts0 : Consts I (iter I 0) where
  a := fun t b c => A143 I b t c
  bx := fun t b c => A144 I b t c
  uly := fun t b c => A145 I b t c
  yc := fun t b c => A146 I b t c
  x := fun t b d => A147 I b t d
  lg := rfl
  cg := rfl
  wout := rfl
  gate1 := fun b d => by
    show A_main_v2 (F := Ideal) I.x I.md I.n1g I.win I.lcw I.lcb I.gaw I.gab I.gxw I.gxb I.ap I.scw (ix2 b d) = _
    pointwise [A_main_v2]
    rfl
  n2g := rfl
  scale2 := fun b d => by
    show A_main_v4 (F := Ideal) I.x I.md I.n1g I.win I.lcw I.lcb I.gaw I.gab I.gxw I.gxb I.ap I.scw (ix2 b d) = _
    pointwise [A_main_v4]
    rfl
  shift2 := fun b d => by
    show A_main_v3 (F := Ideal) I.x I.md I.n1g I.win I.lcw I.lcb I.gaw I.gab I.gxw I.gxb I.ap I.scw (ix2 b d) = _
    pointwise [A_main_v3]
    rfl
  w1 := rfl
  w2 := rfl
  gate2 := fun b d => by
    show A_main_v5 (F := Ideal) I.x I.md I.n1g I.win I.lcw I.lcb I.gaw I.gab I.gxw I.gxb I.ap I.scw (ix2 b d) = _
    pointwise [A_main_v5]
    rfl
  fg := rfl

theorem consts (n : ℕ) : Consts I (iter I n) := by
  induction n with
  | zero => exact consts0 I
  | succ n ih => exact ⟨ih.a, ih.bx, ih.uly, ih.yc, ih.x, ih.lg, ih.cg, ih.wout, ih.gate1, ih.n2g, ih.scale2, ih.shift2,
      ih.w1, ih.w2, ih.gate2, ih.fg⟩

/-- The recurrence's state after `n` trips. -/
theorem state_eq (n : ℕ) (hn : n ≤ 2048) (b : Fin 8) (c : Fin 512) : (iter I n).main_v149_17 (ix2 b c) = I.hs b c n := by
  induction n generalizing b c with
  | zero =>
    show K_main_v142 (F := Ideal) (ix2 b c) = _
    pointwise [K_main_v142, K_main_cst_12]
    rfl
  | succ n ih =>
    exact b21_eq I (iter I n) (consts I n) b ⟨n, by omega⟩ (fun b c => ih (by omega) b c) c

/-- The rows stored after `n` trips. -/
theorem rows_eq (n : ℕ) (hn : n ≤ 2048) (r : Fin 2048) (hr : r.val < n) (b : Fin 8) (d : Fin 1024) :
    (iter I n).main_v149_18 (ix3 r b d) = I.out b r d := by
  induction n with
  | zero => omega
  | succ n ih =>
    have e := b134_eq I (iter I n) (consts I n) b ⟨n, by omega⟩ (fun b c => state_eq I n (by omega) b c) r d
    refine (show _ = b134 n (iter I n) (ix3 r b d) from rfl).trans (e.trans ?_)
    by_cases h : r = ⟨n, by omega⟩
    · rw [if_pos h, h]
    · rw [if_neg h]
      exact ih (by omega) (lt_of_le_of_ne (by omega) fun h' => h (Fin.ext h'))

/-- The result after the loop. -/
theorem result_eq (b : Fin 8) (t : Fin 2048) (d : Fin 1024) : R_main_v150 (iter I 2048) (ix3 b t d) = I.out b t d := by
  pointwise [R_main_v150]
  exact rows_eq I 2048 (le_refl _) t t.isLt b d

/-- The layer's arrays as a start memory holds them. -/
def inp (m : (ℓ : Loc nD τ sig) → Buf (Elt Ideal) ℓ) (c : Dev nD) : Inp where
    x := m ((c.tc : Thread nD τ).loc main_arg0)
    md := m ((c.tc : Thread nD τ).loc main_arg1)
    n1g := m ((c.tc : Thread nD τ).loc main_arg2)
    win := m ((c.tc : Thread nD τ).loc main_arg3)
    lcw := m ((c.tc : Thread nD τ).loc main_arg4)
    lcb := m ((c.tc : Thread nD τ).loc main_arg5)
    gaw := m ((c.tc : Thread nD τ).loc main_arg6)
    gab := m ((c.tc : Thread nD τ).loc main_arg7)
    gxw := m ((c.tc : Thread nD τ).loc main_arg8)
    gxb := m ((c.tc : Thread nD τ).loc main_arg9)
    ap := m ((c.tc : Thread nD τ).loc main_arg10)
    scw := m ((c.tc : Thread nD τ).loc main_arg11)
    lg := m ((c.tc : Thread nD τ).loc main_arg12)
    cg := m ((c.tc : Thread nD τ).loc main_arg13)
    wout := m ((c.tc : Thread nD τ).loc main_arg14)
    n2g := m ((c.tc : Thread nD τ).loc main_arg15)
    w1 := m ((c.tc : Thread nD τ).loc main_arg16)
    w2 := m ((c.tc : Thread nD τ).loc main_arg17)
    fg := m ((c.tc : Thread nD τ).loc main_arg18)

/-- The run: the result is the layer's, the arguments stay. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v150) = R_main_v150 (iter (inp m c) 2048))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  RefLoop.run_iter m ρ (fun c => iter (inp m c)) (fun _ => rfl) (fun _ _ => rfl)

end Cert.Proof.Ref

end
-- ==== Proof.lean ====
/-
  The certificate. The two kernel programs' frames and the reference's frame, that the ideal kernel is the kernel read over
  the extended reals, and that over the extended reals the kernel computes the reference's array.
-/
module

public import proofs.«01_k».proof.Proof.Frames
public import proofs.«01_k».proof.Proof.Gen.KernelIdeal
public import proofs.«01_k».proof.Proof.Ind
public import proofs.«01_k».proof.Proof.Ref3

@[expose] public section

noncomputable section

namespace Cert.Proof

open Idealize.ShloMosaic Idealize.SL.Sem

/-- The reference ends with its arguments as they were and every semaphore at zero: it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Ref.run m ρ)

/-- The reference's array, row by row, is the layer's output. -/
theorem reference_result (I : Inp) : Cert.ReferenceIdeal.Step.R_main_v150 (Ref.iter I 2048) = Host.result I := by
  funext i
  obtain ⟨b, t, d, rfl⟩ : ∃ (b : Fin 8) (t : Fin 2048) (d : Fin 1024), i = ix3 b t d :=
    ⟨i 0, i 1, i 2, funext fun a => by fin_cases a <;> rfl⟩
  exact Ref.result_eq I b t d

/-- Over the extended reals the kernel's result is the reference's. -/
theorem agree : Cert.algebraic_KernelIdeal_ReferenceIdeal (hKernelIdeal := Cert.KernelIdeal.Gen.facts)
    (hReferenceIdeal := Cert.ReferenceIdeal.Gen.facts) := fun m g m' g' _ hargs => by
  have hI : ∀ c, Ref.inp m' c = Host.inp m c := fun c => by
    obtain ⟨h0, h1, h2, h3, h4, h5, h6, h7, h8, h9, h10, h11, h12, h13, h14, h15, h16, h17, h18⟩ := hargs c
    simp only [Ref.inp, Host.inp, Inp.mk.injEq]
    exact ⟨h0, h1, h2, h3, h4, h5, h6, h7, h8, h9, h10, h11, h12, h13, h14, h15, h16, h17, h18⟩
  refine ⟨fun c => Host.result (Host.inp m c), ?_, ?_⟩
  · exact (θ_run _ _ _).mono (fun r h c => ⟨((h.1 c).1 19).trans (Host.final m c), h.2 c⟩)
      (θ_run_and (Run.run_main m g) (Run.unchanged m g))
  · exact (θ_run _ _ _).mono (fun r h c => ⟨(h c).1.trans ((reference_result _).trans (congrArg Host.result (hI c))), (h c).2⟩)
      (Ref.run m' g')

theorem claim : Cert.Claim := ⟨Cert.Kernel.Gen.facts, Cert.KernelIdeal.Gen.facts, Cert.ReferenceIdeal.Gen.facts,
  frame_kernel, frame_kernelIdeal, frame_reference, trivial, agree⟩

end Cert.Proof

end
